-- ==== Defs.lean ====
def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernelIdeal : Cert.KernelIdeal.Facts) (hReferenceIdeal : Cert.ReferenceIdeal.Facts) (hPre_all_finite : Cert.Pre_all_finite.Facts),
    quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ algebraic_KernelIdeal_ReferenceIdeal_pre_all_finite (hKernelIdeal := hKernelIdeal) (hReferenceIdeal := hReferenceIdeal) (hPre_all_finite := hPre_all_finite)
-- ==== Pre_all_finite.lean ====
abbrev S4x384x64x64 : Shape := ⟨4, ![4, 384, 64, 64]⟩
abbrev S512x384 : Shape := ⟨2, ![512, 384]⟩
abbrev S1024x384 : Shape := ⟨2, ![1024, 384]⟩
abbrev S384x512 : Shape := ⟨2, ![384, 512]⟩
abbrev S1x384x1x1 : Shape := ⟨4, ![1, 384, 1, 1]⟩
abbrev S1 : Shape := ⟨1, ![1]⟩
abbrev S_ : Shape := ⟨0, ![]⟩

class Facts : Prop where
  bcast_S_S4x384x64x64 : S_.BroadcastsInDim S4x384x64x64 (![] : Fin 0 → Fin S4x384x64x64.rank)
  reducesTo_S4x384x64x64_S_d0_1_2_3 : S4x384x64x64.ReducesTo [0, 1, 2, 3] S_
  h_S_ : 0 < S_.numel
  bcast_S_S512x384 : S_.BroadcastsInDim S512x384 (![] : Fin 0 → Fin S512x384.rank)
  reducesTo_S512x384_S_d0_1 : S512x384.ReducesTo [0, 1] S_
  bcast_S_S1024x384 : S_.BroadcastsInDim S1024x384 (![] : Fin 0 → Fin S1024x384.rank)
  reducesTo_S1024x384_S_d0_1 : S1024x384.ReducesTo [0, 1] S_
  bcast_S_S384x512 : S_.BroadcastsInDim S384x512 (![] : Fin 0 → Fin S384x512.rank)
  reducesTo_S384x512_S_d0_1 : S384x512.ReducesTo [0, 1] S_
  bcast_S_S1x384x1x1 : S_.BroadcastsInDim S1x384x1x1 (![] : Fin 0 → Fin S1x384x1x1.rank)
  reducesTo_S1x384x1x1_S_d0_1_2_3 : S1x384x1x1.ReducesTo [0, 1, 2, 3] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x384x1x1 .f32) (main_v50 : FVec F S1x384x1x1 .f32) : IVec S_ 1 :=
  let main_v51 : IVec S1x384x1x1 1 := cmpf .olt main_v49 main_v50
  let main_c_19 : IVec S_ 1 := constantI S_ 1 1#1
  let main_v52 : IVec S_ 1 := (fun x v => Host.reduce IntOp.andi x v reducesTo_S1x384x1x1_S_d0_1_2_3 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S1x384x1x1 .f32) (main_arg8 : FVec F S1x384x1x1 .f32) (main_arg9 : FVec F S1x384x1x1 .f32) (main_arg10 : FVec F S1x384x1x1 .f32) (main_arg11 : FVec F S1 .f32) (main_v33 : IVec S_ 1) : IVec S_ 1 :=
  let main_v34 : FVec F S1x384x1x1 .f32 := Host.absf main_arg7
  let main_cst_12 : FVec F S_ .f32 := constant S_ .f32 0x7F800000#32
  let main_v35 : FVec F S1x384x1x1 .f32 := broadcastInDim S1x384x1x1 ![] bcast_S_S1x384x1x1 main_cst_12
  let main_v36 : IVec S1x384x1x1 1 := cmpf .olt main_v34 main_v35
  let main_c_13 : IVec S_ 1 := constantI S_ 1 1#1
  let main_v37 : IVec S_ 1 := (fun x v => Host.reduce IntOp.andi x v reducesTo_S1x384x1x1_S_d0_1_2_3 h_S_) main_v36 main_c_13
  let main_v38 : IVec S_ 1 := andi main_v33 main_v37
  let main_v39 : FVec F S1x384x1x1 .f32 := Host.absf main_arg8
  let main_cst_14 : FVec F S_ .f32 := constant S_ .f32 0x7F800000#32
  let main_v40 : FVec F S1x384x1x1 .f32 := broadcastInDim S1x384x1x1 ![] bcast_S_S1x384x1x1 main_cst_14
  let main_v41 : IVec S1x384x1x1 1 := cmpf .olt main_v39 main_v40
  let main_c_15 : IVec S_ 1 := constantI S_ 1 1#1
  let main_v42 : IVec S_ 1 := (fun x v => Host.reduce IntOp.andi x v reducesTo_S1x384x1x1_S_d0_1_2_3 h_S_) main_v41 main_c_15
  let main_v43 : IVec S_ 1 := andi main_v38 main_v42
  let main_v44 : FVec F S1x384x1x1 .f32 := Host.absf main_arg9
  let main_cst_16 : FVec F S_ .f32 := constant S_ .f32 0x7F800000#32
  let main_v45 : FVec F S1x384x1x1 .f32 := broadcastInDim S1x384x1x1 ![] bcast_S_S1x384x1x1 main_cst_16
  let main_v46 : IVec S1x384x1x1 1 := cmpf .olt main_v44 main_v45
  let main_c_17 : IVec S_ 1 := constantI S_ 1 1#1
  let main_v47 : IVec S_ 1 := (fun x v => Host.reduce IntOp.andi x v reducesTo_S1x384x1x1_S_d0_1_2_3 h_S_) main_v46 main_c_17
  let main_v48 : IVec S_ 1 := andi main_v43 main_v47
  let main_v49 : FVec F S1x384x1x1 .f32 := Host.absf main_arg10
  let main_cst_18 : FVec F S_ .f32 := constant S_ .f32 0x7F800000#32
  let main_v50 : FVec F S1x384x1x1 .f32 := broadcastInDim S1x384x1x1 ![] bcast_S_S1x384x1x1 main_cst_18
  fn_part3 (F := F) main_arg11 main_v48 main_v49 main_v50

def fn_part1 {F : FTy → Type} [FloatOps F] (main_arg4 : FVec F S384x512 .f32) (main_arg5 : FVec F S1x384x1x1 .f32) (main_arg6 : FVec F S1x384x1x1 .f32) (main_arg7 : FVec F S1x384x1x1 .f32) (main_arg8 : FVec F S1x384x1x1 .f32) (main_arg9 : FVec F S1x384x1x1 .f32) (main_arg10 : FVec F S1x384x1x1 .f32) (main_arg11 : FVec F S1 .f32) (main_v13 : IVec S_ 1) (main_v16 : IVec S1024x384 1) : IVec S_ 1 :=
  let main_c_5 : IVec S_ 1 := constantI S_ 1 1#1
  let main_v17 : IVec S_ 1 := (fun x v => Host.reduce IntOp.andi x v reducesTo_S1024x384_S_d0_1 h_S_) main_v16 main_c_5
  let main_v18 : IVec S_ 1 := andi main_v13 main_v17
  let main_v19 : FVec F S384x512 .f32 := Host.absf main_arg4
  let main_cst_6 : FVec F S_ .f32 := constant S_ .f32 0x7F800000#32
  let main_v20 : FVec F S384x512 .f32 := broadcastInDim S384x512 ![] bcast_S_S384x512 main_cst_6
  let main_v21 : IVec S384x512 1 := cmpf .olt main_v19 main_v20
  let main_c_7 : IVec S_ 1 := constantI S_ 1 1#1
  let main_v22 : IVec S_ 1 := (fun x v => Host.reduce IntOp.andi x v reducesTo_S384x512_S_d0_1 h_S_) main_v21 main_c_7
  let main_v23 : IVec S_ 1 := andi main_v18 main_v22
  let main_v24 : FVec F S1x384x1x1 .f32 := Host.absf main_arg5
  let main_cst_8 : FVec F S_ .f32 := constant S_ .f32 0x7F800000#32
  let main_v25 : FVec F S1x384x1x1 .f32 := broadcastInDim S1x384x1x1 ![] bcast_S_S1x384x1x1 main_cst_8
  let main_v26 : IVec S1x384x1x1 1 := cmpf .olt main_v24 main_v25
  let main_c_9 : IVec S_ 1 := constantI S_ 1 1#1
  let main_v27 : IVec S_ 1 := (fun x v => Host.reduce IntOp.andi x v reducesTo_S1x384x1x1_S_d0_1_2_3 h_S_) main_v26 main_c_9
  let main_v28 : IVec S_ 1 := andi main_v23 main_v27
  let main_v29 : FVec F S1x384x1x1 .f32 := Host.absf main_arg6
  let main_cst_10 : FVec F S_ .f32 := constant S_ .f32 0x7F800000#32
  let main_v30 : FVec F S1x384x1x1 .f32 := broadcastInDim S1x384x1x1 ![] bcast_S_S1x384x1x1 main_cst_10
  let main_v31 : IVec S1x384x1x1 1 := cmpf .olt main_v29 main_v30
  let main_c_11 : IVec S_ 1 := constantI S_ 1 1#1
  let main_v32 : IVec S_ 1 := (fun x v => Host.reduce IntOp.andi x v reducesTo_S1x384x1x1_S_d0_1_2_3 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x384x64x64 .f32) (main_arg1 : FVec F S4x384x64x64 .f32) (main_arg2 : FVec F S512x384 .f32) (main_arg3 : FVec F S1024x384 .f32) (main_arg4 : FVec F S384x512 .f32) (main_arg5 : FVec F S1x384x1x1 .f32) (main_arg6 : FVec F S1x384x1x1 .f32) (main_arg7 : FVec F S1x384x1x1 .f32) (main_arg8 : FVec F S1x384x1x1 .f32) (main_arg9 : FVec F S1x384x1x1 .f32) (main_arg10 : FVec F S1x384x1x1 .f32) (main_arg11 : FVec F S1 .f32) : IVec S_ 1 :=
  let main_v0 : FVec F S4x384x64x64 .f32 := Host.absf main_arg0
  let main_cst : FVec F S_ .f32 := constant S_ .f32 0x7F800000#32
  let main_v1 : FVec F S4x384x64x64 .f32 := broadcastInDim S4x384x64x64 ![] bcast_S_S4x384x64x64 main_cst
  let main_v2 : IVec S4x384x64x64 1 := cmpf .olt main_v0 main_v1
  let main_c : IVec S_ 1 := constantI S_ 1 1#1
  let main_v3 : IVec S_ 1 := (fun x v => Host.reduce IntOp.andi x v reducesTo_S4x384x64x64_S_d0_1_2_3 h_S_) main_v2 main_c
  let main_v4 : FVec F S4x384x64x64 .f32 := Host.absf main_arg1
  let main_cst_0 : FVec F S_ .f32 := constant S_ .f32 0x7F800000#32
  let main_v5 : FVec F S4x384x64x64 .f32 := broadcastInDim S4x384x64x64 ![] bcast_S_S4x384x64x64 main_cst_0
  let main_v6 : IVec S4x384x64x64 1 := cmpf .olt main_v4 main_v5
  let main_c_1 : IVec S_ 1 := constantI S_ 1 1#1
  let main_v7 : IVec S_ 1 := (fun x v => Host.reduce IntOp.andi x v reducesTo_S4x384x64x64_S_d0_1_2_3 h_S_) main_v6 main_c_1
  let main_v8 : IVec S_ 1 := andi main_v3 main_v7
  let main_v9 : FVec F S512x384 .f32 := Host.absf main_arg2
  let main_cst_2 : FVec F S_ .f32 := constant S_ .f32 0x7F800000#32
  let main_v10 : FVec F S512x384 .f32 := broadcastInDim S512x384 ![] bcast_S_S512x384 main_cst_2
  let main_v11 : IVec S512x384 1 := cmpf .olt main_v9 main_v10
  let main_c_3 : IVec S_ 1 := constantI S_ 1 1#1
  let main_v12 : IVec S_ 1 := (fun x v => Host.reduce IntOp.andi x v reducesTo_S512x384_S_d0_1 h_S_) main_v11 main_c_3
  let main_v13 : IVec S_ 1 := andi main_v8 main_v12
  let main_v14 : FVec F S1024x384 .f32 := Host.absf main_arg3
  let main_cst_4 : FVec F S_ .f32 := constant S_ .f32 0x7F800000#32
  let main_v15 : FVec F S1024x384 .f32 := broadcastInDim S1024x384 ![] bcast_S_S1024x384 main_cst_4
  let main_v16 : IVec S1024x384 1 := cmpf .olt main_v14 main_v15
  fn_part1 (F := F) main_arg4 main_arg5 main_arg6 main_arg7 main_arg8 main_arg9 main_arg10 main_arg11 main_v13 main_v16
-- ==== KernelIdeal.lean ====
abbrev S4x384x64x64 : Shape := ⟨4, ![4, 384, 64, 64]⟩
abbrev S512x384 : Shape := ⟨2, ![512, 384]⟩
abbrev S1024x384 : Shape := ⟨2, ![1024, 384]⟩
abbrev S384x512 : Shape := ⟨2, ![384, 512]⟩
abbrev S1x384x1x1 : Shape := ⟨4, ![1, 384, 1, 1]⟩
abbrev S1 : Shape := ⟨1, ![1]⟩
abbrev S4x384x4096 : Shape := ⟨3, ![4, 384, 4096]⟩
abbrev S4x4096x384 : Shape := ⟨3, ![4, 4096, 384]⟩
abbrev S384x1024 : Shape := ⟨2, ![384, 1024]⟩
abbrev S1x384 : Shape := ⟨2, ![1, 384]⟩
abbrev S_ : Shape := ⟨0, ![]⟩
abbrev S4x8x4096x64 : Shape := ⟨4, ![4, 8, 4096, 64]⟩
abbrev S1x512x384 : Shape := ⟨3, ![1, 512, 384]⟩
abbrev S1x8x512x64 : Shape := ⟨4, ![1, 8, 512, 64]⟩
abbrev S512 : Shape := ⟨1, ![512]⟩
abbrev S512x1 : Shape := ⟨2, ![512, 1]⟩
abbrev S512x512 : Shape := ⟨2, ![512, 512]⟩
abbrev S512x1024 : Shape := ⟨2, ![512, 1024]⟩
abbrev S512x64 : Shape := ⟨2, ![512, 64]⟩
abbrev S1x1x512x64 : Shape := ⟨4, ![1, 1, 512, 64]⟩
abbrev S1x1x4096x64 : Shape := ⟨4, ![1, 1, 4096, 64]⟩
abbrev S16x64x64 : Shape := ⟨3, ![16, 64, 64]⟩
abbrev S4096x64 : Shape := ⟨2, ![4096, 64]⟩
abbrev S4096 : Shape := ⟨1, ![4096]⟩
abbrev S4096x1 : Shape := ⟨2, ![4096, 1]⟩
abbrev S64x64x64 : Shape := ⟨3, ![64, 64, 64]⟩
abbrev S64x64 : Shape := ⟨2, ![64, 64]⟩
abbrev S64 : Shape := ⟨1, ![64]⟩
abbrev S1x64 : Shape := ⟨2, ![1, 64]⟩
abbrev S64x1 : Shape := ⟨2, ![64, 1]⟩
abbrev S1x1x64 : Shape := ⟨3, ![1, 1, 64]⟩
abbrev S1x1x1 : Shape := ⟨3, ![1, 1, 1]⟩
abbrev S1x64x1 : Shape := ⟨3, ![1, 64, 1]⟩
abbrev S1x1x64x64 : Shape := ⟨4, ![1, 1, 64, 64]⟩
abbrev S1x64x64 : Shape := ⟨3, ![1, 64, 64]⟩
abbrev S16x1x64 : Shape := ⟨3, ![16, 1, 64]⟩
abbrev S16x16x64 : Shape := ⟨3, ![16, 16, 64]⟩
abbrev S256x64 : Shape := ⟨2, ![256, 64]⟩
abbrev S256 : Shape := ⟨1, ![256]⟩
abbrev S256x1 : Shape := ⟨2, ![256, 1]⟩
abbrev S4096x256 : Shape := ⟨2, ![4096, 256]⟩

abbrev nBuf : Space → Nat
  | .hbm => 38
  | .vmem => 34
  | .smem => 0
  | _ => 0

abbrev bufTy : (tb : Table) → Fin (tcTables nBuf tb) → BufTy
  | .hbm, ⟨0, _⟩ => ⟨S4x384x64x64, .f32⟩
  | .hbm, ⟨1, _⟩ => ⟨S4x384x64x64, .f32⟩
  | .hbm, ⟨2, _⟩ => ⟨S512x384, .f32⟩
  | .hbm, ⟨3, _⟩ => ⟨S1024x384, .f32⟩
  | .hbm, ⟨4, _⟩ => ⟨S384x512, .f32⟩
  | .hbm, ⟨5, _⟩ => ⟨S1x384x1x1, .f32⟩
  | .hbm, ⟨6, _⟩ => ⟨S1x384x1x1, .f32⟩
  | .hbm, ⟨7, _⟩ => ⟨S1x384x1x1, .f32⟩
  | .hbm, ⟨8, _⟩ => ⟨S1x384x1x1, .f32⟩
  | .hbm, ⟨9, _⟩ => ⟨S1x384x1x1, .f32⟩
  | .hbm, ⟨10, _⟩ => ⟨S1x384x1x1, .f32⟩
  | .hbm, ⟨11, _⟩ => ⟨S1, .f32⟩
  | .hbm, ⟨12, _⟩ => ⟨S4x384x4096, .f32⟩
  | .hbm, ⟨13, _⟩ => ⟨S4x4096x384, .f32⟩
  | .hbm, ⟨14, _⟩ => ⟨S4x384x4096, .f32⟩
  | .hbm, ⟨15, _⟩ => ⟨S4x4096x384, .f32⟩
  | .hbm, ⟨16, _⟩ => ⟨S384x512, .f32⟩
  | .hbm, ⟨17, _⟩ => ⟨S384x1024, .f32⟩
  | .hbm, ⟨18, _⟩ => ⟨S512x384, .f32⟩
  | .hbm, ⟨19, _⟩ => ⟨S1x384, .f32⟩
  | .hbm, ⟨20, _⟩ => ⟨S1x384, .f32⟩
  | .hbm, ⟨21, _⟩ => ⟨S1x384, .f32⟩
  | .hbm, ⟨22, _⟩ => ⟨S1x384, .f32⟩
  | .hbm, ⟨23, _⟩ => ⟨S_, .f32⟩
  | .hbm, ⟨24, _⟩ => ⟨S1x384x1x1, .f32⟩
  | .hbm, ⟨25, _⟩ => ⟨S1x384x1x1, .f32⟩
  | .hbm, ⟨26, _⟩ => ⟨S1x384, .f32⟩
  | .hbm, ⟨27, _⟩ => ⟨S_, .f32⟩
  | .hbm, ⟨28, _⟩ => ⟨S1x384x1x1, .f32⟩
  | .hbm, ⟨29, _⟩ => ⟨S1x384x1x1, .f32⟩
  | .hbm, ⟨30, _⟩ => ⟨S1x384, .f32⟩
  | .hbm, ⟨31, _⟩ => ⟨S4x8x4096x64, .f32⟩
  | .hbm, ⟨32, _⟩ => ⟨S4x8x4096x64, .f32⟩
  | .hbm, ⟨33, _⟩ => ⟨S4x8x4096x64, .bf16⟩
  | .hbm, ⟨34, _⟩ => ⟨S4x8x4096x64, .bf16⟩
  | .hbm, ⟨35, _⟩ => ⟨S4x4096x384, .f32⟩
  | .hbm, ⟨36, _⟩ => ⟨S4x384x4096, .f32⟩
  | .hbm, ⟨37, _⟩ => ⟨S4x384x64x64, .f32⟩
  | .local _ .vmem, ⟨0, _⟩ => ⟨S1x512x384, .f32⟩
  | .local _ .vmem, ⟨1, _⟩ => ⟨S1x512x384, .f32⟩
  | .local _ .vmem, ⟨2, _⟩ => ⟨S1x512x384, .f32⟩
  | .local _ .vmem, ⟨3, _⟩ => ⟨S1x512x384, .f32⟩
  | .local _ .vmem, ⟨4, _⟩ => ⟨S384x512, .f32⟩
  | .local _ .vmem, ⟨5, _⟩ => ⟨S384x1024, .f32⟩
  | .local _ .vmem, ⟨6, _⟩ => ⟨S1x384, .f32⟩
  | .local _ .vmem, ⟨7, _⟩ => ⟨S1x384, .f32⟩
  | .local _ .vmem, ⟨8, _⟩ => ⟨S1x384, .f32⟩
  | .local _ .vmem, ⟨9, _⟩ => ⟨S1x384, .f32⟩
  | .local _ .vmem, ⟨10, _⟩ => ⟨S1x8x512x64, .f32⟩
  | .local _ .vmem, ⟨11, _⟩ => ⟨S1x8x512x64, .f32⟩
  | .local _ .vmem, ⟨12, _⟩ => ⟨S1x8x512x64, .f32⟩
  | .local _ .vmem, ⟨13, _⟩ => ⟨S1x8x512x64, .f32⟩
  | .local _ .vmem, ⟨14, _⟩ => ⟨S1x8x512x64, .bf16⟩
  | .local _ .vmem, ⟨15, _⟩ => ⟨S1x8x512x64, .bf16⟩
  | .local _ .vmem, ⟨16, _⟩ => ⟨S1x1x4096x64, .f32⟩
  | .local _ .vmem, ⟨17, _⟩ => ⟨S1x1x4096x64, .f32⟩
  | .local _ .vmem, ⟨18, _⟩ => ⟨S1x1x4096x64, .f32⟩
  | .local _ .vmem, ⟨19, _⟩ => ⟨S1x1x4096x64, .f32⟩
  | .local _ .vmem, ⟨20, _⟩ => ⟨S1x1x4096x64, .bf16⟩
  | .local _ .vmem, ⟨21, _⟩ => ⟨S1x1x4096x64, .bf16⟩
  | .local _ .vmem, ⟨22, _⟩ => ⟨S1x1x4096x64, .bf16⟩
  | .local _ .vmem, ⟨23, _⟩ => ⟨S1x1x4096x64, .bf16⟩
  | .local _ .vmem, ⟨24, _⟩ => ⟨S16x64x64, .f32⟩
  | .local _ .vmem, ⟨25, _⟩ => ⟨S1x8x512x64, .bf16⟩
  | .local _ .vmem, ⟨26, _⟩ => ⟨S1x8x512x64, .bf16⟩
  | .local _ .vmem, ⟨27, _⟩ => ⟨S512x384, .f32⟩
  | .local _ .vmem, ⟨28, _⟩ => ⟨S1x384, .f32⟩
  | .local _ .vmem, ⟨29, _⟩ => ⟨S1x384, .f32⟩
  | .local _ .vmem, ⟨30, _⟩ => ⟨S1x512x384, .f32⟩
  | .local _ .vmem, ⟨31, _⟩ => ⟨S1x512x384, .f32⟩
  | .local _ .vmem, ⟨32, _⟩ => ⟨S1x512x384, .f32⟩
  | .local _ .vmem, ⟨33, _⟩ => ⟨S1x512x384, .f32⟩
  | _, _ => ⟨S4x384x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_scratch0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem4_1 : DmaSem sig := 30
abbrev cc2_sem5_0 : DmaSem sig := 31
abbrev cc2_sem5_1 : DmaSem sig := 32

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S384x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![4, 8], ![false, false]⟩

def k1_off1 (v50 : BitVec 32) : Fin 4 → Nat :=
  let c0_142 : Index := 0#32
  let c0_143 : Index := 0#32
  let c64_i32_141 : BitVec 32 := 64#32
  let v544 : BitVec 32 := Scalar.muli v50 c64_i32_141
  let v545 : Index := Scalar.indexCast v544
  let c0_144 : Index := 0#32
  ![0, 0, v545.toNat, 0]

def k1_off2 (v66 : BitVec 32) : Fin 4 → Nat :=
  let c0_149 : Index := 0#32
  let c0_150 : Index := 0#32
  let c64_i32_148 : BitVec 32 := 64#32
  let v551 : BitVec 32 := Scalar.muli v66 c64_i32_148
  let v552 : Index := Scalar.indexCast v551
  let c0_151 : Index := 0#32
  ![0, 0, v552.toNat, 0]

def k1_off3 (v82 : BitVec 32) : Fin 4 → Nat :=
  let c0_155 : Index := 0#32
  let c0_156 : Index := 0#32
  let c64_i32_154 : BitVec 32 := 64#32
  let v558 : BitVec 32 := Scalar.muli v82 c64_i32_154
  let v559 : Index := Scalar.indexCast v558
  let c0_157 : Index := 0#32
  ![0, 0, v559.toNat, 0]

def k1_off4 (v98 : BitVec 32) : Fin 4 → Nat :=
  let c0_161 : Index := 0#32
  let c0_162 : Index := 0#32
  let c64_i32_160 : BitVec 32 := 64#32
  let v565 : BitVec 32 := Scalar.muli v98 c64_i32_160
  let v566 : Index := Scalar.indexCast v565
  let c0_163 : Index := 0#32
  ![0, 0, v566.toNat, 0]

def k1_off5 (v114 : BitVec 32) : Fin 4 → Nat :=
  let c0_167 : Index := 0#32
  let c0_168 : Index := 0#32
  let c64_i32_166 : BitVec 32 := 64#32
  let v572 : BitVec 32 := Scalar.muli v114 c64_i32_166
  let v573 : Index := Scalar.indexCast v572
  let c0_169 : Index := 0#32
  ![0, 0, v573.toNat, 0]

def k1_off6 (v130 : BitVec 32) : Fin 4 → Nat :=
  let c0_173 : Index := 0#32
  let c0_174 : Index := 0#32
  let c64_i32_172 : BitVec 32 := 64#32
  let v579 : BitVec 32 := Scalar.muli v130 c64_i32_172
  let v580 : Index := Scalar.indexCast v579
  let c0_175 : Index := 0#32
  ![0, 0, v580.toNat, 0]

def k1_off7 (v146 : BitVec 32) : Fin 4 → Nat :=
  let c0_179 : Index := 0#32
  let c0_180 : Index := 0#32
  let c64_i32_178 : BitVec 32 := 64#32
  let v586 : BitVec 32 := Scalar.muli v146 c64_i32_178
  let v587 : Index := Scalar.indexCast v586
  let c0_181 : Index := 0#32
  ![0, 0, v587.toNat, 0]

def k1_off8 (v162 : BitVec 32) : Fin 4 → Nat :=
  let c0_185 : Index := 0#32
  let c0_186 : Index := 0#32
  let c64_i32_184 : BitVec 32 := 64#32
  let v593 : BitVec 32 := Scalar.muli v162 c64_i32_184
  let v594 : Index := Scalar.indexCast v593
  let c0_187 : Index := 0#32
  ![0, 0, v594.toNat, 0]

def k1_off9 (v178 : BitVec 32) : Fin 4 → Nat :=
  let c0_191 : Index := 0#32
  let c0_192 : Index := 0#32
  let c64_i32_190 : BitVec 32 := 64#32
  let v600 : BitVec 32 := Scalar.muli v178 c64_i32_190
  let v601 : Index := Scalar.indexCast v600
  let c0_193 : Index := 0#32
  ![0, 0, v601.toNat, 0]

def k1_off10 (v194 : BitVec 32) : Fin 4 → Nat :=
  let c0_197 : Index := 0#32
  let c0_198 : Index := 0#32
  let c64_i32_196 : BitVec 32 := 64#32
  let v607 : BitVec 32 := Scalar.muli v194 c64_i32_196
  let v608 : Index := Scalar.indexCast v607
  let c0_199 : Index := 0#32
  ![0, 0, v608.toNat, 0]

def k1_off11 (v210 : BitVec 32) : Fin 4 → Nat :=
  let c0_203 : Index := 0#32
  let c0_204 : Index := 0#32
  let c64_i32_202 : BitVec 32 := 64#32
  let v614 : BitVec 32 := Scalar.muli v210 c64_i32_202
  let v615 : Index := Scalar.indexCast v614
  let c0_205 : Index := 0#32
  ![0, 0, v615.toNat, 0]

def k1_off12 (v226 : BitVec 32) : Fin 4 → Nat :=
  let c0_209 : Index := 0#32
  let c0_210 : Index := 0#32
  let c64_i32_208 : BitVec 32 := 64#32
  let v621 : BitVec 32 := Scalar.muli v226 c64_i32_208
  let v622 : Index := Scalar.indexCast v621
  let c0_211 : Index := 0#32
  ![0, 0, v622.toNat, 0]

def k1_off13 (v242 : BitVec 32) : Fin 4 → Nat :=
  let c0_215 : Index := 0#32
  let c0_216 : Index := 0#32
  let c64_i32_214 : BitVec 32 := 64#32
  let v628 : BitVec 32 := Scalar.muli v242 c64_i32_214
  let v629 : Index := Scalar.indexCast v628
  let c0_217 : Index := 0#32
  ![0, 0, v629.toNat, 0]

def k1_off14 (v258 : BitVec 32) : Fin 4 → Nat :=
  let c0_221 : Index := 0#32
  let c0_222 : Index := 0#32
  let c64_i32_220 : BitVec 32 := 64#32
  let v635 : BitVec 32 := Scalar.muli v258 c64_i32_220
  let v636 : Index := Scalar.indexCast v635
  let c0_223 : Index := 0#32
  ![0, 0, v636.toNat, 0]

def k1_off15 (v274 : BitVec 32) : Fin 4 → Nat :=
  let c0_227 : Index := 0#32
  let c0_228 : Index := 0#32
  let c64_i32_226 : BitVec 32 := 64#32
  let v642 : BitVec 32 := Scalar.muli v274 c64_i32_226
  let v643 : Index := Scalar.indexCast v642
  let c0_229 : Index := 0#32
  ![0, 0, v643.toNat, 0]

def k1_off16 (v290 : BitVec 32) : Fin 4 → Nat :=
  let c0_233 : Index := 0#32
  let c0_234 : Index := 0#32
  let c64_i32_232 : BitVec 32 := 64#32
  let v649 : BitVec 32 := Scalar.muli v290 c64_i32_232
  let v650 : Index := Scalar.indexCast v649
  let c0_235 : Index := 0#32
  ![0, 0, v650.toNat, 0]

def k1_off17 (v303 : BitVec 32) : Fin 3 → Nat :=
  let c0_238 : Index := 0#32
  let v656 : Index := Scalar.indexCast v303
  let c0_239 : Index := 0#32
  ![0, v656.toNat, 0]

def k1_off18 (v319 : BitVec 32) : Fin 3 → Nat :=
  let c0_240 : Index := 0#32
  let v658 : Index := Scalar.indexCast v319
  let c0_241 : Index := 0#32
  ![0, v658.toNat, 0]

def k1_off19 (v335 : BitVec 32) : Fin 3 → Nat :=
  let c0_242 : Index := 0#32
  let v660 : Index := Scalar.indexCast v335
  let c0_243 : Index := 0#32
  ![0, v660.toNat, 0]

def k1_off20 (v351 : BitVec 32) : Fin 3 → Nat :=
  let c0_244 : Index := 0#32
  let v662 : Index := Scalar.indexCast v351
  let c0_245 : Index := 0#32
  ![0, v662.toNat, 0]

def k1_off21 (v367 : BitVec 32) : Fin 3 → Nat :=
  let c0_246 : Index := 0#32
  let v664 : Index := Scalar.indexCast v367
  let c0_247 : Index := 0#32
  ![0, v664.toNat, 0]

def k1_off22 (v383 : BitVec 32) : Fin 3 → Nat :=
  let c0_248 : Index := 0#32
  let v666 : Index := Scalar.indexCast v383
  let c0_249 : Index := 0#32
  ![0, v666.toNat, 0]

def k1_off23 (v399 : BitVec 32) : Fin 3 → Nat :=
  let c0_250 : Index := 0#32
  let v668 : Index := Scalar.indexCast v399
  let c0_251 : Index := 0#32
  ![0, v668.toNat, 0]

def k1_off24 (v415 : BitVec 32) : Fin 3 → Nat :=
  let c0_252 : Index := 0#32
  let v670 : Index := Scalar.indexCast v415
  let c0_253 : Index := 0#32
  ![0, v670.toNat, 0]

def k1_off25 (v431 : BitVec 32) : Fin 3 → Nat :=
  let c0_254 : Index := 0#32
  let v672 : Index := Scalar.indexCast v431
  let c0_255 : Index := 0#32
  ![0, v672.toNat, 0]

def k1_off26 (v447 : BitVec 32) : Fin 3 → Nat :=
  let c0_256 : Index := 0#32
  let v674 : Index := Scalar.indexCast v447
  let c0_257 : Index := 0#32
  ![0, v674.toNat, 0]

def k1_off27 (v463 : BitVec 32) : Fin 3 → Nat :=
  let c0_258 : Index := 0#32
  let v676 : Index := Scalar.indexCast v463
  let c0_259 : Index := 0#32
  ![0, v676.toNat, 0]

def k1_off28 (v479 : BitVec 32) : Fin 3 → Nat :=
  let c0_260 : Index := 0#32
  let v678 : Index := Scalar.indexCast v479
  let c0_261 : Index := 0#32
  ![0, v678.toNat, 0]

def k1_off29 (v495 : BitVec 32) : Fin 3 → Nat :=
  let c0_262 : Index := 0#32
  let v680 : Index := Scalar.indexCast v495
  let c0_263 : Index := 0#32
  ![0, v680.toNat, 0]

def k1_off30 (v511 : BitVec 32) : Fin 3 → Nat :=
  let c0_264 : Index := 0#32
  let v682 : Index := Scalar.indexCast v511
  let c0_265 : Index := 0#32
  ![0, v682.toNat, 0]

def k1_off31 (v527 : BitVec 32) : Fin 3 → Nat :=
  let c0_266 : Index := 0#32
  let v684 : Index := Scalar.indexCast v527
  let c0_267 : Index := 0#32
  ![0, v684.toNat, 0]

def k1_off32 (v543 : BitVec 32) : Fin 3 → Nat :=
  let c0_268 : Index := 0#32
  let v686 : Index := Scalar.indexCast v543
  let c0_269 : Index := 0#32
  ![0, v686.toNat, 0]

def k1_chk32 (v543 : BitVec 32) : Prop :=
  (∀ a, (k1_off32 v543) a + S16x1x64.size a ≤ S16x64x64.size a)
theorem k1_off32_inb : ∀ (v543 : BitVec 32) (k1_hw32 : k1_chk32 v543), ∀ a, (k1_off32 v543) a + S16x1x64.size a ≤ S16x64x64.size a := fun v543 k1_hw32 => k1_hw32

def k1_off33 (v50 : BitVec 32) : Fin 4 → Nat :=
  let c0_273 : Index := 0#32
  let c0_274 : Index := 0#32
  let c64_i32_272 : BitVec 32 := 64#32
  let v698 : BitVec 32 := Scalar.muli v50 c64_i32_272
  let v699 : Index := Scalar.indexCast v698
  let c0_275 : Index := 0#32
  ![0, 0, v699.toNat, 0]

def k1_chk1 (v50 : BitVec 32) : Prop :=
  (∀ a, (k1_off1 v50) a + S1x1x64x64.size a ≤ S1x1x4096x64.size a) ∧
  (∀ a, (k1_off33 v50) a + S1x1x64x64.size a ≤ S1x1x4096x64.size a)
theorem k1_off1_inb : ∀ (v50 : BitVec 32) (k1_hw1 : k1_chk1 v50), ∀ a, (k1_off1 v50) a + S1x1x64x64.size a ≤ S1x1x4096x64.size a := fun v50 k1_hw1 => k1_hw1.1
theorem k1_off33_inb : ∀ (v50 : BitVec 32) (k1_hw1 : k1_chk1 v50), ∀ a, (k1_off33 v50) a + S1x1x64x64.size a ≤ S1x1x4096x64.size a := fun v50 k1_hw1 => k1_hw1.2

def k1_off34 (v66 : BitVec 32) : Fin 4 → Nat :=
  let c0_280 : Index := 0#32
  let c0_281 : Index := 0#32
  let c64_i32_279 : BitVec 32 := 64#32
  let v706 : BitVec 32 := Scalar.muli v66 c64_i32_279
  let v707 : Index := Scalar.indexCast v706
  let c0_282 : Index := 0#32
  ![0, 0, v707.toNat, 0]

def k1_chk2 (v66 : BitVec 32) : Prop :=
  (∀ a, (k1_off2 v66) a + S1x1x64x64.size a ≤ S1x1x4096x64.size a) ∧
  (∀ a, (k1_off34 v66) a + S1x1x64x64.size a ≤ S1x1x4096x64.size a)
theorem k1_off2_inb : ∀ (v66 : BitVec 32) (k1_hw2 : k1_chk2 v66), ∀ a, (k1_off2 v66) a + S1x1x64x64.size a ≤ S1x1x4096x64.size a := fun v66 k1_hw2 => k1_hw2.1
theorem k1_off34_inb : ∀ (v66 : BitVec 32) (k1_hw2 : k1_chk2 v66), ∀ a, (k1_off34 v66) a + S1x1x64x64.size a ≤ S1x1x4096x64.size a := fun v66 k1_hw2 => k1_hw2.2

def k1_off35 (v82 : BitVec 32) : Fin 4 → Nat :=
  let c0_287 : Index := 0#32
  let c0_288 : Index := 0#32
  let c64_i32_286 : BitVec 32 := 64#32
  let v714 : BitVec 32 := Scalar.muli v82 c64_i32_286
  let v715 : Index := Scalar.indexCast v714
  let c0_289 : Index := 0#32
  ![0, 0, v715.toNat, 0]

def k1_chk3 (v82 : BitVec 32) : Prop :=
  (∀ a, (k1_off3 v82) a + S1x1x64x64.size a ≤ S1x1x4096x64.size a) ∧
  (∀ a, (k1_off35 v82) a + S1x1x64x64.size a ≤ S1x1x4096x64.size a)
theorem k1_off3_inb : ∀ (v82 : BitVec 32) (k1_hw3 : k1_chk3 v82), ∀ a, (k1_off3 v82) a + S1x1x64x64.size a ≤ S1x1x4096x64.size a := fun v82 k1_hw3 => k1_hw3.1
theorem k1_off35_inb : ∀ (v82 : BitVec 32) (k1_hw3 : k1_chk3 v82), ∀ a, (k1_off35 v82) a + S1x1x64x64.size a ≤ S1x1x4096x64.size a := fun v82 k1_hw3 => k1_hw3.2

def k1_off36 (v98 : BitVec 32) : Fin 4 → Nat :=
  let c0_294 : Index := 0#32
  let c0_295 : Index := 0#32
  let c64_i32_293 : BitVec 32 := 64#32
  let v722 : BitVec 32 := Scalar.muli v98 c64_i32_293
  let v723 : Index := Scalar.indexCast v722
  let c0_296 : Index := 0#32
  ![0, 0, v723.toNat, 0]

def k1_chk4 (v98 : BitVec 32) : Prop :=
  (∀ a, (k1_off4 v98) a + S1x1x64x64.size a ≤ S1x1x4096x64.size a) ∧
  (∀ a, (k1_off36 v98) a + S1x1x64x64.size a ≤ S1x1x4096x64.size a)
theorem k1_off4_inb : ∀ (v98 : BitVec 32) (k1_hw4 : k1_chk4 v98), ∀ a, (k1_off4 v98) a + S1x1x64x64.size a ≤ S1x1x4096x64.size a := fun v98 k1_hw4 => k1_hw4.1
theorem k1_off36_inb : ∀ (v98 : BitVec 32) (k1_hw4 : k1_chk4 v98), ∀ a, (k1_off36 v98) a + S1x1x64x64.size a ≤ S1x1x4096x64.size a := fun v98 k1_hw4 => k1_hw4.2

def k1_off37 (v114 : BitVec 32) : Fin 4 → Nat :=
  let c0_301 : Index := 0#32
  let c0_302 : Index := 0#32
  let c64_i32_300 : BitVec 32 := 64#32
  let v730 : BitVec 32 := Scalar.muli v114 c64_i32_300
  let v731 : Index := Scalar.indexCast v730
  let c0_303 : Index := 0#32
  ![0, 0, v731.toNat, 0]

def k1_chk5 (v114 : BitVec 32) : Prop :=
  (∀ a, (k1_off5 v114) a + S1x1x64x64.size a ≤ S1x1x4096x64.size a) ∧
  (∀ a, (k1_off37 v114) a + S1x1x64x64.size a ≤ S1x1x4096x64.size a)
theorem k1_off5_inb : ∀ (v114 : BitVec 32) (k1_hw5 : k1_chk5 v114), ∀ a, (k1_off5 v114) a + S1x1x64x64.size a ≤ S1x1x4096x64.size a := fun v114 k1_hw5 => k1_hw5.1
theorem k1_off37_inb : ∀ (v114 : BitVec 32) (k1_hw5 : k1_chk5 v114), ∀ a, (k1_off37 v114) a + S1x1x64x64.size a ≤ S1x1x4096x64.size a := fun v114 k1_hw5 => k1_hw5.2

def k1_off38 (v130 : BitVec 32) : Fin 4 → Nat :=
  let c0_308 : Index := 0#32
  let c0_309 : Index := 0#32
  let c64_i32_307 : BitVec 32 := 64#32
  let v738 : BitVec 32 := Scalar.muli v130 c64_i32_307
  let v739 : Index := Scalar.indexCast v738
  let c0_310 : Index := 0#32
  ![0, 0, v739.toNat, 0]

def k1_chk6 (v130 : BitVec 32) : Prop :=
  (∀ a, (k1_off6 v130) a + S1x1x64x64.size a ≤ S1x1x4096x64.size a) ∧
  (∀ a, (k1_off38 v130) a + S1x1x64x64.size a ≤ S1x1x4096x64.size a)
theorem k1_off6_inb : ∀ (v130 : BitVec 32) (k1_hw6 : k1_chk6 v130), ∀ a, (k1_off6 v130) a + S1x1x64x64.size a ≤ S1x1x4096x64.size a := fun v130 k1_hw6 => k1_hw6.1
theorem k1_off38_inb : ∀ (v130 : BitVec 32) (k1_hw6 : k1_chk6 v130), ∀ a, (k1_off38 v130) a + S1x1x64x64.size a ≤ S1x1x4096x64.size a := fun v130 k1_hw6 => k1_hw6.2

def k1_off39 (v146 : BitVec 32) : Fin 4 → Nat :=
  let c0_315 : Index := 0#32
  let c0_316 : Index := 0#32
  let c64_i32_314 : BitVec 32 := 64#32
  let v746 : BitVec 32 := Scalar.muli v146 c64_i32_314
  let v747 : Index := Scalar.indexCast v746
  let c0_317 : Index := 0#32
  ![0, 0, v747.toNat, 0]

def k1_chk7 (v146 : BitVec 32) : Prop :=
  (∀ a, (k1_off7 v146) a + S1x1x64x64.size a ≤ S1x1x4096x64.size a) ∧
  (∀ a, (k1_off39 v146) a + S1x1x64x64.size a ≤ S1x1x4096x64.size a)
theorem k1_off7_inb : ∀ (v146 : BitVec 32) (k1_hw7 : k1_chk7 v146), ∀ a, (k1_off7 v146) a + S1x1x64x64.size a ≤ S1x1x4096x64.size a := fun v146 k1_hw7 => k1_hw7.1
theorem k1_off39_inb : ∀ (v146 : BitVec 32) (k1_hw7 : k1_chk7 v146), ∀ a, (k1_off39 v146) a + S1x1x64x64.size a ≤ S1x1x4096x64.size a := fun v146 k1_hw7 => k1_hw7.2

def k1_off40 (v162 : BitVec 32) : Fin 4 → Nat :=
  let c0_322 : Index := 0#32
  let c0_323 : Index := 0#32
  let c64_i32_321 : BitVec 32 := 64#32
  let v754 : BitVec 32 := Scalar.muli v162 c64_i32_321
  let v755 : Index := Scalar.indexCast v754
  let c0_324 : Index := 0#32
  ![0, 0, v755.toNat, 0]

def k1_chk8 (v162 : BitVec 32) : Prop :=
  (∀ a, (k1_off8 v162) a + S1x1x64x64.size a ≤ S1x1x4096x64.size a) ∧
  (∀ a, (k1_off40 v162) a + S1x1x64x64.size a ≤ S1x1x4096x64.size a)
theorem k1_off8_inb : ∀ (v162 : BitVec 32) (k1_hw8 : k1_chk8 v162), ∀ a, (k1_off8 v162) a + S1x1x64x64.size a ≤ S1x1x4096x64.size a := fun v162 k1_hw8 => k1_hw8.1
theorem k1_off40_inb : ∀ (v162 : BitVec 32) (k1_hw8 : k1_chk8 v162), ∀ a, (k1_off40 v162) a + S1x1x64x64.size a ≤ S1x1x4096x64.size a := fun v162 k1_hw8 => k1_hw8.2

def k1_off41 (v178 : BitVec 32) : Fin 4 → Nat :=
  let c0_329 : Index := 0#32
  let c0_330 : Index := 0#32
  let c64_i32_328 : BitVec 32 := 64#32
  let v762 : BitVec 32 := Scalar.muli v178 c64_i32_328
  let v763 : Index := Scalar.indexCast v762
  let c0_331 : Index := 0#32
  ![0, 0, v763.toNat, 0]

def k1_chk9 (v178 : BitVec 32) : Prop :=
  (∀ a, (k1_off9 v178) a + S1x1x64x64.size a ≤ S1x1x4096x64.size a) ∧
  (∀ a, (k1_off41 v178) a + S1x1x64x64.size a ≤ S1x1x4096x64.size a)
theorem k1_off9_inb : ∀ (v178 : BitVec 32) (k1_hw9 : k1_chk9 v178), ∀ a, (k1_off9 v178) a + S1x1x64x64.size a ≤ S1x1x4096x64.size a := fun v178 k1_hw9 => k1_hw9.1
theorem k1_off41_inb : ∀ (v178 : BitVec 32) (k1_hw9 : k1_chk9 v178), ∀ a, (k1_off41 v178) a + S1x1x64x64.size a ≤ S1x1x4096x64.size a := fun v178 k1_hw9 => k1_hw9.2

def k1_off42 (v194 : BitVec 32) : Fin 4 → Nat :=
  let c0_336 : Index := 0#32
  let c0_337 : Index := 0#32
  let c64_i32_335 : BitVec 32 := 64#32
  let v770 : BitVec 32 := Scalar.muli v194 c64_i32_335
  let v771 : Index := Scalar.indexCast v770
  let c0_338 : Index := 0#32
  ![0, 0, v771.toNat, 0]

def k1_chk10 (v194 : BitVec 32) : Prop :=
  (∀ a, (k1_off10 v194) a + S1x1x64x64.size a ≤ S1x1x4096x64.size a) ∧
  (∀ a, (k1_off42 v194) a + S1x1x64x64.size a ≤ S1x1x4096x64.size a)
theorem k1_off10_inb : ∀ (v194 : BitVec 32) (k1_hw10 : k1_chk10 v194), ∀ a, (k1_off10 v194) a + S1x1x64x64.size a ≤ S1x1x4096x64.size a := fun v194 k1_hw10 => k1_hw10.1
theorem k1_off42_inb : ∀ (v194 : BitVec 32) (k1_hw10 : k1_chk10 v194), ∀ a, (k1_off42 v194) a + S1x1x64x64.size a ≤ S1x1x4096x64.size a := fun v194 k1_hw10 => k1_hw10.2

def k1_off43 (v210 : BitVec 32) : Fin 4 → Nat :=
  let c0_343 : Index := 0#32
  let c0_344 : Index := 0#32
  let c64_i32_342 : BitVec 32 := 64#32
  let v778 : BitVec 32 := Scalar.muli v210 c64_i32_342
  let v779 : Index := Scalar.indexCast v778
  let c0_345 : Index := 0#32
  ![0, 0, v779.toNat, 0]

def k1_chk11 (v210 : BitVec 32) : Prop :=
  (∀ a, (k1_off11 v210) a + S1x1x64x64.size a ≤ S1x1x4096x64.size a) ∧
  (∀ a, (k1_off43 v210) a + S1x1x64x64.size a ≤ S1x1x4096x64.size a)
theorem k1_off11_inb : ∀ (v210 : BitVec 32) (k1_hw11 : k1_chk11 v210), ∀ a, (k1_off11 v210) a + S1x1x64x64.size a ≤ S1x1x4096x64.size a := fun v210 k1_hw11 => k1_hw11.1
theorem k1_off43_inb : ∀ (v210 : BitVec 32) (k1_hw11 : k1_chk11 v210), ∀ a, (k1_off43 v210) a + S1x1x64x64.size a ≤ S1x1x4096x64.size a := fun v210 k1_hw11 => k1_hw11.2

def k1_off44 (v226 : BitVec 32) : Fin 4 → Nat :=
  let c0_350 : Index := 0#32
  let c0_351 : Index := 0#32
  let c64_i32_349 : BitVec 32 := 64#32
  let v786 : BitVec 32 := Scalar.muli v226 c64_i32_349
  let v787 : Index := Scalar.indexCast v786
  let c0_352 : Index := 0#32
  ![0, 0, v787.toNat, 0]

def k1_chk12 (v226 : BitVec 32) : Prop :=
  (∀ a, (k1_off12 v226) a + S1x1x64x64.size a ≤ S1x1x4096x64.size a) ∧
  (∀ a, (k1_off44 v226) a + S1x1x64x64.size a ≤ S1x1x4096x64.size a)
theorem k1_off12_inb : ∀ (v226 : BitVec 32) (k1_hw12 : k1_chk12 v226), ∀ a, (k1_off12 v226) a + S1x1x64x64.size a ≤ S1x1x4096x64.size a := fun v226 k1_hw12 => k1_hw12.1
theorem k1_off44_inb : ∀ (v226 : BitVec 32) (k1_hw12 : k1_chk12 v226), ∀ a, (k1_off44 v226) a + S1x1x64x64.size a ≤ S1x1x4096x64.size a := fun v226 k1_hw12 => k1_hw12.2

def k1_off45 (v242 : BitVec 32) : Fin 4 → Nat :=
  let c0_357 : Index := 0#32
  let c0_358 : Index := 0#32
  let c64_i32_356 : BitVec 32 := 64#32
  let v794 : BitVec 32 := Scalar.muli v242 c64_i32_356
  let v795 : Index := Scalar.indexCast v794
  let c0_359 : Index := 0#32
  ![0, 0, v795.toNat, 0]

def k1_chk13 (v242 : BitVec 32) : Prop :=
  (∀ a, (k1_off13 v242) a + S1x1x64x64.size a ≤ S1x1x4096x64.size a) ∧
  (∀ a, (k1_off45 v242) a + S1x1x64x64.size a ≤ S1x1x4096x64.size a)
theorem k1_off13_inb : ∀ (v242 : BitVec 32) (k1_hw13 : k1_chk13 v242), ∀ a, (k1_off13 v242) a + S1x1x64x64.size a ≤ S1x1x4096x64.size a := fun v242 k1_hw13 => k1_hw13.1
theorem k1_off45_inb : ∀ (v242 : BitVec 32) (k1_hw13 : k1_chk13 v242), ∀ a, (k1_off45 v242) a + S1x1x64x64.size a ≤ S1x1x4096x64.size a := fun v242 k1_hw13 => k1_hw13.2

def k1_off46 (v258 : BitVec 32) : Fin 4 → Nat :=
  let c0_364 : Index := 0#32
  let c0_365 : Index := 0#32
  let c64_i32_363 : BitVec 32 := 64#32
  let v802 : BitVec 32 := Scalar.muli v258 c64_i32_363
  let v803 : Index := Scalar.indexCast v802
  let c0_366 : Index := 0#32
  ![0, 0, v803.toNat, 0]

def k1_chk14 (v258 : BitVec 32) : Prop :=
  (∀ a, (k1_off14 v258) a + S1x1x64x64.size a ≤ S1x1x4096x64.size a) ∧
  (∀ a, (k1_off46 v258) a + S1x1x64x64.size a ≤ S1x1x4096x64.size a)
theorem k1_off14_inb : ∀ (v258 : BitVec 32) (k1_hw14 : k1_chk14 v258), ∀ a, (k1_off14 v258) a + S1x1x64x64.size a ≤ S1x1x4096x64.size a := fun v258 k1_hw14 => k1_hw14.1
theorem k1_off46_inb : ∀ (v258 : BitVec 32) (k1_hw14 : k1_chk14 v258), ∀ a, (k1_off46 v258) a + S1x1x64x64.size a ≤ S1x1x4096x64.size a := fun v258 k1_hw14 => k1_hw14.2

def k1_off47 (v274 : BitVec 32) : Fin 4 → Nat :=
  let c0_371 : Index := 0#32
  let c0_372 : Index := 0#32
  let c64_i32_370 : BitVec 32 := 64#32
  let v810 : BitVec 32 := Scalar.muli v274 c64_i32_370
  let v811 : Index := Scalar.indexCast v810
  let c0_373 : Index := 0#32
  ![0, 0, v811.toNat, 0]

def k1_chk15 (v274 : BitVec 32) : Prop :=
  (∀ a, (k1_off15 v274) a + S1x1x64x64.size a ≤ S1x1x4096x64.size a) ∧
  (∀ a, (k1_off47 v274) a + S1x1x64x64.size a ≤ S1x1x4096x64.size a)
theorem k1_off15_inb : ∀ (v274 : BitVec 32) (k1_hw15 : k1_chk15 v274), ∀ a, (k1_off15 v274) a + S1x1x64x64.size a ≤ S1x1x4096x64.size a := fun v274 k1_hw15 => k1_hw15.1
theorem k1_off47_inb : ∀ (v274 : BitVec 32) (k1_hw15 : k1_chk15 v274), ∀ a, (k1_off47 v274) a + S1x1x64x64.size a ≤ S1x1x4096x64.size a := fun v274 k1_hw15 => k1_hw15.2

def k1_off48 (v290 : BitVec 32) : Fin 4 → Nat :=
  let c0_378 : Index := 0#32
  let c0_379 : Index := 0#32
  let c64_i32_377 : BitVec 32 := 64#32
  let v818 : BitVec 32 := Scalar.muli v290 c64_i32_377
  let v819 : Index := Scalar.indexCast v818
  let c0_380 : Index := 0#32
  ![0, 0, v819.toNat, 0]

def k1_chk16 (v290 : BitVec 32) : Prop :=
  (∀ a, (k1_off16 v290) a + S1x1x64x64.size a ≤ S1x1x4096x64.size a) ∧
  (∀ a, (k1_off48 v290) a + S1x1x64x64.size a ≤ S1x1x4096x64.size a)
theorem k1_off16_inb : ∀ (v290 : BitVec 32) (k1_hw16 : k1_chk16 v290), ∀ a, (k1_off16 v290) a + S1x1x64x64.size a ≤ S1x1x4096x64.size a := fun v290 k1_hw16 => k1_hw16.1
theorem k1_off48_inb : ∀ (v290 : BitVec 32) (k1_hw16 : k1_chk16 v290), ∀ a, (k1_off48 v290) a + S1x1x64x64.size a ≤ S1x1x4096x64.size a := fun v290 k1_hw16 => k1_hw16.2

def k1_off49 (v303 : BitVec 32) : Fin 3 → Nat :=
  let c0_384 : Index := 0#32
  let v826 : Index := Scalar.indexCast v303
  let c0_385 : Index := 0#32
  ![0, v826.toNat, 0]

def k1_chk17 (v303 : BitVec 32) : Prop :=
  (∀ a, (k1_off17 v303) a + S16x1x64.size a ≤ S16x64x64.size a) ∧
  (∀ a, (k1_off49 v303) a + S16x1x64.size a ≤ S16x64x64.size a)
theorem k1_off17_inb : ∀ (v303 : BitVec 32) (k1_hw17 : k1_chk17 v303), ∀ a, (k1_off17 v303) a + S16x1x64.size a ≤ S16x64x64.size a := fun v303 k1_hw17 => k1_hw17.1
theorem k1_off49_inb : ∀ (v303 : BitVec 32) (k1_hw17 : k1_chk17 v303), ∀ a, (k1_off49 v303) a + S16x1x64.size a ≤ S16x64x64.size a := fun v303 k1_hw17 => k1_hw17.2

def k1_off50 (v319 : BitVec 32) : Fin 3 → Nat :=
  let c0_386 : Index := 0#32
  let v828 : Index := Scalar.indexCast v319
  let c0_387 : Index := 0#32
  ![0, v828.toNat, 0]

def k1_chk18 (v319 : BitVec 32) : Prop :=
  (∀ a, (k1_off18 v319) a + S16x1x64.size a ≤ S16x64x64.size a) ∧
  (∀ a, (k1_off50 v319) a + S16x1x64.size a ≤ S16x64x64.size a)
theorem k1_off18_inb : ∀ (v319 : BitVec 32) (k1_hw18 : k1_chk18 v319), ∀ a, (k1_off18 v319) a + S16x1x64.size a ≤ S16x64x64.size a := fun v319 k1_hw18 => k1_hw18.1
theorem k1_off50_inb : ∀ (v319 : BitVec 32) (k1_hw18 : k1_chk18 v319), ∀ a, (k1_off50 v319) a + S16x1x64.size a ≤ S16x64x64.size a := fun v319 k1_hw18 => k1_hw18.2

def k1_off51 (v335 : BitVec 32) : Fin 3 → Nat :=
  let c0_388 : Index := 0#32
  let v830 : Index := Scalar.indexCast v335
  let c0_389 : Index := 0#32
  ![0, v830.toNat, 0]

def k1_chk19 (v335 : BitVec 32) : Prop :=
  (∀ a, (k1_off19 v335) a + S16x1x64.size a ≤ S16x64x64.size a) ∧
  (∀ a, (k1_off51 v335) a + S16x1x64.size a ≤ S16x64x64.size a)
theorem k1_off19_inb : ∀ (v335 : BitVec 32) (k1_hw19 : k1_chk19 v335), ∀ a, (k1_off19 v335) a + S16x1x64.size a ≤ S16x64x64.size a := fun v335 k1_hw19 => k1_hw19.1
theorem k1_off51_inb : ∀ (v335 : BitVec 32) (k1_hw19 : k1_chk19 v335), ∀ a, (k1_off51 v335) a + S16x1x64.size a ≤ S16x64x64.size a := fun v335 k1_hw19 => k1_hw19.2

def k1_off52 (v351 : BitVec 32) : Fin 3 → Nat :=
  let c0_390 : Index := 0#32
  let v832 : Index := Scalar.indexCast v351
  let c0_391 : Index := 0#32
  ![0, v832.toNat, 0]

def k1_chk20 (v351 : BitVec 32) : Prop :=
  (∀ a, (k1_off20 v351) a + S16x1x64.size a ≤ S16x64x64.size a) ∧
  (∀ a, (k1_off52 v351) a + S16x1x64.size a ≤ S16x64x64.size a)
theorem k1_off20_inb : ∀ (v351 : BitVec 32) (k1_hw20 : k1_chk20 v351), ∀ a, (k1_off20 v351) a + S16x1x64.size a ≤ S16x64x64.size a := fun v351 k1_hw20 => k1_hw20.1
theorem k1_off52_inb : ∀ (v351 : BitVec 32) (k1_hw20 : k1_chk20 v351), ∀ a, (k1_off52 v351) a + S16x1x64.size a ≤ S16x64x64.size a := fun v351 k1_hw20 => k1_hw20.2

def k1_off53 (v367 : BitVec 32) : Fin 3 → Nat :=
  let c0_392 : Index := 0#32
  let v834 : Index := Scalar.indexCast v367
  let c0_393 : Index := 0#32
  ![0, v834.toNat, 0]

def k1_chk21 (v367 : BitVec 32) : Prop :=
  (∀ a, (k1_off21 v367) a + S16x1x64.size a ≤ S16x64x64.size a) ∧
  (∀ a, (k1_off53 v367) a + S16x1x64.size a ≤ S16x64x64.size a)
theorem k1_off21_inb : ∀ (v367 : BitVec 32) (k1_hw21 : k1_chk21 v367), ∀ a, (k1_off21 v367) a + S16x1x64.size a ≤ S16x64x64.size a := fun v367 k1_hw21 => k1_hw21.1
theorem k1_off53_inb : ∀ (v367 : BitVec 32) (k1_hw21 : k1_chk21 v367), ∀ a, (k1_off53 v367) a + S16x1x64.size a ≤ S16x64x64.size a := fun v367 k1_hw21 => k1_hw21.2

def k1_off54 (v383 : BitVec 32) : Fin 3 → Nat :=
  let c0_394 : Index := 0#32
  let v836 : Index := Scalar.indexCast v383
  let c0_395 : Index := 0#32
  ![0, v836.toNat, 0]

def k1_chk22 (v383 : BitVec 32) : Prop :=
  (∀ a, (k1_off22 v383) a + S16x1x64.size a ≤ S16x64x64.size a) ∧
  (∀ a, (k1_off54 v383) a + S16x1x64.size a ≤ S16x64x64.size a)
theorem k1_off22_inb : ∀ (v383 : BitVec 32) (k1_hw22 : k1_chk22 v383), ∀ a, (k1_off22 v383) a + S16x1x64.size a ≤ S16x64x64.size a := fun v383 k1_hw22 => k1_hw22.1
theorem k1_off54_inb : ∀ (v383 : BitVec 32) (k1_hw22 : k1_chk22 v383), ∀ a, (k1_off54 v383) a + S16x1x64.size a ≤ S16x64x64.size a := fun v383 k1_hw22 => k1_hw22.2

def k1_off55 (v399 : BitVec 32) : Fin 3 → Nat :=
  let c0_396 : Index := 0#32
  let v838 : Index := Scalar.indexCast v399
  let c0_397 : Index := 0#32
  ![0, v838.toNat, 0]

def k1_chk23 (v399 : BitVec 32) : Prop :=
  (∀ a, (k1_off23 v399) a + S16x1x64.size a ≤ S16x64x64.size a) ∧
  (∀ a, (k1_off55 v399) a + S16x1x64.size a ≤ S16x64x64.size a)
theorem k1_off23_inb : ∀ (v399 : BitVec 32) (k1_hw23 : k1_chk23 v399), ∀ a, (k1_off23 v399) a + S16x1x64.size a ≤ S16x64x64.size a := fun v399 k1_hw23 => k1_hw23.1
theorem k1_off55_inb : ∀ (v399 : BitVec 32) (k1_hw23 : k1_chk23 v399), ∀ a, (k1_off55 v399) a + S16x1x64.size a ≤ S16x64x64.size a := fun v399 k1_hw23 => k1_hw23.2

def k1_off56 (v415 : BitVec 32) : Fin 3 → Nat :=
  let c0_398 : Index := 0#32
  let v840 : Index := Scalar.indexCast v415
  let c0_399 : Index := 0#32
  ![0, v840.toNat, 0]

def k1_chk24 (v415 : BitVec 32) : Prop :=
  (∀ a, (k1_off24 v415) a + S16x1x64.size a ≤ S16x64x64.size a) ∧
  (∀ a, (k1_off56 v415) a + S16x1x64.size a ≤ S16x64x64.size a)
theorem k1_off24_inb : ∀ (v415 : BitVec 32) (k1_hw24 : k1_chk24 v415), ∀ a, (k1_off24 v415) a + S16x1x64.size a ≤ S16x64x64.size a := fun v415 k1_hw24 => k1_hw24.1
theorem k1_off56_inb : ∀ (v415 : BitVec 32) (k1_hw24 : k1_chk24 v415), ∀ a, (k1_off56 v415) a + S16x1x64.size a ≤ S16x64x64.size a := fun v415 k1_hw24 => k1_hw24.2

def k1_off57 (v431 : BitVec 32) : Fin 3 → Nat :=
  let c0_400 : Index := 0#32
  let v842 : Index := Scalar.indexCast v431
  let c0_401 : Index := 0#32
  ![0, v842.toNat, 0]

def k1_chk25 (v431 : BitVec 32) : Prop :=
  (∀ a, (k1_off25 v431) a + S16x1x64.size a ≤ S16x64x64.size a) ∧
  (∀ a, (k1_off57 v431) a + S16x1x64.size a ≤ S16x64x64.size a)
theorem k1_off25_inb : ∀ (v431 : BitVec 32) (k1_hw25 : k1_chk25 v431), ∀ a, (k1_off25 v431) a + S16x1x64.size a ≤ S16x64x64.size a := fun v431 k1_hw25 => k1_hw25.1
theorem k1_off57_inb : ∀ (v431 : BitVec 32) (k1_hw25 : k1_chk25 v431), ∀ a, (k1_off57 v431) a + S16x1x64.size a ≤ S16x64x64.size a := fun v431 k1_hw25 => k1_hw25.2

def k1_off58 (v447 : BitVec 32) : Fin 3 → Nat :=
  let c0_402 : Index := 0#32
  let v844 : Index := Scalar.indexCast v447
  let c0_403 : Index := 0#32
  ![0, v844.toNat, 0]

def k1_chk26 (v447 : BitVec 32) : Prop :=
  (∀ a, (k1_off26 v447) a + S16x1x64.size a ≤ S16x64x64.size a) ∧
  (∀ a, (k1_off58 v447) a + S16x1x64.size a ≤ S16x64x64.size a)
theorem k1_off26_inb : ∀ (v447 : BitVec 32) (k1_hw26 : k1_chk26 v447), ∀ a, (k1_off26 v447) a + S16x1x64.size a ≤ S16x64x64.size a := fun v447 k1_hw26 => k1_hw26.1
theorem k1_off58_inb : ∀ (v447 : BitVec 32) (k1_hw26 : k1_chk26 v447), ∀ a, (k1_off58 v447) a + S16x1x64.size a ≤ S16x64x64.size a := fun v447 k1_hw26 => k1_hw26.2

def k1_off59 (v463 : BitVec 32) : Fin 3 → Nat :=
  let c0_404 : Index := 0#32
  let v846 : Index := Scalar.indexCast v463
  let c0_405 : Index := 0#32
  ![0, v846.toNat, 0]

def k1_chk27 (v463 : BitVec 32) : Prop :=
  (∀ a, (k1_off27 v463) a + S16x1x64.size a ≤ S16x64x64.size a) ∧
  (∀ a, (k1_off59 v463) a + S16x1x64.size a ≤ S16x64x64.size a)
theorem k1_off27_inb : ∀ (v463 : BitVec 32) (k1_hw27 : k1_chk27 v463), ∀ a, (k1_off27 v463) a + S16x1x64.size a ≤ S16x64x64.size a := fun v463 k1_hw27 => k1_hw27.1
theorem k1_off59_inb : ∀ (v463 : BitVec 32) (k1_hw27 : k1_chk27 v463), ∀ a, (k1_off59 v463) a + S16x1x64.size a ≤ S16x64x64.size a := fun v463 k1_hw27 => k1_hw27.2

def k1_off60 (v479 : BitVec 32) : Fin 3 → Nat :=
  let c0_406 : Index := 0#32
  let v848 : Index := Scalar.indexCast v479
  let c0_407 : Index := 0#32
  ![0, v848.toNat, 0]

def k1_chk28 (v479 : BitVec 32) : Prop :=
  (∀ a, (k1_off28 v479) a + S16x1x64.size a ≤ S16x64x64.size a) ∧
  (∀ a, (k1_off60 v479) a + S16x1x64.size a ≤ S16x64x64.size a)
theorem k1_off28_inb : ∀ (v479 : BitVec 32) (k1_hw28 : k1_chk28 v479), ∀ a, (k1_off28 v479) a + S16x1x64.size a ≤ S16x64x64.size a := fun v479 k1_hw28 => k1_hw28.1
theorem k1_off60_inb : ∀ (v479 : BitVec 32) (k1_hw28 : k1_chk28 v479), ∀ a, (k1_off60 v479) a + S16x1x64.size a ≤ S16x64x64.size a := fun v479 k1_hw28 => k1_hw28.2

def k1_off61 (v495 : BitVec 32) : Fin 3 → Nat :=
  let c0_408 : Index := 0#32
  let v850 : Index := Scalar.indexCast v495
  let c0_409 : Index := 0#32
  ![0, v850.toNat, 0]

def k1_chk29 (v495 : BitVec 32) : Prop :=
  (∀ a, (k1_off29 v495) a + S16x1x64.size a ≤ S16x64x64.size a) ∧
  (∀ a, (k1_off61 v495) a + S16x1x64.size a ≤ S16x64x64.size a)
theorem k1_off29_inb : ∀ (v495 : BitVec 32) (k1_hw29 : k1_chk29 v495), ∀ a, (k1_off29 v495) a + S16x1x64.size a ≤ S16x64x64.size a := fun v495 k1_hw29 => k1_hw29.1
theorem k1_off61_inb : ∀ (v495 : BitVec 32) (k1_hw29 : k1_chk29 v495), ∀ a, (k1_off61 v495) a + S16x1x64.size a ≤ S16x64x64.size a := fun v495 k1_hw29 => k1_hw29.2

def k1_off62 (v511 : BitVec 32) : Fin 3 → Nat :=
  let c0_410 : Index := 0#32
  let v852 : Index := Scalar.indexCast v511
  let c0_411 : Index := 0#32
  ![0, v852.toNat, 0]

def k1_chk30 (v511 : BitVec 32) : Prop :=
  (∀ a, (k1_off30 v511) a + S16x1x64.size a ≤ S16x64x64.size a) ∧
  (∀ a, (k1_off62 v511) a + S16x1x64.size a ≤ S16x64x64.size a)
theorem k1_off30_inb : ∀ (v511 : BitVec 32) (k1_hw30 : k1_chk30 v511), ∀ a, (k1_off30 v511) a + S16x1x64.size a ≤ S16x64x64.size a := fun v511 k1_hw30 => k1_hw30.1
theorem k1_off62_inb : ∀ (v511 : BitVec 32) (k1_hw30 : k1_chk30 v511), ∀ a, (k1_off62 v511) a + S16x1x64.size a ≤ S16x64x64.size a := fun v511 k1_hw30 => k1_hw30.2

def k1_off63 (v527 : BitVec 32) : Fin 3 → Nat :=
  let c0_412 : Index := 0#32
  let v854 : Index := Scalar.indexCast v527
  let c0_413 : Index := 0#32
  ![0, v854.toNat, 0]

def k1_chk31 (v527 : BitVec 32) : Prop :=
  (∀ a, (k1_off31 v527) a + S16x1x64.size a ≤ S16x64x64.size a) ∧
  (∀ a, (k1_off63 v527) a + S16x1x64.size a ≤ S16x64x64.size a)
theorem k1_off31_inb : ∀ (v527 : BitVec 32) (k1_hw31 : k1_chk31 v527), ∀ a, (k1_off31 v527) a + S16x1x64.size a ≤ S16x64x64.size a := fun v527 k1_hw31 => k1_hw31.1
theorem k1_off63_inb : ∀ (v527 : BitVec 32) (k1_hw31 : k1_chk31 v527), ∀ a, (k1_off63 v527) a + S16x1x64.size a ≤ S16x64x64.size a := fun v527 k1_hw31 => k1_hw31.2

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x4096x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 8], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x8x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x512x384 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S4x384x64x64 : Shape := ⟨4, ![4, 384, 64, 64]⟩
abbrev S512x384 : Shape := ⟨2, ![512, 384]⟩
abbrev S1024x384 : Shape := ⟨2, ![1024, 384]⟩
abbrev S384x512 : Shape := ⟨2, ![384, 512]⟩
abbrev S1x384x1x1 : Shape := ⟨4, ![1, 384, 1, 1]⟩
abbrev S1 : Shape := ⟨1, ![1]⟩
abbrev S_ : Shape := ⟨0, ![]⟩
abbrev S4x64x64 : Shape := ⟨3, ![4, 64, 64]⟩
abbrev S4x1x64x64 : Shape := ⟨4, ![4, 1, 64, 64]⟩
abbrev S4x64x64x1024 : Shape := ⟨4, ![4, 64, 64, 1024]⟩
abbrev S4x1024x64x64 : Shape := ⟨4, ![4, 1024, 64, 64]⟩
abbrev S4x512x64x64 : Shape := ⟨4, ![4, 512, 64, 64]⟩
abbrev S4x64x64x512 : Shape := ⟨4, ![4, 64, 64, 512]⟩
abbrev S4x8x64x64x64 : Shape := ⟨5, ![4, 8, 64, 64, 64]⟩
abbrev S32x64x64x64 : Shape := ⟨4, ![32, 64, 64, 64]⟩
abbrev S32x64x64 : Shape := ⟨3, ![32, 64, 64]⟩
abbrev S32x1x64x64 : Shape := ⟨4, ![32, 1, 64, 64]⟩
abbrev S32x64 : Shape := ⟨2, ![32, 64]⟩
abbrev S32x16 : Shape := ⟨2, ![32, 16]⟩
abbrev S32x1x16x1 : Shape := ⟨4, ![32, 1, 16, 1]⟩
abbrev S32x16x1 : Shape := ⟨3, ![32, 16, 1]⟩
abbrev S1x1x1 : Shape := ⟨3, ![1, 1, 1]⟩
abbrev S32x64x16x64 : Shape := ⟨4, ![32, 64, 16, 64]⟩
abbrev S32 : Shape := ⟨1, ![32]⟩
abbrev S32x1 : Shape := ⟨2, ![32, 1]⟩
abbrev S32x1x1x16 : Shape := ⟨4, ![32, 1, 1, 16]⟩
abbrev S32x64x16x16 : Shape := ⟨4, ![32, 64, 16, 16]⟩
abbrev S32x64x4096 : Shape := ⟨3, ![32, 64, 4096]⟩
abbrev S32x4096x64 : Shape := ⟨3, ![32, 4096, 64]⟩
abbrev S32x64x256 : Shape := ⟨3, ![32, 64, 256]⟩
abbrev S32x256x64 : Shape := ⟨3, ![32, 256, 64]⟩
abbrev S32x4096x256 : Shape := ⟨3, ![32, 4096, 256]⟩
abbrev S32x4096 : Shape := ⟨2, ![32, 4096]⟩
abbrev S32x4096x1 : Shape := ⟨3, ![32, 4096, 1]⟩
abbrev S4x64x64x384 : Shape := ⟨4, ![4, 64, 64, 384]⟩

abbrev nBuf : Space → Nat
  | .hbm => 317
  | .vmem => 0
  | .smem => 0
  | _ => 0

abbrev hbmTy0_0 (i : Nat) : BufTy := match i % 128 with
  | 0 => ⟨S4x384x64x64, .f32⟩
  | 1 => ⟨S4x384x64x64, .f32⟩
  | 2 => ⟨S512x384, .f32⟩
  | 3 => ⟨S1024x384, .f32⟩
  | 4 => ⟨S384x512, .f32⟩
  | 5 => ⟨S1x384x1x1, .f32⟩
  | 6 => ⟨S1x384x1x1, .f32⟩
  | 7 => ⟨S1x384x1x1, .f32⟩
  | 8 => ⟨S1x384x1x1, .f32⟩
  | 9 => ⟨S1x384x1x1, .f32⟩
  | 10 => ⟨S1x384x1x1, .f32⟩
  | 11 => ⟨S1, .f32⟩
  | 12 => ⟨S_, .f32⟩
  | 13 => ⟨S4x64x64, .f32⟩
  | 14 => ⟨S4x1x64x64, .f32⟩
  | 15 => ⟨S_, .f32⟩
  | 16 => ⟨S4x1x64x64, .f32⟩
  | 17 => ⟨S4x1x64x64, .f32⟩
  | 18 => ⟨S_, .i32⟩
  | 19 => ⟨S_, .f32⟩
  | 20 => ⟨S4x64x64, .f32⟩
  | 21 => ⟨S4x1x64x64, .f32⟩
  | 22 => ⟨S_, .f32⟩
  | 23 => ⟨S4x1x64x64, .f32⟩
  | 24 => ⟨S4x1x64x64, .f32⟩
  | 25 => ⟨S4x384x64x64, .f32⟩
  | 26 => ⟨S4x384x64x64, .f32⟩
  | 27 => ⟨S4x384x64x64, .f32⟩
  | 28 => ⟨S_, .f32⟩
  | 29 => ⟨S_, .f32⟩
  | 30 => ⟨S_, .f32⟩
  | 31 => ⟨S_, .f32⟩
  | 32 => ⟨S4x64x64, .f32⟩
  | 33 => ⟨S4x1x64x64, .f32⟩
  | 34 => ⟨S4x1x64x64, .f32⟩
  | 35 => ⟨S4x1x64x64, .f32⟩
  | 36 => ⟨S_, .f32⟩
  | 37 => ⟨S_, .i1⟩
  | 38 => ⟨S_, .f32⟩
  | 39 => ⟨S_, .f32⟩
  | 40 => ⟨S4x1x64x64, .f32⟩
  | 41 => ⟨S4x1x64x64, .f32⟩
  | 42 => ⟨S4x384x64x64, .f32⟩
  | 43 => ⟨S4x384x64x64, .f32⟩
  | 44 => ⟨S_, .f32⟩
  | 45 => ⟨S4x1x64x64, .f32⟩
  | 46 => ⟨S4x1x64x64, .f32⟩
  | 47 => ⟨S4x1x64x64, .f32⟩
  | 48 => ⟨S4x384x64x64, .f32⟩
  | 49 => ⟨S4x384x64x64, .f32⟩
  | 50 => ⟨S4x384x64x64, .f32⟩
  | 51 => ⟨S4x384x64x64, .f32⟩
  | 52 => ⟨S4x384x64x64, .f32⟩
  | 53 => ⟨S4x384x64x64, .f32⟩
  | 54 => ⟨S_, .f32⟩
  | 55 => ⟨S4x64x64, .f32⟩
  | 56 => ⟨S4x1x64x64, .f32⟩
  | 57 => ⟨S_, .f32⟩
  | 58 => ⟨S4x1x64x64, .f32⟩
  | 59 => ⟨S4x1x64x64, .f32⟩
  | 60 => ⟨S_, .i32⟩
  | 61 => ⟨S_, .f32⟩
  | 62 => ⟨S4x64x64, .f32⟩
  | 63 => ⟨S4x1x64x64, .f32⟩
  | 64 => ⟨S_, .f32⟩
  | 65 => ⟨S4x1x64x64, .f32⟩
  | 66 => ⟨S4x1x64x64, .f32⟩
  | 67 => ⟨S4x384x64x64, .f32⟩
  | 68 => ⟨S4x384x64x64, .f32⟩
  | 69 => ⟨S4x384x64x64, .f32⟩
  | 70 => ⟨S_, .f32⟩
  | 71 => ⟨S_, .f32⟩
  | 72 => ⟨S_, .f32⟩
  | 73 => ⟨S_, .f32⟩
  | 74 => ⟨S4x64x64, .f32⟩
  | 75 => ⟨S4x1x64x64, .f32⟩
  | 76 => ⟨S4x1x64x64, .f32⟩
  | 77 => ⟨S4x1x64x64, .f32⟩
  | 78 => ⟨S_, .f32⟩
  | 79 => ⟨S_, .i1⟩
  | 80 => ⟨S_, .f32⟩
  | 81 => ⟨S_, .f32⟩
  | 82 => ⟨S4x1x64x64, .f32⟩
  | 83 => ⟨S4x1x64x64, .f32⟩
  | 84 => ⟨S4x384x64x64, .f32⟩
  | 85 => ⟨S4x384x64x64, .f32⟩
  | 86 => ⟨S_, .f32⟩
  | 87 => ⟨S4x1x64x64, .f32⟩
  | 88 => ⟨S4x1x64x64, .f32⟩
  | 89 => ⟨S4x1x64x64, .f32⟩
  | 90 => ⟨S4x384x64x64, .f32⟩
  | 91 => ⟨S4x384x64x64, .f32⟩
  | 92 => ⟨S4x384x64x64, .f32⟩
  | 93 => ⟨S4x384x64x64, .f32⟩
  | 94 => ⟨S4x384x64x64, .f32⟩
  | 95 => ⟨S4x384x64x64, .f32⟩
  | 96 => ⟨S4x64x64x1024, .f32⟩
  | 97 => ⟨S4x1024x64x64, .f32⟩
  | 98 => ⟨S4x512x64x64, .f32⟩
  | 99 => ⟨S4x512x64x64, .f32⟩
  | 100 => ⟨S4x64x64x512, .f32⟩
  | 101 => ⟨S4x512x64x64, .f32⟩
  | 102 => ⟨S4x8x64x64x64, .f32⟩
  | 103 => ⟨S32x64x64x64, .f32⟩
  | 104 => ⟨S4x8x64x64x64, .f32⟩
  | 105 => ⟨S32x64x64x64, .f32⟩
  | 106 => ⟨S4x8x64x64x64, .f32⟩
  | 107 => ⟨S32x64x64x64, .f32⟩
  | 108 => ⟨S32x64x64x64, .f32⟩
  | 109 => ⟨S_, .f32⟩
  | 110 => ⟨S32x64x64, .f32⟩
  | 111 => ⟨S32x1x64x64, .f32⟩
  | 112 => ⟨S32x1x64x64, .f32⟩
  | 113 => ⟨S_, .f32⟩
  | 114 => ⟨S32x1x64x64, .f32⟩
  | 115 => ⟨S32x1x64x64, .f32⟩
  | 116 => ⟨S32x64x64x64, .f32⟩
  | 117 => ⟨S32x64x64x64, .f32⟩
  | 118 => ⟨S32x64x64x64, .f32⟩
  | 119 => ⟨S_, .f32⟩
  | 120 => ⟨S32x64x64, .f32⟩
  | 121 => ⟨S32x1x64x64, .f32⟩
  | 122 => ⟨S32x1x64x64, .f32⟩
  | 123 => ⟨S_, .f32⟩
  | 124 => ⟨S32x1x64x64, .f32⟩
  | 125 => ⟨S32x1x64x64, .f32⟩
  | 126 => ⟨S32x64x64x64, .f32⟩
  | 127 => ⟨S32x64x64x64, .f32⟩
  | _ => ⟨S4x384x64x64, .f32⟩

abbrev hbmTy0_1 (i : Nat) : BufTy := match i % 128 with
  | 0 => ⟨S32x64x64x64, .f32⟩
  | 1 => ⟨S_, .f32⟩
  | 2 => ⟨S32x64, .f32⟩
  | 3 => ⟨S_, .f32⟩
  | 4 => ⟨S32x64x64, .f32⟩
  | 5 => ⟨S32x64x64, .f32⟩
  | 6 => ⟨S32x64, .f32⟩
  | 7 => ⟨S32x16, .f32⟩
  | 8 => ⟨S32x16, .i32⟩
  | 9 => ⟨S32x1x16x1, .i32⟩
  | 10 => ⟨S_, .i32⟩
  | 11 => ⟨S32x1x16x1, .i32⟩
  | 12 => ⟨S32x1x16x1, .i1⟩
  | 13 => ⟨S_, .i32⟩
  | 14 => ⟨S32x1x16x1, .i32⟩
  | 15 => ⟨S32x1x16x1, .i32⟩
  | 16 => ⟨S32x1x16x1, .i32⟩
  | 17 => ⟨S32x16x1, .i32⟩
  | 18 => ⟨S1, .i32⟩
  | 19 => ⟨S_, .i32⟩
  | 20 => ⟨S32x16x1, .i32⟩
  | 21 => ⟨S32x16x1, .i1⟩
  | 22 => ⟨S1x1x1, .i32⟩
  | 23 => ⟨S32x16x1, .i32⟩
  | 24 => ⟨S32x16x1, .i1⟩
  | 25 => ⟨S32x16x1, .i1⟩
  | 26 => ⟨S_, .i1⟩
  | 27 => ⟨S32x16, .i1⟩
  | 28 => ⟨S32x64x16x64, .f32⟩
  | 29 => ⟨S32x64x16x64, .i1⟩
  | 30 => ⟨S_, .f32⟩
  | 31 => ⟨S32x64x16x64, .f32⟩
  | 32 => ⟨S32x64x16x64, .f32⟩
  | 33 => ⟨S32x1x16x1, .i32⟩
  | 34 => ⟨S_, .i32⟩
  | 35 => ⟨S32x1x16x1, .i32⟩
  | 36 => ⟨S32x1x16x1, .i1⟩
  | 37 => ⟨S_, .i32⟩
  | 38 => ⟨S32x1x16x1, .i32⟩
  | 39 => ⟨S32x1x16x1, .i32⟩
  | 40 => ⟨S32x1x16x1, .i32⟩
  | 41 => ⟨S32x16x1, .i32⟩
  | 42 => ⟨S1, .i32⟩
  | 43 => ⟨S_, .i32⟩
  | 44 => ⟨S32x16x1, .i32⟩
  | 45 => ⟨S32x16x1, .i1⟩
  | 46 => ⟨S1x1x1, .i32⟩
  | 47 => ⟨S32x16x1, .i32⟩
  | 48 => ⟨S32x16x1, .i1⟩
  | 49 => ⟨S32x16x1, .i1⟩
  | 50 => ⟨S_, .i1⟩
  | 51 => ⟨S32x16, .i1⟩
  | 52 => ⟨S32x64x16x64, .f32⟩
  | 53 => ⟨S32x64x16x64, .i1⟩
  | 54 => ⟨S_, .f32⟩
  | 55 => ⟨S32x64x16x64, .f32⟩
  | 56 => ⟨S32x64x16x64, .f32⟩
  | 57 => ⟨S_, .f32⟩
  | 58 => ⟨S32x64x64, .f32⟩
  | 59 => ⟨S_, .f32⟩
  | 60 => ⟨S32, .f32⟩
  | 61 => ⟨S32x1, .f32⟩
  | 62 => ⟨S_, .f32⟩
  | 63 => ⟨S32x64, .f32⟩
  | 64 => ⟨S32x64, .f32⟩
  | 65 => ⟨S32x64, .f32⟩
  | 66 => ⟨S32x16, .f32⟩
  | 67 => ⟨S32x16, .i32⟩
  | 68 => ⟨S32x1x1x16, .i32⟩
  | 69 => ⟨S_, .i32⟩
  | 70 => ⟨S32x1x1x16, .i32⟩
  | 71 => ⟨S32x1x1x16, .i1⟩
  | 72 => ⟨S_, .i32⟩
  | 73 => ⟨S32x1x1x16, .i32⟩
  | 74 => ⟨S32x1x1x16, .i32⟩
  | 75 => ⟨S32x1x1x16, .i32⟩
  | 76 => ⟨S32x16x1, .i32⟩
  | 77 => ⟨S1, .i32⟩
  | 78 => ⟨S_, .i32⟩
  | 79 => ⟨S32x16x1, .i32⟩
  | 80 => ⟨S32x16x1, .i1⟩
  | 81 => ⟨S1x1x1, .i32⟩
  | 82 => ⟨S32x16x1, .i32⟩
  | 83 => ⟨S32x16x1, .i1⟩
  | 84 => ⟨S32x16x1, .i1⟩
  | 85 => ⟨S_, .i1⟩
  | 86 => ⟨S32x16, .i1⟩
  | 87 => ⟨S32x64x16x16, .f32⟩
  | 88 => ⟨S32x64x16x16, .i1⟩
  | 89 => ⟨S_, .f32⟩
  | 90 => ⟨S32x64x16x16, .f32⟩
  | 91 => ⟨S32x64x16x16, .f32⟩
  | 92 => ⟨S32x1x1x16, .i32⟩
  | 93 => ⟨S_, .i32⟩
  | 94 => ⟨S32x1x1x16, .i32⟩
  | 95 => ⟨S32x1x1x16, .i1⟩
  | 96 => ⟨S_, .i32⟩
  | 97 => ⟨S32x1x1x16, .i32⟩
  | 98 => ⟨S32x1x1x16, .i32⟩
  | 99 => ⟨S32x1x1x16, .i32⟩
  | 100 => ⟨S32x16x1, .i32⟩
  | 101 => ⟨S1, .i32⟩
  | 102 => ⟨S_, .i32⟩
  | 103 => ⟨S32x16x1, .i32⟩
  | 104 => ⟨S32x16x1, .i1⟩
  | 105 => ⟨S1x1x1, .i32⟩
  | 106 => ⟨S32x16x1, .i32⟩
  | 107 => ⟨S32x16x1, .i1⟩
  | 108 => ⟨S32x16x1, .i1⟩
  | 109 => ⟨S_, .i1⟩
  | 110 => ⟨S32x16, .i1⟩
  | 111 => ⟨S32x64x16x16, .f32⟩
  | 112 => ⟨S32x64x16x16, .i1⟩
  | 113 => ⟨S_, .f32⟩
  | 114 => ⟨S32x64x16x16, .f32⟩
  | 115 => ⟨S32x64x16x16, .f32⟩
  | 116 => ⟨S32x64x4096, .f32⟩
  | 117 => ⟨S32x4096x64, .f32⟩
  | 118 => ⟨S32x64x256, .f32⟩
  | 119 => ⟨S32x256x64, .f32⟩
  | 120 => ⟨S32x64x256, .f32⟩
  | 121 => ⟨S32x256x64, .f32⟩
  | 122 => ⟨S32x4096x256, .f32⟩
  | 123 => ⟨S_, .f32⟩
  | 124 => ⟨S32x4096, .f32⟩
  | 125 => ⟨S_, .f32⟩
  | 126 => ⟨S32x4096, .f32⟩
  | 127 => ⟨S32x4096, .f32⟩
  | _ => ⟨S4x384x64x64, .f32⟩

abbrev hbmTy0_2 (i : Nat) : BufTy := match i % 128 with
  | 0 => ⟨S32x4096x1, .f32⟩
  | 1 => ⟨S32x4096x256, .f32⟩
  | 2 => ⟨S32x4096x256, .f32⟩
  | 3 => ⟨S32x4096x256, .f32⟩
  | 4 => ⟨S_, .f32⟩
  | 5 => ⟨S32x4096, .f32⟩
  | 6 => ⟨S32x4096x1, .f32⟩
  | 7 => ⟨S32x4096x256, .f32⟩
  | 8 => ⟨S32x4096x256, .f32⟩
  | 9 => ⟨S32x4096x64, .f32⟩
  | 10 => ⟨S4x8x64x64x64, .f32⟩
  | 11 => ⟨S4x8x64x64x64, .f32⟩
  | 12 => ⟨S4x512x64x64, .f32⟩
  | 13 => ⟨S4x64x64x384, .f32⟩
  | 14 => ⟨S4x384x64x64, .f32⟩
  | 15 => ⟨S_, .f32⟩
  | 16 => ⟨S4x64x64, .f32⟩
  | 17 => ⟨S4x1x64x64, .f32⟩
  | 18 => ⟨S_, .f32⟩
  | 19 => ⟨S4x1x64x64, .f32⟩
  | 20 => ⟨S4x1x64x64, .f32⟩
  | 21 => ⟨S_, .i32⟩
  | 22 => ⟨S_, .f32⟩
  | 23 => ⟨S4x64x64, .f32⟩
  | 24 => ⟨S4x1x64x64, .f32⟩
  | 25 => ⟨S_, .f32⟩
  | 26 => ⟨S4x1x64x64, .f32⟩
  | 27 => ⟨S4x1x64x64, .f32⟩
  | 28 => ⟨S4x384x64x64, .f32⟩
  | 29 => ⟨S4x384x64x64, .f32⟩
  | 30 => ⟨S4x384x64x64, .f32⟩
  | 31 => ⟨S_, .f32⟩
  | 32 => ⟨S_, .f32⟩
  | 33 => ⟨S_, .f32⟩
  | 34 => ⟨S_, .f32⟩
  | 35 => ⟨S4x64x64, .f32⟩
  | 36 => ⟨S4x1x64x64, .f32⟩
  | 37 => ⟨S4x1x64x64, .f32⟩
  | 38 => ⟨S4x1x64x64, .f32⟩
  | 39 => ⟨S_, .f32⟩
  | 40 => ⟨S_, .i1⟩
  | 41 => ⟨S_, .f32⟩
  | 42 => ⟨S_, .f32⟩
  | 43 => ⟨S4x1x64x64, .f32⟩
  | 44 => ⟨S4x1x64x64, .f32⟩
  | 45 => ⟨S4x384x64x64, .f32⟩
  | 46 => ⟨S4x384x64x64, .f32⟩
  | 47 => ⟨S_, .f32⟩
  | 48 => ⟨S4x1x64x64, .f32⟩
  | 49 => ⟨S4x1x64x64, .f32⟩
  | 50 => ⟨S4x1x64x64, .f32⟩
  | 51 => ⟨S4x384x64x64, .f32⟩
  | 52 => ⟨S4x384x64x64, .f32⟩
  | 53 => ⟨S4x384x64x64, .f32⟩
  | 54 => ⟨S4x384x64x64, .f32⟩
  | 55 => ⟨S4x384x64x64, .f32⟩
  | 56 => ⟨S4x384x64x64, .f32⟩
  | 57 => ⟨S_, .f32⟩
  | 58 => ⟨S4x384x64x64, .f32⟩
  | 59 => ⟨S4x384x64x64, .f32⟩
  | 60 => ⟨S4x384x64x64, .f32⟩
  | _ => ⟨S4x384x64x64, .f32⟩

abbrev hbmTy (i : Nat) : BufTy := match i / 128 with
  | 0 => hbmTy0_0 i
  | 1 => hbmTy0_1 i
  | 2 => hbmTy0_2 i
  | _ => ⟨S4x384x64x64, .f32⟩

abbrev bufTy : (tb : Table) → Fin (tcTables nBuf tb) → BufTy
  | .hbm, ⟨i, _⟩ => hbmTy i
  | _, _ => ⟨S4x384x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_cst_1 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_2 : Ref sig .tc := ⟨.hbm, 54, rfl⟩
abbrev main_v16 : Ref sig .tc := ⟨.hbm, 55, rfl⟩
abbrev main_v17 : Ref sig .tc := ⟨.hbm, 56, rfl⟩
abbrev main_cst_3 : Ref sig .tc := ⟨.hbm, 57, rfl⟩
abbrev main_v18 : Ref sig .tc := ⟨.hbm, 58, rfl⟩
abbrev main_v19 : Ref sig .tc := ⟨.hbm, 59, rfl⟩
abbrev main_c_4 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_cst_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_cst_1 : Ref sig .tc := ⟨.hbm, 71, rfl⟩
abbrev main_call1_v8 : Ref sig .tc := ⟨.hbm, 72, rfl⟩
abbrev main_call1_cst_2 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_cst_3 : Ref sig .tc := ⟨.hbm, 78, rfl⟩
abbrev main_call1_v13 : Ref sig .tc := ⟨.hbm, 79, rfl⟩
abbrev main_call1_cst_4 : Ref sig .tc := ⟨.hbm, 80, rfl⟩
abbrev main_call1_call0_v0 : Ref sig .tc := ⟨.hbm, 81, rfl⟩
abbrev main_call1_call0_v1 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_cst_5 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_call2_v0 : Ref sig .tc := ⟨.hbm, 108, rfl⟩
abbrev main_call2_cst : Ref sig .tc := ⟨.hbm, 109, rfl⟩
abbrev main_call2_v1 : Ref sig .tc := ⟨.hbm, 110, rfl⟩
abbrev main_call2_v2 : Ref sig .tc := ⟨.hbm, 111, rfl⟩
abbrev main_v44 : Ref sig .tc := ⟨.hbm, 112, rfl⟩
abbrev main_cst_6 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_call3_v0 : Ref sig .tc := ⟨.hbm, 118, rfl⟩
abbrev main_call3_cst : Ref sig .tc := ⟨.hbm, 119, rfl⟩
abbrev main_call3_v1 : Ref sig .tc := ⟨.hbm, 120, rfl⟩
abbrev main_call3_v2 : Ref sig .tc := ⟨.hbm, 121, rfl⟩
abbrev main_v49 : Ref sig .tc := ⟨.hbm, 122, rfl⟩
abbrev main_cst_7 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_cst_8 : Ref sig .tc := ⟨.hbm, 129, rfl⟩
abbrev main_v55 : Ref sig .tc := ⟨.hbm, 130, rfl⟩
abbrev main_cst_9 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_values : Ref sig .tc := ⟨.hbm, 135, rfl⟩
abbrev main_indices : Ref sig .tc := ⟨.hbm, 136, rfl⟩
abbrev main_v59 : Ref sig .tc := ⟨.hbm, 137, rfl⟩
abbrev main_call4_c : Ref sig .tc := ⟨.hbm, 138, rfl⟩
abbrev main_call4_v0 : Ref sig .tc := ⟨.hbm, 139, rfl⟩
abbrev main_call4_v1 : Ref sig .tc := ⟨.hbm, 140, rfl⟩
abbrev main_call4_c_0 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_v5 : Ref sig .tc := ⟨.hbm, 145, rfl⟩
abbrev main_call4_c_1 : Ref sig .tc := ⟨.hbm, 146, rfl⟩
abbrev main_call4_c_2 : Ref sig .tc := ⟨.hbm, 147, rfl⟩
abbrev main_call4_v6 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_call4_c_3 : Ref sig .tc := ⟨.hbm, 154, rfl⟩
abbrev main_call4_v12 : Ref sig .tc := ⟨.hbm, 155, rfl⟩
abbrev main_call4_v13 : Ref sig .tc := ⟨.hbm, 156, rfl⟩
abbrev main_call4_v14 : Ref sig .tc := ⟨.hbm, 157, rfl⟩
abbrev main_call4_cst : Ref sig .tc := ⟨.hbm, 158, rfl⟩
abbrev main_call4_v15 : Ref sig .tc := ⟨.hbm, 159, rfl⟩
abbrev main_v60 : Ref sig .tc := ⟨.hbm, 160, rfl⟩
abbrev main_v61 : Ref sig .tc := ⟨.hbm, 161, rfl⟩
abbrev main_call5_c : Ref sig .tc := ⟨.hbm, 162, rfl⟩
abbrev main_call5_v0 : Ref sig .tc := ⟨.hbm, 163, rfl⟩
abbrev main_call5_v1 : Ref sig .tc := ⟨.hbm, 164, rfl⟩
abbrev main_call5_c_0 : Ref sig .tc := ⟨.hbm, 165, rfl⟩
abbrev main_call5_v2 : Ref sig .tc := ⟨.hbm, 166, rfl⟩
abbrev main_call5_v3 : Ref sig .tc := ⟨.hbm, 167, rfl⟩
abbrev main_call5_v4 : Ref sig .tc := ⟨.hbm, 168, rfl⟩
abbrev main_call5_v5 : Ref sig .tc := ⟨.hbm, 169, rfl⟩
abbrev main_call5_c_1 : Ref sig .tc := ⟨.hbm, 170, rfl⟩
abbrev main_call5_c_2 : Ref sig .tc := ⟨.hbm, 171, rfl⟩
abbrev main_call5_v6 : Ref sig .tc := ⟨.hbm, 172, rfl⟩
abbrev main_call5_v7 : Ref sig .tc := ⟨.hbm, 173, rfl⟩
abbrev main_call5_v8 : Ref sig .tc := ⟨.hbm, 174, rfl⟩
abbrev main_call5_v9 : Ref sig .tc := ⟨.hbm, 175, rfl⟩
abbrev main_call5_v10 : Ref sig .tc := ⟨.hbm, 176, rfl⟩
abbrev main_call5_v11 : Ref sig .tc := ⟨.hbm, 177, rfl⟩
abbrev main_call5_c_3 : Ref sig .tc := ⟨.hbm, 178, rfl⟩
abbrev main_call5_v12 : Ref sig .tc := ⟨.hbm, 179, rfl⟩
abbrev main_call5_v13 : Ref sig .tc := ⟨.hbm, 180, rfl⟩
abbrev main_call5_v14 : Ref sig .tc := ⟨.hbm, 181, rfl⟩
abbrev main_call5_cst : Ref sig .tc := ⟨.hbm, 182, rfl⟩
abbrev main_call5_v15 : Ref sig .tc := ⟨.hbm, 183, rfl⟩
abbrev main_v62 : Ref sig .tc := ⟨.hbm, 184, rfl⟩
abbrev main_cst_10 : Ref sig .tc := ⟨.hbm, 185, rfl⟩
abbrev main_v63 : Ref sig .tc := ⟨.hbm, 186, rfl⟩
abbrev main_cst_11 : Ref sig .tc := ⟨.hbm, 187, rfl⟩
abbrev main_v64 : Ref sig .tc := ⟨.hbm, 188, rfl⟩
abbrev main_v65 : Ref sig .tc := ⟨.hbm, 189, rfl⟩
abbrev main_cst_12 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩
abbrev main_values_13 : Ref sig .tc := ⟨.hbm, 194, rfl⟩
abbrev main_indices_14 : Ref sig .tc := ⟨.hbm, 195, rfl⟩
abbrev main_v69 : Ref sig .tc := ⟨.hbm, 196, rfl⟩
abbrev main_call6_c : Ref sig .tc := ⟨.hbm, 197, rfl⟩
abbrev main_call6_v0 : Ref sig .tc := ⟨.hbm, 198, rfl⟩
abbrev main_call6_v1 : Ref sig .tc := ⟨.hbm, 199, rfl⟩
abbrev main_call6_c_0 : Ref sig .tc := ⟨.hbm, 200, rfl⟩
abbrev main_call6_v2 : Ref sig .tc := ⟨.hbm, 201, rfl⟩
abbrev main_call6_v3 : Ref sig .tc := ⟨.hbm, 202, rfl⟩
abbrev main_call6_v4 : Ref sig .tc := ⟨.hbm, 203, rfl⟩
abbrev main_call6_v5 : Ref sig .tc := ⟨.hbm, 204, rfl⟩
abbrev main_call6_c_1 : Ref sig .tc := ⟨.hbm, 205, rfl⟩
abbrev main_call6_c_2 : Ref sig .tc := ⟨.hbm, 206, rfl⟩
abbrev main_call6_v6 : Ref sig .tc := ⟨.hbm, 207, rfl⟩
abbrev main_call6_v7 : Ref sig .tc := ⟨.hbm, 208, rfl⟩
abbrev main_call6_v8 : Ref sig .tc := ⟨.hbm, 209, rfl⟩
abbrev main_call6_v9 : Ref sig .tc := ⟨.hbm, 210, rfl⟩
abbrev main_call6_v10 : Ref sig .tc := ⟨.hbm, 211, rfl⟩
abbrev main_call6_v11 : Ref sig .tc := ⟨.hbm, 212, rfl⟩
abbrev main_call6_c_3 : Ref sig .tc := ⟨.hbm, 213, rfl⟩
abbrev main_call6_v12 : Ref sig .tc := ⟨.hbm, 214, rfl⟩
abbrev main_call6_v13 : Ref sig .tc := ⟨.hbm, 215, rfl⟩
abbrev main_call6_v14 : Ref sig .tc := ⟨.hbm, 216, rfl⟩
abbrev main_call6_cst : Ref sig .tc := ⟨.hbm, 217, rfl⟩
abbrev main_call6_v15 : Ref sig .tc := ⟨.hbm, 218, rfl⟩
abbrev main_v70 : Ref sig .tc := ⟨.hbm, 219, rfl⟩
abbrev main_v71 : Ref sig .tc := ⟨.hbm, 220, rfl⟩
abbrev main_call7_c : Ref sig .tc := ⟨.hbm, 221, rfl⟩
abbrev main_call7_v0 : Ref sig .tc := ⟨.hbm, 222, rfl⟩
abbrev main_call7_v1 : Ref sig .tc := ⟨.hbm, 223, rfl⟩
abbrev main_call7_c_0 : Ref sig .tc := ⟨.hbm, 224, rfl⟩
abbrev main_call7_v2 : Ref sig .tc := ⟨.hbm, 225, rfl⟩
abbrev main_call7_v3 : Ref sig .tc := ⟨.hbm, 226, rfl⟩
abbrev main_call7_v4 : Ref sig .tc := ⟨.hbm, 227, rfl⟩
abbrev main_call7_v5 : Ref sig .tc := ⟨.hbm, 228, rfl⟩
abbrev main_call7_c_1 : Ref sig .tc := ⟨.hbm, 229, rfl⟩
abbrev main_call7_c_2 : Ref sig .tc := ⟨.hbm, 230, rfl⟩
abbrev main_call7_v6 : Ref sig .tc := ⟨.hbm, 231, rfl⟩
abbrev main_call7_v7 : Ref sig .tc := ⟨.hbm, 232, rfl⟩
abbrev main_call7_v8 : Ref sig .tc := ⟨.hbm, 233, rfl⟩
abbrev main_call7_v9 : Ref sig .tc := ⟨.hbm, 234, rfl⟩
abbrev main_call7_v10 : Ref sig .tc := ⟨.hbm, 235, rfl⟩
abbrev main_call7_v11 : Ref sig .tc := ⟨.hbm, 236, rfl⟩
abbrev main_call7_c_3 : Ref sig .tc := ⟨.hbm, 237, rfl⟩
abbrev main_call7_v12 : Ref sig .tc := ⟨.hbm, 238, rfl⟩
abbrev main_call7_v13 : Ref sig .tc := ⟨.hbm, 239, rfl⟩
abbrev main_call7_v14 : Ref sig .tc := ⟨.hbm, 240, rfl⟩
abbrev main_call7_cst : Ref sig .tc := ⟨.hbm, 241, rfl⟩
abbrev main_call7_v15 : Ref sig .tc := ⟨.hbm, 242, rfl⟩
abbrev main_v72 : Ref sig .tc := ⟨.hbm, 243, rfl⟩
abbrev main_v73 : Ref sig .tc := ⟨.hbm, 244, rfl⟩
abbrev main_v74 : Ref sig .tc := ⟨.hbm, 245, rfl⟩
abbrev main_v75 : Ref sig .tc := ⟨.hbm, 246, rfl⟩
abbrev main_v76 : Ref sig .tc := ⟨.hbm, 247, rfl⟩
abbrev main_v77 : Ref sig .tc := ⟨.hbm, 248, rfl⟩
abbrev main_v78 : Ref sig .tc := ⟨.hbm, 249, rfl⟩
abbrev main_v79 : Ref sig .tc := ⟨.hbm, 250, rfl⟩
abbrev main_cst_15 : Ref sig .tc := ⟨.hbm, 251, rfl⟩
abbrev main_v80 : Ref sig .tc := ⟨.hbm, 252, rfl⟩
abbrev main_cst_16 : Ref sig .tc := ⟨.hbm, 253, rfl⟩
abbrev main_v81 : Ref sig .tc := ⟨.hbm, 254, rfl⟩
abbrev main_v82 : Ref sig .tc := ⟨.hbm, 255, rfl⟩
abbrev main_v83 : Ref sig .tc := ⟨.hbm, 256, rfl⟩
abbrev main_v84 : Ref sig .tc := ⟨.hbm, 257, rfl⟩
abbrev main_v85 : Ref sig .tc := ⟨.hbm, 258, rfl⟩
abbrev main_v86 : Ref sig .tc := ⟨.hbm, 259, rfl⟩
abbrev main_cst_17 : Ref sig .tc := ⟨.hbm, 260, rfl⟩
abbrev main_v87 : Ref sig .tc := ⟨.hbm, 261, rfl⟩
abbrev main_v88 : Ref sig .tc := ⟨.hbm, 262, rfl⟩
abbrev main_v89 : Ref sig .tc := ⟨.hbm, 263, rfl⟩
abbrev main_v90 : Ref sig .tc := ⟨.hbm, 264, rfl⟩
abbrev main_v91 : Ref sig .tc := ⟨.hbm, 265, rfl⟩
abbrev main_v92 : Ref sig .tc := ⟨.hbm, 266, rfl⟩
abbrev main_v93 : Ref sig .tc := ⟨.hbm, 267, rfl⟩
abbrev main_v94 : Ref sig .tc := ⟨.hbm, 268, rfl⟩
abbrev main_v95 : Ref sig .tc := ⟨.hbm, 269, rfl⟩
abbrev main_v96 : Ref sig .tc := ⟨.hbm, 270, rfl⟩
abbrev main_cst_18 : Ref sig .tc := ⟨.hbm, 271, rfl⟩
abbrev main_v97 : Ref sig .tc := ⟨.hbm, 272, rfl⟩
abbrev main_v98 : Ref sig .tc := ⟨.hbm, 273, rfl⟩
abbrev main_cst_19 : Ref sig .tc := ⟨.hbm, 274, rfl⟩
abbrev main_v99 : Ref sig .tc := ⟨.hbm, 275, rfl⟩
abbrev main_v100 : Ref sig .tc := ⟨.hbm, 276, rfl⟩
abbrev main_c_20 : Ref sig .tc := ⟨.hbm, 277, rfl⟩
abbrev main_call8_cst : Ref sig .tc := ⟨.hbm, 278, rfl⟩
abbrev main_call8_v0 : Ref sig .tc := ⟨.hbm, 279, rfl⟩
abbrev main_call8_v1 : Ref sig .tc := ⟨.hbm, 280, rfl⟩
abbrev main_call8_cst_0 : Ref sig .tc := ⟨.hbm, 281, rfl⟩
abbrev main_call8_v2 : Ref sig .tc := ⟨.hbm, 282, rfl⟩
abbrev main_call8_v3 : Ref sig .tc := ⟨.hbm, 283, rfl⟩
abbrev main_call8_v4 : Ref sig .tc := ⟨.hbm, 284, rfl⟩
abbrev main_call8_v5 : Ref sig .tc := ⟨.hbm, 285, rfl⟩
abbrev main_call8_v6 : Ref sig .tc := ⟨.hbm, 286, rfl⟩
abbrev main_call8_v7 : Ref sig .tc := ⟨.hbm, 287, rfl⟩
abbrev main_call8_cst_1 : Ref sig .tc := ⟨.hbm, 288, rfl⟩
abbrev main_call8_v8 : Ref sig .tc := ⟨.hbm, 289, rfl⟩
abbrev main_call8_cst_2 : Ref sig .tc := ⟨.hbm, 290, rfl⟩
abbrev main_call8_v9 : Ref sig .tc := ⟨.hbm, 291, rfl⟩
abbrev main_call8_v10 : Ref sig .tc := ⟨.hbm, 292, rfl⟩
abbrev main_call8_v11 : Ref sig .tc := ⟨.hbm, 293, rfl⟩
abbrev main_call8_v12 : Ref sig .tc := ⟨.hbm, 294, rfl⟩
abbrev main_call8_cst_3 : Ref sig .tc := ⟨.hbm, 295, rfl⟩
abbrev main_call8_v13 : Ref sig .tc := ⟨.hbm, 296, rfl⟩
abbrev main_call8_cst_4 : Ref sig .tc := ⟨.hbm, 297, rfl⟩
abbrev main_call8_call0_v0 : Ref sig .tc := ⟨.hbm, 298, rfl⟩
abbrev main_call8_call0_v1 : Ref sig .tc := ⟨.hbm, 299, rfl⟩
abbrev main_v101 : Ref sig .tc := ⟨.hbm, 300, rfl⟩
abbrev main_v102 : Ref sig .tc := ⟨.hbm, 301, rfl⟩
abbrev main_v103 : Ref sig .tc := ⟨.hbm, 302, rfl⟩
abbrev main_cst_21 : Ref sig .tc := ⟨.hbm, 303, rfl⟩
abbrev main_v104 : Ref sig .tc := ⟨.hbm, 304, rfl⟩
abbrev main_v105 : Ref sig .tc := ⟨.hbm, 305, rfl⟩
abbrev main_v106 : Ref sig .tc := ⟨.hbm, 306, rfl⟩
abbrev main_v107 : Ref sig .tc := ⟨.hbm, 307, rfl⟩
abbrev main_v108 : Ref sig .tc := ⟨.hbm, 308, rfl⟩
abbrev main_v109 : Ref sig .tc := ⟨.hbm, 309, rfl⟩
abbrev main_v110 : Ref sig .tc := ⟨.hbm, 310, rfl⟩
abbrev main_v111 : Ref sig .tc := ⟨.hbm, 311, rfl⟩
abbrev main_v112 : Ref sig .tc := ⟨.hbm, 312, rfl⟩
abbrev main_v113 : Ref sig .tc := ⟨.hbm, 313, rfl⟩
abbrev main_v114 : Ref sig .tc := ⟨.hbm, 314, rfl⟩
abbrev main_v115 : Ref sig .tc := ⟨.hbm, 315, rfl⟩
abbrev main_v116 : Ref sig .tc := ⟨.hbm, 316, rfl⟩

abbrev nD : Nat := 1
abbrev τ : Topo := Topo.v7x

variable {F : FTy → Type} [FloatOps F]
-- ==== Proof.Region0.lean ====
/-
  The first region (LayerNorm and the three projections): its body's triple and proof data, entered at any contents `V`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer holds when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`) (unfetched, the index has not moved), the window uncut and never idle. -/
theorem before0_0_of {c : Dev nD} (d₀ : Dat τ (Elt F) Unit ℕ (UR sig nD τ) ℕ cfg0 c) (hA : d₀.A 0 = V c (Pipeline.arrRef spec0 0))
    (hafter : ∀ t, d₀.after 0 t = iblk V c 0 t) (t : Fin cfg0.N) (d) : d₀.before 0 t d = iblk V c 0 t :=
  (d₀.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`) (unfetched, the index has not moved), the window uncut and never idle. -/
theorem before0_1_of {c : Dev nD} (d₀ : Dat τ (Elt F) Unit ℕ (UR sig nD τ) ℕ cfg0 c) (hA : d₀.A 1 = V c (Pipeline.arrRef spec0 1))
    (hafter : ∀ t, d₀.after 1 t = iblk V c 1 t) (t : Fin cfg0.N) (d) : d₀.before 1 t d = iblk V c 1 t :=
  (d₀.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`) (unfetched, the index has not moved), the window uncut and never idle. -/
theorem before0_2_of {c : Dev nD} (d₀ : Dat τ (Elt F) Unit ℕ (UR sig nD τ) ℕ cfg0 c) (hA : d₀.A 2 = V c (Pipeline.arrRef spec0 2))
    (hafter : ∀ t, d₀.after 2 t = iblk V c 2 t) (t : Fin cfg0.N) (d) : d₀.before 2 t d = iblk V c 2 t :=
  (d₀.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`) (unfetched, the index has not moved), the window uncut and never idle. -/
theorem before0_3_of {c : Dev nD} (d₀ : Dat τ (Elt F) Unit ℕ (UR sig nD τ) ℕ cfg0 c) (hA : d₀.A 3 = V c (Pipeline.arrRef spec0 3))
    (hafter : ∀ t, d₀.after 3 t = iblk V c 3 t) (t : Fin cfg0.N) (d) : d₀.before 3 t d = iblk V c 3 t :=
  (d₀.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`) (unfetched, the index has not moved), the window uncut and never idle. -/
theorem before0_4_of {c : Dev nD} (d₀ : Dat τ (Elt F) Unit ℕ (UR sig nD τ) ℕ cfg0 c) (hA : d₀.A 4 = V c (Pipeline.arrRef spec0 4))
    (hafter : ∀ t, d₀.after 4 t = iblk V c 4 t) (t : Fin cfg0.N) (d) : d₀.before 4 t d = iblk V c 4 t :=
  (d₀.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`) (unfetched, the index has not moved), the window uncut and never idle. -/
theorem before0_5_of {c : Dev nD} (d₀ : Dat τ (Elt F) Unit ℕ (UR sig nD τ) ℕ cfg0 c) (hA : d₀.A 5 = V c (Pipeline.arrRef spec0 5))
    (hafter : ∀ t, d₀.after 5 t = iblk V c 5 t) (t : Fin cfg0.N) (d) : d₀.before 5 t d = iblk V c 5 t :=
  (d₀.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`) (unfetched, the index has not moved), the window uncut and never idle. -/
theorem before0_6_of {c : Dev nD} (d₀ : Dat τ (Elt F) Unit ℕ (UR sig nD τ) ℕ cfg0 c) (hA : d₀.A 6 = V c (Pipeline.arrRef spec0 6))
    (hafter : ∀ t, d₀.after 6 t = iblk V c 6 t) (t : Fin cfg0.N) (d) : d₀.before 6 t d = iblk V c 6 t :=
  (d₀.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`) (unfetched, the index has not moved), the window uncut and never idle. -/
theorem before0_7_of {c : Dev nD} (d₀ : Dat τ (Elt F) Unit ℕ (UR sig nD τ) ℕ cfg0 c) (hA : d₀.A 7 = V c (Pipeline.arrRef spec0 7))
    (hafter : ∀ t, d₀.after 7 t = iblk V c 7 t) (t : Fin cfg0.N) (d) : d₀.before 7 t d = iblk V c 7 t :=
  (d₀.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1x512x384 := Rect.unit (s := S1x512x384) ![0, 0, 0] S1x512x384.size inb_S1x512x384_S1x512x384_0_0_0
abbrev r0_1 : Rect S1x384 := Rect.unit (s := S1x384) ![0, 0] S1x384.size inb_S1x384_S1x384_0_0
abbrev r0_2 : Rect S384x512 := Rect.unit (s := S384x512) ![0, 0] S384x512.size inb_S384x512_S384x512_0_0
abbrev r0_3 : Rect S384x1024 := Rect.unit (s := S384x1024) ![0, 0] S384x1024.size inb_S384x1024_S384x1024_0_0
abbrev r0_4 : Rect S1x8x512x64 := Rect.unit (s := S1x8x512x64) ![0, 0, 0, 0] S1x1x512x64.size inb_S1x8x512x64_S1x1x512x64_0_0_0_0
abbrev r0_5 : Rect S1x8x512x64 := Rect.unit (s := S1x8x512x64) ![0, 1, 0, 0] S1x1x512x64.size inb_S1x8x512x64_S1x1x512x64_0_1_0_0
abbrev r0_6 : Rect S1x8x512x64 := Rect.unit (s := S1x8x512x64) ![0, 2, 0, 0] S1x1x512x64.size inb_S1x8x512x64_S1x1x512x64_0_2_0_0
abbrev r0_7 : Rect S1x8x512x64 := Rect.unit (s := S1x8x512x64) ![0, 3, 0, 0] S1x1x512x64.size inb_S1x8x512x64_S1x1x512x64_0_3_0_0
abbrev r0_8 : Rect S1x8x512x64 := Rect.unit (s := S1x8x512x64) ![0, 4, 0, 0] S1x1x512x64.size inb_S1x8x512x64_S1x1x512x64_0_4_0_0
abbrev r0_9 : Rect S1x8x512x64 := Rect.unit (s := S1x8x512x64) ![0, 5, 0, 0] S1x1x512x64.size inb_S1x8x512x64_S1x1x512x64_0_5_0_0
abbrev r0_10 : Rect S1x8x512x64 := Rect.unit (s := S1x8x512x64) ![0, 6, 0, 0] S1x1x512x64.size inb_S1x8x512x64_S1x1x512x64_0_6_0_0
abbrev r0_11 : Rect S1x8x512x64 := Rect.unit (s := S1x8x512x64) ![0, 7, 0, 0] S1x1x512x64.size inb_S1x8x512x64_S1x1x512x64_0_7_0_0

/-! ## What the body leaves in each output window's buffer -/

/-! ### Values of the body that the stores' payloads, spelt out, would write more than once

    Each is a vector the body binds (often a part call's result), stated over the input windows' blocks and
    numbered on from the skeleton's payload functions (`k0_pay36` …, after `k0_pay35`), so that
    `out0_W` and the values after it name it instead of spelling it out (`unfold_out out0_W` opens a canon
    with them, `unfold_payloads` opens them with the payloads); the comment after each is the printed function's
    name for the value (a count appended where that name is bound again). -/

def k0_pay36 (x0 : Vec F S1x512x384 .f32) (x1 : Vec F S1x512x384 .f32) (x2 : Vec F S384x512 .f32) (x3 : Vec F S384x1024 .f32) (x4 : Vec F S1x384 .f32) (x5 : Vec F S1x384 .f32) (x6 : Vec F S1x384 .f32) (x7 : Vec F S1x384 .f32) : FVec F S512x384 .f32 :=
  k0_pay3 (View.ld x0 r0_0) (View.ld x4 r0_1) (View.ld x5 r0_1) -- `v27`
def k0_pay37 (x0 : Vec F S1x512x384 .f32) (x1 : Vec F S1x512x384 .f32) (x2 : Vec F S384x512 .f32) (x3 : Vec F S384x1024 .f32) (x4 : Vec F S1x384 .f32) (x5 : Vec F S1x384 .f32) (x6 : Vec F S1x384 .f32) (x7 : Vec F S1x384 .f32) : FVec F S512x512 .f32 :=
  k0_pay9 (k0_pay36 x0 x1 x2 x3 x4 x5 x6 x7) (View.ld x2 r0_2) -- `v58`
def k0_pay38 (x0 : Vec F S1x512x384 .f32) (x1 : Vec F S1x512x384 .f32) (x2 : Vec F S384x512 .f32) (x3 : Vec F S384x1024 .f32) (x4 : Vec F S1x384 .f32) (x5 : Vec F S1x384 .f32) (x6 : Vec F S1x384 .f32) (x7 : Vec F S1x384 .f32) : FVec F S512x1024 .f32 :=
  k0_pay10 (k0_pay4 (View.ld x1 r0_0)) (k0_pay5 (View.ld x6 r0_1)) (k0_pay6 (View.ld x7 r0_1)) (k0_pay7 (View.ld x1 r0_0)) (k0_pay8 (F := F)) (View.ld x3 r0_3) -- `v61`

/-- Window 8's staging buffer after the body, from the input windows' blocks: its 8 stores as pieces, LAST
    FIRST. -/
def out0_8 (x0 : Vec F S1x512x384 .f32) (x1 : Vec F S1x512x384 .f32) (x2 : Vec F S384x512 .f32) (x3 : Vec F S384x1024 .f32) (x4 : Vec F S1x384 .f32) (x5 : Vec F S1x384 .f32) (x6 : Vec F S1x384 .f32) (x7 : Vec F S1x384 .f32) : Vec F S1x8x512x64 .f32 :=
  View.canon [⟨r0_11, k0_pay18 (k0_pay37 x0 x1 x2 x3 x4 x5 x6 x7)⟩,
    ⟨r0_10, k0_pay17 (k0_pay37 x0 x1 x2 x3 x4 x5 x6 x7)⟩,
    ⟨r0_9, k0_pay16 (k0_pay37 x0 x1 x2 x3 x4 x5 x6 x7)⟩,
    ⟨r0_8, k0_pay15 (k0_pay37 x0 x1 x2 x3 x4 x5 x6 x7)⟩,
    ⟨r0_7, k0_pay14 (k0_pay37 x0 x1 x2 x3 x4 x5 x6 x7)⟩,
    ⟨r0_6, k0_pay13 (k0_pay36 x0 x1 x2 x3 x4 x5 x6 x7) (View.ld x2 r0_2)⟩,
    ⟨r0_5, k0_pay12 (k0_pay36 x0 x1 x2 x3 x4 x5 x6 x7) (View.ld x2 r0_2)⟩,
    ⟨r0_4, k0_pay11 (k0_pay36 x0 x1 x2 x3 x4 x5 x6 x7) (View.ld x2 r0_2)⟩]

/-- Its stores tile the buffer (checked by evaluation), so they cover it. -/
theorem cover0_8 (p0 : Vec F S1x1x512x64 .f32) (p1 : Vec F S1x1x512x64 .f32) (p2 : Vec F S1x1x512x64 .f32) (p3 : Vec F S1x1x512x64 .f32) (p4 : Vec F S1x1x512x64 .f32) (p5 : Vec F S1x1x512x64 .f32) (p6 : Vec F S1x1x512x64 .f32) (p7 : Vec F S1x1x512x64 .f32) (y : S1x8x512x64.Idx) :
    ∃ pc ∈ ([⟨r0_11, p0⟩, ⟨r0_10, p1⟩, ⟨r0_9, p2⟩, ⟨r0_8, p3⟩, ⟨r0_7, p4⟩, ⟨r0_6, p5⟩, ⟨r0_5, p6⟩, ⟨r0_4, p7⟩] : List (View.Piece (Elt F) S1x8x512x64 .f32)), y ∈ pc.1.set :=
  View.cover_of_tiled [⟨r0_11, p0⟩, ⟨r0_10, p1⟩, ⟨r0_9, p2⟩, ⟨r0_8, p3⟩, ⟨r0_7, p4⟩, ⟨r0_6, p5⟩, ⟨r0_5, p6⟩, ⟨r0_4, p7⟩] S1x1x512x64.size (by rfl) y

/-- Window 9's staging buffer after the body, from the input windows' blocks: its 8 stores as pieces, LAST
    FIRST. -/
def out0_9 (x0 : Vec F S1x512x384 .f32) (x1 : Vec F S1x512x384 .f32) (x2 : Vec F S384x512 .f32) (x3 : Vec F S384x1024 .f32) (x4 : Vec F S1x384 .f32) (x5 : Vec F S1x384 .f32) (x6 : Vec F S1x384 .f32) (x7 : Vec F S1x384 .f32) : Vec F S1x8x512x64 .f32 :=
  View.canon [⟨r0_11, k0_pay1 (k0_pay35 (k0_pay38 x0 x1 x2 x3 x4 x5 x6 x7))⟩,
    ⟨r0_10, k0_pay33 (k0_pay38 x0 x1 x2 x3 x4 x5 x6 x7)⟩,
    ⟨r0_9, k0_pay31 (k0_pay38 x0 x1 x2 x3 x4 x5 x6 x7)⟩,
    ⟨r0_8, k0_pay29 (k0_pay38 x0 x1 x2 x3 x4 x5 x6 x7)⟩,
    ⟨r0_7, k0_pay26 (k0_pay38 x0 x1 x2 x3 x4 x5 x6 x7)⟩,
    ⟨r0_6, k0_pay24 (k0_pay38 x0 x1 x2 x3 x4 x5 x6 x7)⟩,
    ⟨r0_5, k0_pay22 (k0_pay38 x0 x1 x2 x3 x4 x5 x6 x7)⟩,
    ⟨r0_4, k0_pay19 (k0_pay38 x0 x1 x2 x3 x4 x5 x6 x7)⟩]

/-- Its stores tile the buffer (checked by evaluation), so they cover it. -/
theorem cover0_9 (p0 : Vec F S1x1x512x64 .f32) (p1 : Vec F S1x1x512x64 .f32) (p2 : Vec F S1x1x512x64 .f32) (p3 : Vec F S1x1x512x64 .f32) (p4 : Vec F S1x1x512x64 .f32) (p5 : Vec F S1x1x512x64 .f32) (p6 : Vec F S1x1x512x64 .f32) (p7 : Vec F S1x1x512x64 .f32) (y : S1x8x512x64.Idx) :
    ∃ pc ∈ ([⟨r0_11, p0⟩, ⟨r0_10, p1⟩, ⟨r0_9, p2⟩, ⟨r0_8, p3⟩, ⟨r0_7, p4⟩, ⟨r0_6, p5⟩, ⟨r0_5, p6⟩, ⟨r0_4, p7⟩] : List (View.Piece (Elt F) S1x8x512x64 .f32)), y ∈ pc.1.set :=
  View.cover_of_tiled [⟨r0_11, p0⟩, ⟨r0_10, p1⟩, ⟨r0_9, p2⟩, ⟨r0_8, p3⟩, ⟨r0_7, p4⟩, ⟨r0_6, p5⟩, ⟨r0_5, p6⟩, ⟨r0_4, p7⟩] S1x1x512x64.size (by rfl) y

/-- Window 10's staging buffer after the body, from the input windows' blocks: its 8 stores as pieces, LAST
    FIRST. -/
def out0_10 (x0 : Vec F S1x512x384 .f32) (x1 : Vec F S1x512x384 .f32) (x2 : Vec F S384x512 .f32) (x3 : Vec F S384x1024 .f32) (x4 : Vec F S1x384 .f32) (x5 : Vec F S1x384 .f32) (x6 : Vec F S1x384 .f32) (x7 : Vec F S1x384 .f32) : Vec F S1x8x512x64 .bf16 :=
  View.canon [⟨r0_11, k0_pay2 (k0_pay38 x0 x1 x2 x3 x4 x5 x6 x7)⟩,
    ⟨r0_10, k0_pay34 (k0_pay38 x0 x1 x2 x3 x4 x5 x6 x7)⟩,
    ⟨r0_9, k0_pay32 (k0_pay38 x0 x1 x2 x3 x4 x5 x6 x7)⟩,
    ⟨r0_8, k0_pay30 (k0_pay38 x0 x1 x2 x3 x4 x5 x6 x7)⟩,
    ⟨r0_7, k0_pay28 (k0_pay27 (k0_pay38 x0 x1 x2 x3 x4 x5 x6 x7))⟩,
    ⟨r0_6, k0_pay25 (k0_pay38 x0 x1 x2 x3 x4 x5 x6 x7)⟩,
    ⟨r0_5, k0_pay23 (k0_pay38 x0 x1 x2 x3 x4 x5 x6 x7)⟩,
    ⟨r0_4, k0_pay21 (k0_pay20 (k0_pay38 x0 x1 x2 x3 x4 x5 x6 x7))⟩]

/-- Its stores tile the buffer (checked by evaluation), so they cover it. -/
theorem cover0_10 (p0 : Vec F S1x1x512x64 .bf16) (p1 : Vec F S1x1x512x64 .bf16) (p2 : Vec F S1x1x512x64 .bf16) (p3 : Vec F S1x1x512x64 .bf16) (p4 : Vec F S1x1x512x64 .bf16) (p5 : Vec F S1x1x512x64 .bf16) (p6 : Vec F S1x1x512x64 .bf16) (p7 : Vec F S1x1x512x64 .bf16) (y : S1x8x512x64.Idx) :
    ∃ pc ∈ ([⟨r0_11, p0⟩, ⟨r0_10, p1⟩, ⟨r0_9, p2⟩, ⟨r0_8, p3⟩, ⟨r0_7, p4⟩, ⟨r0_6, p5⟩, ⟨r0_5, p6⟩, ⟨r0_4, p7⟩] : List (View.Piece (Elt F) S1x8x512x64 .bf16)), y ∈ pc.1.set :=
  View.cover_of_tiled [⟨r0_11, p0⟩, ⟨r0_10, p1⟩, ⟨r0_9, p2⟩, ⟨r0_8, p3⟩, ⟨r0_7, p4⟩, ⟨r0_6, p5⟩, ⟨r0_5, p6⟩, ⟨r0_4, p7⟩] S1x1x512x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg2 : Memref sig .tc .vmem S1x512x384 .f32) (harg2 : arg2.IsWhole) (arg3 : Memref sig .tc .vmem S1x512x384 .f32) (harg3 : arg3.IsWhole) (arg4 : Memref sig .tc .vmem S384x512 .f32) (harg4 : arg4.IsWhole) (arg5 : Memref sig .tc .vmem S384x1024 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S1x384 .f32) (harg9 : arg9.IsWhole) (arg10 : Memref sig .tc .vmem S1x8x512x64 .f32) (harg10 : arg10.IsWhole) (arg11 : Memref sig .tc .vmem S1x8x512x64 .f32) (harg11 : arg11.IsWhole) (arg12 : Memref sig .tc .vmem S1x8x512x64 .bf16) (harg12 : arg12.IsWhole)
    (x0 : Vec F S1x512x384 .f32) (x1 : Vec F S1x512x384 .f32) (x2 : Vec F S384x512 .f32) (x3 : Vec F S384x1024 .f32) (x4 : Vec F S1x384 .f32) (x5 : Vec F S1x384 .f32) (x6 : Vec F S1x384 .f32) (x7 : Vec F S1x384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x0 x1 x2 x3 x4 x5 x6 x7) ∗ owns (c : Thread nD τ) arg11 fullShare (out0_9 x0 x1 x2 x3 x4 x5 x6 x7) ∗ owns (c : Thread nD τ) arg12 fullShare (out0_10 x0 x1 x2 x3 x4 x5 x6 x7)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11 arg12 harg12) K := by
  simp only [cc0__qkv_kernel_eq_skeleton]; unfold cc0__qkv_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover0_8 _ _ _ _ _ _ _ _)).trans ?_
    rfl
  isplitl [H9]
  · iexists _; isplitr
    swap; · iexact H9
    ipureintro
    refine (View.read_writes_eq_canon _ _ _ (cover0_9 _ _ _ _ _ _ _ _)).trans ?_
    rfl
  iexists _; isplitr
  swap; · iexact H10
  ipureintro
  refine (View.read_writes_eq_canon _ _ _ (cover0_10 _ _ _ _ _ _ _ _)).trans ?_
  rfl

/-! ## The pipeline's proof data -/

/-- The proof data of the one pipeline on core `c`: the arrays as the region finds them (`V`); after the body at
    point `t` each input's buffer at its block and each output's at `out0_W` of the input blocks; the invariant the
    class's; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out0_8 (iblk V c 0 t) (iblk V c 1 t) (iblk V c 2 t) (iblk V c 3 t) (iblk V c 4 t) (iblk V c 5 t) (iblk V c 6 t) (iblk V c 7 t)
    | ⟨9, _⟩ => out0_9 (iblk V c 0 t) (iblk V c 1 t) (iblk V c 2 t) (iblk V c 3 t) (iblk V c 4 t) (iblk V c 5 t) (iblk V c 6 t) (iblk V c 7 t)
    | ⟨10, _⟩ => out0_10 (iblk V c 0 t) (iblk V c 1 t) (iblk V c 2 t) (iblk V c 3 t) (iblk V c 4 t) (iblk V c 5 t) (iblk V c 6 t) (iblk V c 7 t)
  Φ _ := Pipeline.scopedRest (Ix := Unit) (Name := ℕ) (U := UR sig nD τ) (Lvl := ℕ) (Val := Elt F) spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`, never `rfl`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = iblk V c 6 t := by dsimp only [dat]
theorem after0_7 (c : Dev nD) (t : Fin cfg0.N) : (dat V c).after 7 t = iblk V c 7 t := by dsimp only [dat]
theorem after0_8 (c : Dev nD) (t : Fin cfg0.N) : (dat V c).after 8 t = out0_8 (iblk V c 0 t) (iblk V c 1 t) (iblk V c 2 t) (iblk V c 3 t) (iblk V c 4 t) (iblk V c 5 t) (iblk V c 6 t) (iblk V c 7 t) := by dsimp only [dat]
theorem after0_9 (c : Dev nD) (t : Fin cfg0.N) : (dat V c).after 9 t = out0_9 (iblk V c 0 t) (iblk V c 1 t) (iblk V c 2 t) (iblk V c 3 t) (iblk V c 4 t) (iblk V c 5 t) (iblk V c 6 t) (iblk V c 7 t) := by dsimp only [dat]
theorem after0_10 (c : Dev nD) (t : Fin cfg0.N) : (dat V c).after 10 t = out0_10 (iblk V c 0 t) (iblk V c 1 t) (iblk V c 2 t) (iblk V c 3 t) (iblk V c 4 t) (iblk V c 5 t) (iblk V c 6 t) (iblk V c 7 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d
theorem before0_6 (c : Dev nD) (t : Fin cfg0.N) (d) : (dat V c).before 6 t d = iblk V c 6 t :=
  before0_6_of V (dat V c) (A_eq V c 6) (after0_6 V c) t d
theorem before0_7 (c : Dev nD) (t : Fin cfg0.N) (d) : (dat V c).before 7 t d = iblk V c 7 t :=
  before0_7_of V (dat V c) (A_eq V c 7) (after0_7 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7]
  rw [show (dat V c).Φ t.succ = (dat V c).Φ t.castSucc from rfl,
    show (dat V c).owesAt () t.succ = (dat V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Proof.R0

end
-- ==== Proof.Select.lean ====
/-
  One step of the kernel's selection over 64 scores, at the extended reals: the position it picks is the first one that
  attains the maximum, and the next scores are the old ones with that position lowered to minus infinity.
-/
module

public import proofs.«01_k».proof.Proof.Gen.KernelIdeal
public import Idealize.ShloMosaic.Lib.ValueIdx
public import Idealize.ShloMosaic.Lib.ValueLayout
public import Idealize.ShloMosaic.PureOps.Reduce
public import Idealize.ShloMosaic.PureOps.Ideal.Laws

@[expose] public section

set_option maxRecDepth 16384

noncomputable section

namespace Cert.Proof.Select

open Cert.KernelIdeal Cert.KernelIdeal.Gen
open Idealize.ShloMosaic Idealize.ShloMosaic.TcCoe Idealize.ShloMosaic.ValueIdx

/-- The maximum of a column of scores, as the kernel takes it. -/
def topOf {F : FTy → Type} [FloatOps F] (s : FVec F S64x1 .f32) : F .f32 :=
  extractAt ![0, 0, 0] (shapeCast S1x1x1 (multiReduction .maximumf [1, 2] S1
    (shapeCast S1x64x1 s shapeCasts_S64x1_S1x64x1) 0xFF800000#32 reduces_S1x64x1_S1 (.inl rfl) rfl)
    shapeCasts_S1_S1x1x1) inpos_S1x1x1_p0_0_0

/-- The positions' numbers. -/
abbrev pos : IVec S64x1 32 := iota .tc S64x1 32 [0] iota_S64x1_d0_w32

/-- Which scores are the maximum. -/
def selEq {F : FTy → Type} [FloatOps F] (s : FVec F S64x1 .f32) : IVec S64x1 1 := cmpf .oeq s (broadcast S64x1 (topOf s))

/-- Their positions, 64 at the others. -/
def selCand {F : FTy → Type} [FloatOps F] (s : FVec F S64x1 .f32) : IVec S64x1 32 := select (selEq s) pos (broadcast S64x1 64#32)

/-- The least of these, as a vector of one element. -/
def selRed {F : FTy → Type} [FloatOps F] (s : FVec F S64x1 .f32) : IVec S1 32 :=
  multiReductionI .minsi [1, 2] S1 (shapeCast S1x64x1 (selCand s) shapeCasts_S64x1_S1x64x1) 2147483647#32 reduces_S1x64x1_S1 rfl

/-- The first position holding the maximum, as the kernel takes it. -/
def selIdx {F : FTy → Type} [FloatOps F] (s : FVec F S64x1 .f32) : BitVec 32 :=
  extractAt ![0, 0, 0] (shapeCast S1x1x1 (selRed s) shapeCasts_S1_S1x1x1) inpos_S1x1x1_p0_0_0

/-- The scores with the picked position lowered to minus infinity. -/
def selNext {F : FTy → Type} [FloatOps F] (s : FVec F S64x1 .f32) : FVec F S64x1 .f32 :=
  select (cmpi .eq pos (broadcast S64x1 (selIdx s)))
    (broadcast S64x1 (Scalar.ofBits .f32 0xFF800000#32)) s

/-- The scores after `n` picks. -/
def selSeq {F : FTy → Type} [FloatOps F] (s : FVec F S64x1 .f32) : ℕ → FVec F S64x1 .f32
  | 0 => s
  | n + 1 => selNext (selSeq s n)

/-- The word of minus infinity reads as the least extended real. -/
theorem ofBits_bot : (Scalar.ofBits .f32 0xFF800000#32 : Ideal .f32) = (⊥ : EReal) := by
  show Ideal.ofBits .f32 0xFF800000#32 = ⊥
  simp [Ideal.ofBits, Ideal.ieee]

theorem cast_ix (s : S64x1.Idx → EReal) (i : Fin 64) :
    shapeCast S1x64x1 s shapeCasts_S64x1_S1x64x1 (ix3 (0 : Fin 1) i (0 : Fin 1)) = s (ix2 i (0 : Fin 1)) :=
  shapeCast_ab_1ab_apply s _ 0 i 0

theorem castI_ix (s : S64x1.Idx → BitVec 32) (i : Fin 64) :
    shapeCast S1x64x1 s shapeCasts_S64x1_S1x64x1 (ix3 (0 : Fin 1) i (0 : Fin 1)) = s (ix2 i (0 : Fin 1)) :=
  shapeCast_ab_1ab_apply s _ 0 i 0

/-- Every index of the column is `(i, 0)`. -/
theorem col_eq (x : S64x1.Idx) : x = ix2 (x 0 : Fin 64) (0 : Fin 1) := by
  funext a; match a with
  | ⟨0, _⟩ => rfl
  | ⟨1, _⟩ => exact Fin.ext (Nat.lt_one_iff.mp (x 1).isLt)

theorem slab_eq (x : S1x64x1.Idx) : ∃ i : Fin 64, x = ix3 (0 : Fin 1) i (0 : Fin 1) := by
  refine ⟨(x 1 : Fin 64), ?_⟩
  funext a; match a with
  | ⟨0, _⟩ => exact Fin.ext (Nat.lt_one_iff.mp (x 0).isLt)
  | ⟨1, _⟩ => rfl
  | ⟨2, _⟩ => exact Fin.ext (Nat.lt_one_iff.mp (x 2).isLt)

theorem drop_one (i : S1x64x1.Idx) (j : S1.Idx) : reduces_S1x64x1_S1.drop i = j := by
  funext b
  have h1 : (reduces_S1x64x1_S1.drop i b).val < 1 := by
    have := (reduces_S1x64x1_S1.drop i b).isLt
    match b with | ⟨0, _⟩ => exact this
  have h2 : (j b).val < 1 := by
    have := (j b).isLt
    match b with | ⟨0, _⟩ => exact this
  exact Fin.ext (by omega)

theorem extract_one {α : Type} (x : S1.Idx → α) :
    ∃ j, extractAt ![0, 0, 0] (shapeCast S1x1x1 x shapeCasts_S1_S1x1x1) inpos_S1x1x1_p0_0_0 = x j :=
  ⟨_, rfl⟩

/-- The maximum bounds every score and is one of the bounds' least. -/
theorem topOf_fold (s : FVec Ideal S64x1 .f32) :
    topOf s = (Finset.univ : Finset S1x64x1.Idx).fold max (⊥ : EReal) (shapeCast S1x64x1 s shapeCasts_S64x1_S1x64x1) := by
  obtain ⟨j, hj⟩ := extract_one (multiReduction (F := Ideal) .maximumf [1, 2] S1
    (shapeCast S1x64x1 s shapeCasts_S64x1_S1x64x1) 0xFF800000#32 reduces_S1x64x1_S1 (.inl rfl) rfl)
  unfold topOf
  refine hj.trans ((multiReduction_maximumf_eq_fold (F := Ideal) _ _ _ _ _ j).trans ?_)
  rw [Finset.filter_true_of_mem (fun i _ => drop_one i j)]
  show Finset.fold max (Scalar.ofBits .f32 0xFF800000#32 : Ideal .f32) _ _ = _
  rw [ofBits_bot]

theorem le_topOf (s : FVec Ideal S64x1 .f32) (i : Fin 64) : (s (ix2 i (0 : Fin 1)) : EReal) ≤ topOf s := by
  rw [topOf_fold, ← cast_ix s i]
  exact (Finset.le_fold_max _).mpr (.inr ⟨_, Finset.mem_univ _, le_rfl⟩)

theorem topOf_attained (s : FVec Ideal S64x1 .f32) : ∃ i : Fin 64, (s (ix2 i (0 : Fin 1)) : EReal) = topOf s := by
  obtain ⟨i, hi⟩ := Finite.exists_max (fun i : Fin 64 => (s (ix2 i (0 : Fin 1)) : EReal))
  refine ⟨i, le_antisymm (le_topOf s i) ?_⟩
  rw [topOf_fold]
  refine (Finset.fold_max_le _).mpr ⟨bot_le, fun x _ => ?_⟩
  obtain ⟨k, rfl⟩ := slab_eq x
  rw [cast_ix]
  exact hi k

theorem toInt_minsi (a b : BitVec 32) : (IKind.op .minsi a b).toInt = min a.toInt b.toInt := by
  show (IntOp.minsi a b).toInt = _
  simp only [IntOp.minsi, BitVec.sle, BitVec.slt]
  split <;> rename_i h <;> simp at h <;> omega

theorem selIdx_toInt (s : FVec Ideal S64x1 .f32) :
    (selIdx s).toInt = (Finset.univ : Finset S1x64x1.Idx).fold min (2147483647 : ℤ) (fun x =>
      (shapeCast S1x64x1 (select (cmpf .oeq s (broadcast S64x1 (topOf s))) (iota .tc S64x1 32 [0] iota_S64x1_d0_w32)
      (broadcast S64x1 64#32)) shapeCasts_S64x1_S1x64x1 x).toInt) := by
  obtain ⟨j, hj⟩ := extract_one (multiReductionI .minsi [1, 2] S1
    (shapeCast S1x64x1 (select (cmpf .oeq s (broadcast S64x1 (topOf s))) (iota .tc S64x1 32 [0] iota_S64x1_d0_w32)
      (broadcast S64x1 64#32)) shapeCasts_S64x1_S1x64x1) 2147483647#32 reduces_S1x64x1_S1 rfl)
  unfold selIdx selRed selCand selEq
  refine (congrArg BitVec.toInt (hj.trans (multiReductionI_eq_fold _ _ _ _ _ j))).trans ?_
  rw [Finset.filter_true_of_mem (fun i _ => drop_one i j)]
  rw [show (2147483647 : ℤ) = (2147483647#32 : BitVec 32).toInt from by decide]
  exact (Finset.fold_hom (m := BitVec.toInt) toInt_minsi).symm

theorem iota_ix (i : Fin 64) : iota .tc S64x1 32 [0] iota_S64x1_d0_w32 (ix2 i (0 : Fin 1)) = BitVec.ofNat 32 i.val := by
  show BitVec.ofNat 32 (0 * 64 + i.val) = _
  rw [Nat.zero_mul, Nat.zero_add]

theorem select_ix {α : Type} (c : IVec S64x1 1) (a b : S64x1.Idx → α) (i : S64x1.Idx) :
    select c a b i = if c i = 1#1 then a i else b i := rfl

theorem cmpf_ix (a b : FVec Ideal S64x1 .f32) (i : S64x1.Idx) : cmpf .oeq a b i = Ideal.cmp .oeq (a i) (b i) := rfl

theorem cmpi_ix (a b : IVec S64x1 32) (i : S64x1.Idx) : cmpi .eq a b i = BitVec.ofBool (a i == b i) := rfl

theorem broadcast_ix {α : Type} (a : α) (i : S64x1.Idx) : broadcast S64x1 a i = a := rfl

theorem cand_ix (s : FVec Ideal S64x1 .f32) (i : Fin 64) :
    (shapeCast S1x64x1 (select (cmpf .oeq s (broadcast S64x1 (topOf s))) (iota .tc S64x1 32 [0] iota_S64x1_d0_w32)
      (broadcast S64x1 64#32)) shapeCasts_S64x1_S1x64x1 (ix3 (0 : Fin 1) i (0 : Fin 1))).toInt
      = if (s (ix2 i (0 : Fin 1)) : EReal) = topOf s then (i.val : ℤ) else 64 := by
  rw [castI_ix]
  have e1 : (BitVec.ofNat 32 i.val).toInt = (i.val : ℤ) := by
    have := i.isLt
    rw [BitVec.toInt_eq_toNat_of_lt] <;> rw [BitVec.toNat_ofNat, Nat.mod_eq_of_lt (by omega)]
    omega
  rw [select_ix, cmpf_ix, broadcast_ix, broadcast_ix]
  by_cases h : (s (ix2 i (0 : Fin 1)) : EReal) = topOf s
  · rw [if_pos h, if_pos (by simp [Ideal.cmp, h]), iota_ix, e1]
  · rw [if_neg h, if_neg (by simp [Ideal.cmp, h])]; decide

/-- What the pick is: in range, a maximum, and the first one. -/
theorem selIdx_spec (s : FVec Ideal S64x1 .f32) : ∃ p : Fin 64, selIdx s = BitVec.ofNat 32 p.val
    ∧ (∀ i : Fin 64, (s (ix2 i (0 : Fin 1)) : EReal) ≤ s (ix2 p (0 : Fin 1)))
    ∧ ∀ i : Fin 64, i < p → (s (ix2 i (0 : Fin 1)) : EReal) < s (ix2 p (0 : Fin 1)) := by
  classical
  obtain ⟨i₀, hi₀⟩ := topOf_attained s
  have hex : ∃ n : ℕ, ∃ h : n < 64, (s (ix2 (⟨n, h⟩ : Fin 64) (0 : Fin 1)) : EReal) = topOf s := ⟨i₀.val, i₀.isLt, hi₀⟩
  obtain ⟨hp, hpe⟩ := Nat.find_spec hex
  let p : Fin 64 := ⟨Nat.find hex, hp⟩
  have hmin : ∀ i : Fin 64, i < p → (s (ix2 i (0 : Fin 1)) : EReal) ≠ topOf s := fun i hi he =>
    Nat.find_min hex (show i.val < Nat.find hex from hi) ⟨i.isLt, he⟩
  have hidx : (selIdx s).toInt = (p.val : ℤ) := by
    rw [selIdx_toInt]
    apply le_antisymm
    · refine (Finset.fold_min_le _).mpr (.inr ⟨ix3 (0 : Fin 1) p (0 : Fin 1), Finset.mem_univ _, ?_⟩)
      rw [cand_ix, if_pos hpe]
    · refine (Finset.le_fold_min _).mpr ⟨by have := p.isLt; omega, fun x _ => ?_⟩
      obtain ⟨k, rfl⟩ := slab_eq x
      rw [cand_ix]
      split
      · rename_i h
        by_contra hlt
        exact hmin k (by rw [Fin.lt_def]; exact_mod_cast not_le.mp hlt) h
      · have := p.isLt; omega
  refine ⟨p, ?_, fun i => hpe ▸ le_topOf s i, fun i hi => lt_of_le_of_ne (hpe ▸ le_topOf s i) (fun h => hmin i hi (h.trans hpe))⟩
  apply BitVec.eq_of_toInt_eq
  rw [hidx, BitVec.toInt_eq_toNat_of_lt] <;> rw [BitVec.toNat_ofNat, Nat.mod_eq_of_lt (by have := p.isLt; omega)]
  have := p.isLt; omega

theorem selIdx_lt (s : FVec Ideal S64x1 .f32) : (selIdx s).toNat < 64 := by
  obtain ⟨p, hp, -⟩ := selIdx_spec s
  rw [hp, BitVec.toNat_ofNat, Nat.mod_eq_of_lt (by have := p.isLt; omega)]
  exact p.isLt

theorem selNext_ix (s : FVec Ideal S64x1 .f32) (i : Fin 64) :
    (selNext s (ix2 i (0 : Fin 1)) : EReal) = if i.val = (selIdx s).toNat then ⊥ else s (ix2 i (0 : Fin 1)) := by
  unfold selNext
  rw [select_ix, cmpi_ix, broadcast_ix, broadcast_ix, ofBits_bot, show pos (ix2 i (0 : Fin 1)) = BitVec.ofNat 32 i.val from iota_ix i]
  have e : (BitVec.ofNat 32 i.val = selIdx s) ↔ i.val = (selIdx s).toNat := by
    rw [← BitVec.toNat_inj, BitVec.toNat_ofNat, Nat.mod_eq_of_lt (by have := i.isLt; omega)]
  by_cases h : i.val = (selIdx s).toNat
  · rw [if_pos h]; simp [e.mpr h]
  · rw [if_neg h, if_neg]
    rw [beq_eq_false_iff_ne.mpr (mt e.mp h)]; decide

/-- The position of the `n`-th pick, as a coordinate. -/
def pickFin (s : FVec Ideal S64x1 .f32) (n : ℕ) : Fin 64 := ⟨(selIdx (selSeq s n)).toNat, selIdx_lt _⟩

end Cert.Proof.Select

end
-- ==== Proof.Region1Sel.lean ====
/-
  The attention region's body: the parts that select rows and columns.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp
public import proofs.«01_k».proof.Proof.Select

@[expose] public section

set_option maxRecDepth 16384

noncomputable section

namespace Cert.Proof.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Select
open Idealize.ShloMosaic.Pipeline (Dat Cfg Window BodyObligation cellOf)

local notation "𝕄" => MT nD τ sig Unit (Elt Ideal) ℕ (UR sig nD τ) ℕ

/-! ## The assumed side conditions, from a position below 64 -/

theorem row_ok (w : BitVec 32) (h : w.toNat < 64) : k1_chk1 w := by
  have e : (Scalar.muli w 64#32).toNat = w.toNat * 64 := by
    show (w * 64#32).toNat = _
    rw [BitVec.toNat_mul]; exact Nat.mod_eq_of_lt (by show w.toNat * 64 < 2 ^ 32; omega)
  have e' : (Scalar.indexCast (Scalar.muli w 64#32)).toNat = w.toNat * 64 := e
  constructor
  · intro a
    match a with
    | ⟨0, _⟩ => show 0 + 1 ≤ 1; omega
    | ⟨1, _⟩ => show 0 + 1 ≤ 1; omega
    | ⟨2, _⟩ => show (Scalar.indexCast (Scalar.muli w 64#32)).toNat + 64 ≤ 4096; omega
    | ⟨3, _⟩ => show 0 + 64 ≤ 64; omega
  · intro a
    match a with
    | ⟨0, _⟩ => show 0 + 1 ≤ 1; omega
    | ⟨1, _⟩ => show 0 + 1 ≤ 1; omega
    | ⟨2, _⟩ => show (Scalar.indexCast (Scalar.muli w 64#32)).toNat + 64 ≤ 4096; omega
    | ⟨3, _⟩ => show 0 + 64 ≤ 64; omega

theorem col_ok (w : BitVec 32) (h : w.toNat < 64) : k1_chk17 w := by
  have e' : (Scalar.indexCast w).toNat = w.toNat := rfl
  constructor
  · intro a
    match a with
    | ⟨0, _⟩ => show 0 + 16 ≤ 16; omega
    | ⟨1, _⟩ => show (Scalar.indexCast w).toNat + 1 ≤ 64; omega
    | ⟨2, _⟩ => show 0 + 64 ≤ 64; omega
  · intro a
    match a with
    | ⟨0, _⟩ => show 0 + 16 ≤ 16; omega
    | ⟨1, _⟩ => show (Scalar.indexCast w).toNat + 1 ≤ 64; omega
    | ⟨2, _⟩ => show 0 + 64 ≤ 64; omega

theorem row_sel (s : FVec Ideal S64x1 .f32) : k1_chk1 (selIdx s) := row_ok _ (selIdx_lt s)

theorem col_sel (s : FVec Ideal S64x1 .f32) : k1_chk17 (selIdx s) := col_ok _ (selIdx_lt s)

/-- A continuation's assertion at one result gives it at any equal one. -/
theorem conv {α : Type*} (K : α → sProp 𝕄) {a b : α} (h : a = b) : K a ⊢ K b := by rw [h]

theorem part2 (c : Dev nD) (E : Set ℕ) (i : grid1.Coords) (arg2 : Memref sig .tc .vmem S1x1x4096x64 .f32) (harg2 : arg2.IsWhole) (arg3 : Memref sig .tc .vmem S1x1x4096x64 .f32) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S16x64x64 .f32) (harg6 : arg6.IsWhole)
    (s : FVec Ideal S64x1 .f32) (K : _ → sProp 𝕄) :
    K ⟨(selIdx s), row_sel _, (selIdx (selNext s)), row_sel _, (selNext (selNext s)), (selIdx (selNext (selNext s))), row_sel _, (cmpi .eq pos (broadcast S64x1 (selIdx (selNext (selNext s))))), (Scalar.ofBits .f32 0xFF800000#32)⟩
      ⊢ wp frame (wpE (defs₀ (F := Ideal)) Variants.none c none) E
        (k1_part2 (F := Ideal) i arg2 harg2 arg3 harg3 arg4 harg4 arg5 harg5 arg6 harg6 s pos (shapeCast S1x64x1 s shapeCasts_S64x1_S1x64x1)) K := by
  rw [k1_part2_eq_skeleton]; unfold k1_part2_skel
  iintro HK
  sl_exec
  iapply (wp_assume _ _ _ _ (row_sel s))
  sl_exec
  iapply (wp_assume _ _ _ _ (row_sel (selNext s)))
  sl_exec
  iapply (wp_assume _ _ _ _ (row_sel (selNext (selNext s))))
  sl_exec
  sl_step
  iapply (conv K ?h)
  rotate_left
  · iexact HK
  · rfl

theorem part3 (c : Dev nD) (E : Set ℕ) (i : grid1.Coords) (arg2 : Memref sig .tc .vmem S1x1x4096x64 .f32) (harg2 : arg2.IsWhole) (arg3 : Memref sig .tc .vmem S1x1x4096x64 .f32) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S16x64x64 .f32) (harg6 : arg6.IsWhole)
    (s : FVec Ideal S64x1 .f32) (K : _ → sProp 𝕄) :
    K ⟨(selIdx (selNext s)), row_sel _, (selIdx (selNext (selNext s))), row_sel _, (selNext (selNext (selNext s))), (selIdx (selNext (selNext (selNext s)))), row_sel _⟩
      ⊢ wp frame (wpE (defs₀ (F := Ideal)) Variants.none c none) E
        (k1_part3 (F := Ideal) i arg2 harg2 arg3 harg3 arg4 harg4 arg5 harg5 arg6 harg6 pos s (cmpi .eq pos (broadcast S64x1 (selIdx s))) (Scalar.ofBits .f32 0xFF800000#32)) K := by
  rw [k1_part3_eq_skeleton]; unfold k1_part3_skel
  iintro HK
  sl_exec
  iapply (wp_assume _ _ _ _ (row_sel (selNext s)))
  sl_exec
  iapply (wp_assume _ _ _ _ (row_sel (selNext (selNext s))))
  sl_exec
  iapply (wp_assume _ _ _ _ (row_sel (selNext (selNext (selNext s)))))
  sl_exec
  sl_step
  iapply (conv K ?h)
  rotate_left
  · iexact HK
  · rfl

theorem part4 (c : Dev nD) (E : Set ℕ) (i : grid1.Coords) (arg2 : Memref sig .tc .vmem S1x1x4096x64 .f32) (harg2 : arg2.IsWhole) (arg3 : Memref sig .tc .vmem S1x1x4096x64 .f32) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S16x64x64 .f32) (harg6 : arg6.IsWhole)
    (s : FVec Ideal S64x1 .f32) (K : _ → sProp 𝕄) :
    K ⟨(selIdx (selNext s)), row_sel _, (selIdx (selNext (selNext s))), row_sel _, (selNext (selNext (selNext s))), selRed (selNext (selNext (selNext s)))⟩
      ⊢ wp frame (wpE (defs₀ (F := Ideal)) Variants.none c none) E
        (k1_part4 (F := Ideal) i arg2 harg2 arg3 harg3 arg4 harg4 arg5 harg5 arg6 harg6 pos s (selIdx s)) K := by
  rw [k1_part4_eq_skeleton]; unfold k1_part4_skel
  iintro HK
  sl_exec
  iapply (wp_assume _ _ _ _ (row_sel (selNext s)))
  sl_exec
  iapply (wp_assume _ _ _ _ (row_sel (selNext (selNext s))))
  sl_exec
  sl_step
  iapply (conv K ?h)
  rotate_left
  · iexact HK
  · rfl

theorem part5 (c : Dev nD) (E : Set ℕ) (i : grid1.Coords) (arg2 : Memref sig .tc .vmem S1x1x4096x64 .f32) (harg2 : arg2.IsWhole) (arg3 : Memref sig .tc .vmem S1x1x4096x64 .f32) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S16x64x64 .f32) (harg6 : arg6.IsWhole)
    (s : FVec Ideal S64x1 .f32) (K : _ → sProp 𝕄) :
    K ⟨(selIdx s), row_sel _, (selIdx (selNext s)), row_sel _, (selIdx (selNext (selNext s))), row_sel _, (selNext (selNext (selNext s))), selCand (selNext (selNext (selNext s)))⟩
      ⊢ wp frame (wpE (defs₀ (F := Ideal)) Variants.none c none) E
        (k1_part5 (F := Ideal) i arg2 harg2 arg3 harg3 arg4 harg4 arg5 harg5 arg6 harg6 pos s (selRed s)) K := by
  rw [k1_part5_eq_skeleton]; unfold k1_part5_skel
  iintro HK
  sl_exec
  iapply (wp_assume _ _ _ _ (row_sel s))
  sl_exec
  iapply (wp_assume _ _ _ _ (row_sel (selNext s)))
  sl_exec
  iapply (wp_assume _ _ _ _ (row_sel (selNext (selNext s))))
  sl_exec
  sl_step
  iapply (conv K ?h)
  rotate_left
  · iexact HK
  · rfl

theorem part6 (c : Dev nD) (E : Set ℕ) (i : grid1.Coords) (arg2 : Memref sig .tc .vmem S1x1x4096x64 .f32) (harg2 : arg2.IsWhole) (arg3 : Memref sig .tc .vmem S1x1x4096x64 .f32) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S16x64x64 .f32) (harg6 : arg6.IsWhole)
    (s : FVec Ideal S64x1 .f32) (K : _ → sProp 𝕄) :
    K ⟨(selIdx s), row_sel _, (selIdx (selNext s)), row_sel _, (selIdx (selNext (selNext s))), row_sel _, (selNext (selNext (selNext s))), selEq (selNext (selNext (selNext s)))⟩
      ⊢ wp frame (wpE (defs₀ (F := Ideal)) Variants.none c none) E
        (k1_part6 (F := Ideal) i arg2 harg2 arg3 harg3 arg4 harg4 arg5 harg5 arg6 harg6 pos s (selCand s)) K := by
  rw [k1_part6_eq_skeleton]; unfold k1_part6_skel
  iintro HK
  sl_exec
  iapply (wp_assume _ _ _ _ (row_sel s))
  sl_exec
  iapply (wp_assume _ _ _ _ (row_sel (selNext s)))
  sl_exec
  iapply (wp_assume _ _ _ _ (row_sel (selNext (selNext s))))
  sl_exec
  sl_step
  iapply (conv K ?h)
  rotate_left
  · iexact HK
  · rfl

theorem part7 (c : Dev nD) (E : Set ℕ) (i : grid1.Coords) (arg2 : Memref sig .tc .vmem S1x1x4096x64 .f32) (harg2 : arg2.IsWhole) (arg3 : Memref sig .tc .vmem S1x1x4096x64 .f32) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S16x64x64 .f32) (harg6 : arg6.IsWhole)
    (s u : FVec Ideal S64x1 .f32) (K : _ → sProp 𝕄) :
    K ⟨(selIdx s), row_sel _, (selIdx (selNext s)), row_sel _, pos, (selIdx u), col_sel _, (selNext u), selEq (selNext u), 64#32⟩
      ⊢ wp frame (wpE (defs₀ (F := Ideal)) Variants.none c none) E
        (k1_part7 (F := Ideal) i arg2 harg2 arg3 harg3 arg4 harg4 arg5 harg5 arg6 harg6 u pos s (selEq s)) K := by
  rw [k1_part7_eq_skeleton]; unfold k1_part7_skel
  iintro HK
  sl_exec
  iapply (wp_assume _ _ _ _ (row_sel s))
  sl_exec
  iapply (wp_assume _ _ _ _ (row_sel (selNext s)))
  sl_exec
  iapply (wp_assume _ _ _ _ (col_sel u))
  sl_exec
  sl_step
  iapply (conv K ?h)
  rotate_left
  · iexact HK
  · rfl

theorem part8 (c : Dev nD) (E : Set ℕ) (i : grid1.Coords) (arg2 : Memref sig .tc .vmem S1x1x4096x64 .f32) (harg2 : arg2.IsWhole) (arg3 : Memref sig .tc .vmem S1x1x4096x64 .f32) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S16x64x64 .f32) (harg6 : arg6.IsWhole)
    (s : FVec Ideal S64x1 .f32) (K : _ → sProp 𝕄) :
    K ⟨(selIdx s), col_sel _, (selIdx (selNext s)), col_sel _, (selIdx (selNext (selNext s))), col_sel _, (selNext (selNext (selNext s))), topOf (selNext (selNext (selNext s)))⟩
      ⊢ wp frame (wpE (defs₀ (F := Ideal)) Variants.none c none) E
        (k1_part8 (F := Ideal) i arg2 harg2 arg3 harg3 arg4 harg4 arg5 harg5 arg6 harg6 pos s (selEq s) 64#32) K := by
  rw [k1_part8_eq_skeleton]; unfold k1_part8_skel
  iintro HK
  sl_exec
  iapply (wp_assume _ _ _ _ (col_sel s))
  sl_exec
  iapply (wp_assume _ _ _ _ (col_sel (selNext s)))
  sl_exec
  iapply (wp_assume _ _ _ _ (col_sel (selNext (selNext s))))
  sl_exec
  sl_step
  iapply (conv K ?h)
  rotate_left
  · iexact HK
  · rfl

theorem part9 (c : Dev nD) (E : Set ℕ) (i : grid1.Coords) (arg2 : Memref sig .tc .vmem S1x1x4096x64 .f32) (harg2 : arg2.IsWhole) (arg3 : Memref sig .tc .vmem S1x1x4096x64 .f32) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S16x64x64 .f32) (harg6 : arg6.IsWhole)
    (s : FVec Ideal S64x1 .f32) (K : _ → sProp 𝕄) :
    K ⟨(selIdx s), col_sel _, (selIdx (selNext s)), col_sel _, (selIdx (selNext (selNext s))), col_sel _, (selNext (selNext (selNext s))), (shapeCast S1x64x1 (selNext (selNext (selNext s))) shapeCasts_S64x1_S1x64x1)⟩
      ⊢ wp frame (wpE (defs₀ (F := Ideal)) Variants.none c none) E
        (k1_part9 (F := Ideal) i arg2 harg2 arg3 harg3 arg4 harg4 arg5 harg5 arg6 harg6 pos s (topOf s)) K := by
  rw [k1_part9_eq_skeleton]; unfold k1_part9_skel
  iintro HK
  sl_exec
  iapply (wp_assume _ _ _ _ (col_sel s))
  sl_exec
  iapply (wp_assume _ _ _ _ (col_sel (selNext s)))
  sl_exec
  iapply (wp_assume _ _ _ _ (col_sel (selNext (selNext s))))
  sl_exec
  sl_step
  iapply (conv K ?h)
  rotate_left
  · iexact HK
  · rfl

theorem part10 (c : Dev nD) (E : Set ℕ) (i : grid1.Coords) (arg2 : Memref sig .tc .vmem S1x1x4096x64 .f32) (harg2 : arg2.IsWhole) (arg3 : Memref sig .tc .vmem S1x1x4096x64 .f32) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S16x64x64 .f32) (harg6 : arg6.IsWhole)
    (s : FVec Ideal S64x1 .f32) (K : _ → sProp 𝕄) :
    K ⟨(selIdx s), col_sel _, (selIdx (selNext s)), col_sel _, (selNext (selNext s)), (selIdx (selNext (selNext s))), col_sel _, (cmpi .eq pos (broadcast S64x1 (selIdx (selNext (selNext s))))), broadcast S64x1 (Scalar.ofBits .f32 0xFF800000#32)⟩
      ⊢ wp frame (wpE (defs₀ (F := Ideal)) Variants.none c none) E
        (k1_part10 (F := Ideal) i arg2 harg2 arg3 harg3 arg4 harg4 arg5 harg5 arg6 harg6 pos s (shapeCast S1x64x1 s shapeCasts_S64x1_S1x64x1)) K := by
  rw [k1_part10_eq_skeleton]; unfold k1_part10_skel
  iintro HK
  sl_exec
  iapply (wp_assume _ _ _ _ (col_sel s))
  sl_exec
  iapply (wp_assume _ _ _ _ (col_sel (selNext s)))
  sl_exec
  iapply (wp_assume _ _ _ _ (col_sel (selNext (selNext s))))
  sl_exec
  sl_step
  iapply (conv K ?h)
  rotate_left
  · iexact HK
  · rfl

theorem part11 (c : Dev nD) (E : Set ℕ) (i : grid1.Coords) (arg2 : Memref sig .tc .vmem S1x1x4096x64 .f32) (harg2 : arg2.IsWhole) (arg3 : Memref sig .tc .vmem S1x1x4096x64 .f32) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S16x64x64 .f32) (harg6 : arg6.IsWhole)
    (s : FVec Ideal S64x1 .f32) (K : _ → sProp 𝕄) :
    K ⟨(selIdx (selNext s)), col_sel _, (selIdx (selNext (selNext s))), col_sel _, (selNext (selNext (selNext s))), (selIdx (selNext (selNext (selNext s)))), col_sel _, broadcast S64x1 (selIdx (selNext (selNext (selNext s))))⟩
      ⊢ wp frame (wpE (defs₀ (F := Ideal)) Variants.none c none) E
        (k1_part11 (F := Ideal) i arg2 harg2 arg3 harg3 arg4 harg4 arg5 harg5 arg6 harg6 pos s (cmpi .eq pos (broadcast S64x1 (selIdx s))) (broadcast S64x1 (Scalar.ofBits .f32 0xFF800000#32))) K := by
  rw [k1_part11_eq_skeleton]; unfold k1_part11_skel
  iintro HK
  sl_exec
  iapply (wp_assume _ _ _ _ (col_sel (selNext s)))
  sl_exec
  iapply (wp_assume _ _ _ _ (col_sel (selNext (selNext s))))
  sl_exec
  iapply (wp_assume _ _ _ _ (col_sel (selNext (selNext (selNext s)))))
  sl_exec
  sl_step
  iapply (conv K ?h)
  rotate_left
  · iexact HK
  · rfl

theorem part12 (c : Dev nD) (E : Set ℕ) (i : grid1.Coords) (arg2 : Memref sig .tc .vmem S1x1x4096x64 .f32) (harg2 : arg2.IsWhole) (arg3 : Memref sig .tc .vmem S1x1x4096x64 .f32) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S16x64x64 .f32) (harg6 : arg6.IsWhole)
    (s : FVec Ideal S64x1 .f32) (K : _ → sProp 𝕄) :
    K ⟨(selIdx (selNext s)), col_sel _, (selIdx (selNext (selNext s))), col_sel _, (shapeCast S1x1x1 (selRed (selNext (selNext (selNext s)))) shapeCasts_S1_S1x1x1)⟩
      ⊢ wp frame (wpE (defs₀ (F := Ideal)) Variants.none c none) E
        (k1_part12 (F := Ideal) i arg2 harg2 arg3 harg3 arg4 harg4 arg5 harg5 arg6 harg6 pos s (broadcast S64x1 (selIdx s))) K := by
  rw [k1_part12_eq_skeleton]; unfold k1_part12_skel
  iintro HK
  sl_exec
  iapply (wp_assume _ _ _ _ (col_sel (selNext s)))
  sl_exec
  iapply (wp_assume _ _ _ _ (col_sel (selNext (selNext s))))
  sl_exec
  sl_step
  iapply (conv K ?h)
  rotate_left
  · iexact HK
  · rfl

end Cert.Proof.R1

end
-- ==== Proof.Region1Mem.lean ====
/-
  The attention region's body: the parts that select rows and columns.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp
public import proofs.«01_k».proof.Proof.Region1Sel
public import Idealize.ShloMosaic.Lib.ValueIdx
public import Idealize.ShloMosaic.Lib.ValueLayout

@[expose] public section

set_option maxRecDepth 16384

noncomputable section

namespace Cert.Proof.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Select
open Idealize.ShloMosaic.Pipeline (Dat Cfg Window BodyObligation cellOf)

local notation "𝕄" => MT nD τ sig Unit (Elt Ideal) ℕ (UR sig nD τ) ℕ

open Idealize.ShloMosaic.ValueIdx

/-! ## Slabs of 64 image rows in the scratch buffer -/

/-- Element `(a, b)` of the slab of 64 image rows that starts at row `64 w` of an array of 4096 rows. -/
def rowAt (X : S1x1x4096x64.Idx → EReal) (w : BitVec 32) (a b : Fin 64) : EReal :=
  X (ix4 (0 : Fin 1) (0 : Fin 1) (⟨w.toNat % 64 * 64 + a.val, by omega⟩ : Fin 4096) b)

/-- Sixteen slabs, stacked. -/
def gath (X : S1x1x4096x64.Idx → EReal) (rows : Fin 16 → BitVec 32) : S16x64x64.Idx → EReal :=
  fun y => rowAt X (rows (y 0 : Fin 16)) (y 1 : Fin 64) (y 2 : Fin 64)

/-- Column `w` of each of the sixteen slabs. -/
def colAt (G : S16x64x64.Idx → EReal) (w : BitVec 32) : S16x1x64.Idx → EReal :=
  fun y => G (ix3 (y 0 : Fin 16) (⟨w.toNat % 64, by omega⟩ : Fin 64) (y 2 : Fin 64))

theorem muli_64 (w : BitVec 32) (h : w.toNat < 64) : (Scalar.indexCast (Scalar.muli w 64#32)).toNat = w.toNat * 64 := by
  show (w * 64#32).toNat = _
  rw [BitVec.toNat_mul]; exact Nat.mod_eq_of_lt (by show w.toNat * 64 < 2 ^ 32; omega)

/-- A slab read from the array, with its two leading unit axes dropped, at `(a, b)`. -/
theorem slab_ix (X : S1x1x4096x64.Idx → EReal) (w : BitVec 32) (hw : w.toNat < 64) (a b : Fin 64)
    (inb : ∀ a, (k1_off1 w) a + S1x1x64x64.size a ≤ S1x1x4096x64.size a) :
    shapeCast S64x64 (fun x => X ((Rect.unit (s := S1x1x4096x64) (k1_off1 w) S1x1x64x64.size inb).idx x))
        shapeCasts_S1x1x64x64_S64x64 (ix2 a b)
      = rowAt X w a b := by
  have h64 : w.toNat % 64 * 64 = (k1_off1 w) 2 := by
    rw [Nat.mod_eq_of_lt hw]; exact (muli_64 w hw).symm
  unfold rowAt
  show X _ = X _
  rw [reshapeEquiv_ix2_11ab]
  congr 1
  funext x
  match x with
  | ⟨0, _⟩ => rfl
  | ⟨1, _⟩ => rfl
  | ⟨2, _⟩ => apply Fin.ext; show (k1_off1 w) 2 + 1 * a.val = _ ; rw [← h64, one_mul]
  | ⟨3, _⟩ => apply Fin.ext; show 0 + 1 * b.val = b.val; omega

/-- The first `n` slabs of the scratch buffer hold `G`'s. -/
def Filled (v : View sig .tc .vmem S16x64x64 .f32) (f : v.ty.Contents (Elt Ideal)) (G : S16x64x64.Idx → EReal) (n : ℕ) : Prop :=
  ∀ y : S16x64x64.Idx, (y 0).val < n → v.read (Elt Ideal) f y = G y

/-- Storing the next slab extends them. -/
theorem Filled.step {v : View sig .tc .vmem S16x64x64 .f32} {f : v.ty.Contents (Elt Ideal)} {X : S1x1x4096x64.Idx → EReal}
    {rows : Fin 16 → BitVec 32} (j : Fin 16) {L : List (View.Piece (Elt Ideal) S16x64x64 .f32)}
    (h : Filled v (v.writes (Elt Ideal) f L) (gath X rows) j.val)
    (inb : ∀ a, (![j.val, 0, 0] : Fin 3 → ℕ) a + S1x64x64.size a ≤ S16x64x64.size a) (p : S64x64.Idx → EReal)
    (hp : ∀ a b, p (ix2 a b) = rowAt X (rows j) a b) :
    Filled v (v.writes (Elt Ideal) f (⟨Rect.unit (s := S16x64x64) ![j.val, 0, 0] S1x64x64.size inb,
      shapeCast S1x64x64 p shapeCasts_S64x64_S1x64x64⟩ :: L)) (gath X rows) (j.val + 1) := by
  intro y hy
  by_cases hj : (y 0).val = j.val
  · refine (View.read_writes_cons_hit_of_coords v f _ _ L (ix3 (0 : Fin 1) (y 1 : Fin 64) (y 2 : Fin 64)) y ?_).trans ?_
    · intro a
      match a with
      | ⟨0, _⟩ => show (y 0).val = j.val + 1 * 0; omega
      | ⟨1, _⟩ => show (y 1).val = 0 + 1 * (y 1).val; omega
      | ⟨2, _⟩ => show (y 2).val = 0 + 1 * (y 2).val; omega
    · refine (shapeCast_ab_1ab_apply p _ 0 (y 1 : Fin 64) (y 2 : Fin 64)).trans ((hp _ _).trans ?_)
      unfold gath
      rw [show (y 0 : Fin 16) = j from Fin.ext hj]
  · refine (View.read_writes_cons_miss_of_axis v f _ L y (0 : Fin 3) j.val 1 rfl rfl rfl (Or.inl (by omega))).trans (h y (by omega))

theorem Filled.zero {v : View sig .tc .vmem S16x64x64 .f32} {f : v.ty.Contents (Elt Ideal)} {G : S16x64x64.Idx → EReal} :
    Filled v f G 0 := fun y hy => absurd hy (Nat.not_lt_zero _)

/-- A column loaded from the full scratch buffer. -/
theorem Filled.col {v : View sig .tc .vmem S16x64x64 .f32} {f : v.ty.Contents (Elt Ideal)} {G : S16x64x64.Idx → EReal}
    (h : Filled v f G 16) (w : BitVec 32) (hw : w.toNat < 64)
    (inb : ∀ a, (k1_off17 w) a + S16x1x64.size a ≤ S16x64x64.size a) :
    v.readAt (Elt Ideal) (Rect.unit (s := S16x64x64) (k1_off17 w) S16x1x64.size inb).toLoadRect f = colAt G w := by
  funext y
  refine (h _ (Fin.isLt _)).trans ?_
  unfold colAt
  congr 1
  funext x
  match x with
  | ⟨0, _⟩ => apply Fin.ext; show 0 + 1 * (y 0).val = (y 0).val; omega
  | ⟨1, _⟩ =>
    apply Fin.ext; show (Scalar.indexCast w).toNat + 1 * (y 1).val = w.toNat % 64
    have h1 : (y 1).val < 1 := (y 1).isLt
    have h2 : (Scalar.indexCast w).toNat = w.toNat := rfl
    rw [Nat.mod_eq_of_lt hw]; omega
  | ⟨2, _⟩ => apply Fin.ext; show 0 + 1 * (y 2).val = (y 2).val; omega

/-- A slab as a matrix. -/
def slabv (X : S1x1x4096x64.Idx → EReal) (w : BitVec 32) : S64x64.Idx → EReal := fun y => rowAt X w (y 0 : Fin 64) (y 1 : Fin 64)

theorem slab_eq (X : S1x1x4096x64.Idx → EReal) (w : BitVec 32) (hw : w.toNat < 64)
    (inb : ∀ a, (k1_off1 w) a + S1x1x64x64.size a ≤ S1x1x4096x64.size a) :
    shapeCast S64x64 (fun x => X ((Rect.unit (s := S1x1x4096x64) (k1_off1 w) S1x1x64x64.size inb).idx x))
        shapeCasts_S1x1x64x64_S64x64 = slabv X w := by
  funext y
  rw [show y = ix2 (y 0 : Fin 64) (y 1 : Fin 64) from funext fun a => match a with | ⟨0, _⟩ => rfl | ⟨1, _⟩ => rfl]
  exact slab_ix X w hw _ _ inb

/-- The same of the half-precision array, widened. -/
theorem slabV_ix (X : FVec Ideal S1x1x4096x64 .bf16) (w : BitVec 32) (hw : w.toNat < 64) (a b : Fin 64)
    (inb : ∀ a, (k1_off1 w) a + S1x1x64x64.size a ≤ S1x1x4096x64.size a) :
    extf (F := Ideal) .f32 (shapeCast S64x64 (fun x => X ((Rect.unit (s := S1x1x4096x64) (k1_off1 w) S1x1x64x64.size inb).idx x))
        shapeCasts_S1x1x64x64_S64x64) bitsLt_bf16_f32 (ix2 a b)
      = rowAt X w a b := slab_ix X w hw a b inb

theorem slabV_eq (X : FVec Ideal S1x1x4096x64 .bf16) (w : BitVec 32) (hw : w.toNat < 64)
    (inb : ∀ a, (k1_off1 w) a + S1x1x64x64.size a ≤ S1x1x4096x64.size a) :
    extf (F := Ideal) .f32 (shapeCast S64x64 (fun x => X ((Rect.unit (s := S1x1x4096x64) (k1_off1 w) S1x1x64x64.size inb).idx x))
        shapeCasts_S1x1x64x64_S64x64) bitsLt_bf16_f32 = slabv X w := slab_eq X w hw inb

/-- The scratch buffer, whole, its first `n` slabs those of `G`. -/
def Scr (c : Dev nD) (arg6 : Memref sig .tc .vmem S16x64x64 .f32) (G : S16x64x64.Idx → EReal) (n : ℕ) : sProp 𝕄 :=
  iprop(∃ f, ⌜Filled arg6.view f G n⌝ ∗ (View.loc (c : Thread nD τ) arg6.view ↦[arg6.view.set]{fullShare} f))

section Parts

variable (c : Dev nD) (E : Set ℕ) (i : grid1.Coords) (arg2 : Memref sig .tc .vmem S1x1x4096x64 .f32) (harg2 : arg2.IsWhole) (arg3 : Memref sig .tc .vmem S1x1x4096x64 .f32) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S16x64x64 .f32) (harg6 : arg6.IsWhole)
variable (rows cols : Fin 16 → BitVec 32) (hr : ∀ j, (rows j).toNat < 64) (hc : ∀ j, (cols j).toNat < 64)
variable (X : S1x1x4096x64.Idx → EReal) (G : S16x64x64.Idx → EReal)

theorem part13 (s : FVec Ideal S64x1 .f32) (K : _ → sProp 𝕄) :
    iprop(owns (c : Thread nD τ) arg3 fullShare X ∗ Scr c arg6 (gath X rows) 0
        ∗ (iprop(owns (c : Thread nD τ) arg3 fullShare X ∗ Scr c arg6 (gath X rows) 3) -∗ K ⟨selIdx s, (col_sel s).1, slabv X (rows 3)⟩))
      ⊢ wp frame (wpE (defs₀ (F := Ideal)) Variants.none c none) E
        (k1_part13 (F := Ideal) i arg2 harg2 arg3 harg3 arg4 harg4 arg5 harg5 arg6 harg6 (rows 0) (row_ok _ (hr 0)) (rows 1) (row_ok _ (hr 1)) (rows 2) (row_ok _ (hr 2)) (rows 3) (row_ok _ (hr 3)) (shapeCast S1x1x1 (selRed s) shapeCasts_S1_S1x1x1)) K := by
  rw [k1_part13_eq_skeleton]; unfold k1_part13_skel owns Scr
  iintro ⟨⟨%f3, %hf3, H3⟩, ⟨%f6, %hf6, H6⟩, HK⟩
  subst hf3
  sl_exec
  iapply (wp_assume _ _ _ _ (show k1_chk32 (selIdx s) from (col_sel s).1))
  sl_exec
  sl_step
  iapply (conv K ?h)
  rotate_left
  · iapply HK
    isplitl [H3]
    · iexists f3; isplitr; · ipureintro; rfl
      iexact H3
    iexists _; isplitr
    swap; · iexact H6
    ipureintro
    exact .step 2 (.step 1 (.step 0 .zero _ _ fun a b => slab_ix _ _ (hr 0) a b _) _ _ fun a b => slab_ix _ _ (hr 1) a b _) _ _ fun a b => slab_ix _ _ (hr 2) a b _
  · exact congrArg (fun p => (⟨selIdx s, (col_sel s).1, p⟩ : Σ' (v543 : BitVec 32) (_ : k1_chk32 v543), FVec Ideal S64x64 .f32)) (slab_eq _ _ (hr 3) _).symm

theorem part14 (K : _ → sProp 𝕄) :
    iprop(owns (c : Thread nD τ) arg3 fullShare X ∗ Scr c arg6 (gath X rows) 3
        ∗ (iprop(owns (c : Thread nD τ) arg3 fullShare X ∗ Scr c arg6 (gath X rows) 7) -∗ K (slabv X (rows 7))))
      ⊢ wp frame (wpE (defs₀ (F := Ideal)) Variants.none c none) E
        (k1_part14 (F := Ideal) i arg2 harg2 arg3 harg3 arg4 harg4 arg5 harg5 arg6 harg6 (rows 4) (row_ok _ (hr 4)) (rows 5) (row_ok _ (hr 5)) (rows 6) (row_ok _ (hr 6)) (rows 7) (row_ok _ (hr 7)) (slabv X (rows 3))) K := by
  rw [k1_part14_eq_skeleton]; unfold k1_part14_skel owns Scr
  iintro ⟨⟨%f3, %hf3, H3⟩, ⟨%f6, %hf, H6⟩, HK⟩
  subst hf3
  sl_exec
  sl_step
  iapply (conv K ?h)
  rotate_left
  · iapply HK
    isplitl [H3]
    · iexists f3; isplitr; · ipureintro; rfl
      iexact H3
    iexists _; isplitr
    swap; · iexact H6
    ipureintro
    exact .step 6 (.step 5 (.step 4 (.step 3 hf _ _ fun a b => rfl) _ _ fun a b => slab_ix (View.read (Elt Ideal) arg3.view f3) (rows 4) (hr 4) a b _) _ _ fun a b => slab_ix (View.read (Elt Ideal) arg3.view f3) (rows 5) (hr 5) a b _) _ _ fun a b => slab_ix (View.read (Elt Ideal) arg3.view f3) (rows 6) (hr 6) a b _
  · exact (slab_eq _ _ (hr 7) _).symm

theorem part15 (K : _ → sProp 𝕄) :
    iprop(owns (c : Thread nD τ) arg3 fullShare X ∗ Scr c arg6 (gath X rows) 7
        ∗ (iprop(owns (c : Thread nD τ) arg3 fullShare X ∗ Scr c arg6 (gath X rows) 11) -∗ K (slabv X (rows 11))))
      ⊢ wp frame (wpE (defs₀ (F := Ideal)) Variants.none c none) E
        (k1_part15 (F := Ideal) i arg2 harg2 arg3 harg3 arg4 harg4 arg5 harg5 arg6 harg6 (rows 8) (row_ok _ (hr 8)) (rows 9) (row_ok _ (hr 9)) (rows 10) (row_ok _ (hr 10)) (rows 11) (row_ok _ (hr 11)) (slabv X (rows 7))) K := by
  rw [k1_part15_eq_skeleton]; unfold k1_part15_skel owns Scr
  iintro ⟨⟨%f3, %hf3, H3⟩, ⟨%f6, %hf, H6⟩, HK⟩
  subst hf3
  sl_exec
  sl_step
  iapply (conv K ?h)
  rotate_left
  · iapply HK
    isplitl [H3]
    · iexists f3; isplitr; · ipureintro; rfl
      iexact H3
    iexists _; isplitr
    swap; · iexact H6
    ipureintro
    exact .step 10 (.step 9 (.step 8 (.step 7 hf _ _ fun a b => rfl) _ _ fun a b => slab_ix (View.read (Elt Ideal) arg3.view f3) (rows 8) (hr 8) a b _) _ _ fun a b => slab_ix (View.read (Elt Ideal) arg3.view f3) (rows 9) (hr 9) a b _) _ _ fun a b => slab_ix (View.read (Elt Ideal) arg3.view f3) (rows 10) (hr 10) a b _
  · exact (slab_eq _ _ (hr 11) _).symm

theorem part16 (K : _ → sProp 𝕄) :
    iprop(owns (c : Thread nD τ) arg3 fullShare X ∗ Scr c arg6 (gath X rows) 11
        ∗ (iprop(owns (c : Thread nD τ) arg3 fullShare X ∗ Scr c arg6 (gath X rows) 15) -∗ K (slabv X (rows 15))))
      ⊢ wp frame (wpE (defs₀ (F := Ideal)) Variants.none c none) E
        (k1_part16 (F := Ideal) i arg2 harg2 arg3 harg3 arg4 harg4 arg5 harg5 arg6 harg6 (rows 12) (row_ok _ (hr 12)) (rows 13) (row_ok _ (hr 13)) (rows 14) (row_ok _ (hr 14)) (rows 15) (row_ok _ (hr 15)) (slabv X (rows 11))) K := by
  rw [k1_part16_eq_skeleton]; unfold k1_part16_skel owns Scr
  iintro ⟨⟨%f3, %hf3, H3⟩, ⟨%f6, %hf, H6⟩, HK⟩
  subst hf3
  sl_exec
  sl_step
  iapply (conv K ?h)
  rotate_left
  · iapply HK
    isplitl [H3]
    · iexists f3; isplitr; · ipureintro; rfl
      iexact H3
    iexists _; isplitr
    swap; · iexact H6
    ipureintro
    exact .step 14 (.step 13 (.step 12 (.step 11 hf _ _ fun a b => rfl) _ _ fun a b => slab_ix (View.read (Elt Ideal) arg3.view f3) (rows 12) (hr 12) a b _) _ _ fun a b => slab_ix (View.read (Elt Ideal) arg3.view f3) (rows 13) (hr 13) a b _) _ _ fun a b => slab_ix (View.read (Elt Ideal) arg3.view f3) (rows 14) (hr 14) a b _
  · exact (slab_eq _ _ (hr 15) _).symm

theorem part17 (K : _ → sProp 𝕄) :
    iprop(Scr c arg6 (gath X rows) 15
        ∗ (Scr c arg6 (gath X rows) 16 -∗ K ⟨colAt (gath X rows) (cols 0), colAt (gath X rows) (cols 1), colAt (gath X rows) (cols 2), colAt (gath X rows) (cols 3), colAt (gath X rows) (cols 4), colAt (gath X rows) (cols 5), colAt (gath X rows) (cols 6), colAt (gath X rows) (cols 7), colAt (gath X rows) (cols 8), colAt (gath X rows) (cols 9), colAt (gath X rows) (cols 10), colAt (gath X rows) (cols 11), colAt (gath X rows) (cols 12), colAt (gath X rows) (cols 13)⟩))
      ⊢ wp frame (wpE (defs₀ (F := Ideal)) Variants.none c none) E
        (k1_part17 (F := Ideal) i arg2 harg2 arg3 harg3 arg4 harg4 arg5 harg5 arg6 harg6 (cols 0) (col_ok _ (hc 0)) (cols 1) (col_ok _ (hc 1)) (cols 2) (col_ok _ (hc 2)) (cols 3) (col_ok _ (hc 3)) (cols 4) (col_ok _ (hc 4)) (cols 5) (col_ok _ (hc 5)) (cols 6) (col_ok _ (hc 6)) (cols 7) (col_ok _ (hc 7)) (cols 8) (col_ok _ (hc 8)) (cols 9) (col_ok _ (hc 9)) (cols 10) (col_ok _ (hc 10)) (cols 11) (col_ok _ (hc 11)) (cols 12) (col_ok _ (hc 12)) (cols 13) (col_ok _ (hc 13)) (cols 14) (slabv X (rows 15))) K := by
  rw [k1_part17_eq_skeleton]; unfold k1_part17_skel Scr
  iintro ⟨⟨%f6, %hf, H6⟩, HK⟩
  sl_exec
  sl_step
  have hg : Filled arg6.view _ (gath X rows) 16 := .step (L := []) 15 hf inb_S16x64x64_S1x64x64_15_0_0 (slabv X (rows 15)) fun a b => rfl
  iapply (conv K ?h)
  rotate_left
  · iapply HK
    iexists _; isplitr
    swap; · iexact H6
    ipureintro
    exact hg
  · simp only [← hg.col _ (hc _) (k1_off17_inb _ (col_ok _ (hc _)))]
    rfl

theorem part18 (Y : S1x1x4096x64.Idx → EReal) (K : _ → sProp 𝕄) :
    iprop(owns (c : Thread nD τ) arg4 fullShare Y ∗ Scr c arg6 G 16
        ∗ (iprop(owns (c : Thread nD τ) arg4 fullShare Y ∗ Scr c arg6 (gath Y rows) 2)
          -∗ K ⟨k1_pay98 (F := Ideal) (colAt G (cols 0)) (colAt G (cols 1)) (colAt G (cols 2)) (colAt G (cols 3)) (colAt G (cols 4)) (colAt G (cols 5)) (colAt G (cols 6)) (colAt G (cols 7)) (colAt G (cols 8)) (colAt G (cols 9)) (colAt G (cols 10)) (colAt G (cols 11)) (colAt G (cols 12)) (colAt G (cols 13)) (colAt G (cols 14)) (colAt G (cols 15)), slabv Y (rows 2)⟩))
      ⊢ wp frame (wpE (defs₀ (F := Ideal)) Variants.none c none) E
        (k1_part18 (F := Ideal) i arg2 harg2 arg3 harg3 arg4 harg4 arg5 harg5 arg6 harg6 (rows 0) (row_ok _ (hr 0)) (rows 1) (row_ok _ (hr 1)) (rows 2) (row_ok _ (hr 2)) (cols 14) (col_ok _ (hc 14)) (cols 15) (col_ok _ (hc 15)).1 (colAt G (cols 0)) (colAt G (cols 1)) (colAt G (cols 2)) (colAt G (cols 3)) (colAt G (cols 4)) (colAt G (cols 5)) (colAt G (cols 6)) (colAt G (cols 7)) (colAt G (cols 8)) (colAt G (cols 9)) (colAt G (cols 10)) (colAt G (cols 11)) (colAt G (cols 12)) (colAt G (cols 13))) K := by
  rw [k1_part18_eq_skeleton]; unfold k1_part18_skel owns Scr
  iintro ⟨⟨%f3, %hf3, H3⟩, ⟨%f6, %hf, H6⟩, HK⟩
  subst hf3
  sl_exec
  sl_step
  iapply (conv K ?h)
  rotate_left
  · iapply HK
    isplitl [H3]
    · iexists f3; isplitr; · ipureintro; rfl
      iexact H3
    iexists _; isplitr
    swap; · iexact H6
    ipureintro
    exact .step 1 (.step 0 .zero _ _ fun a b => slabV_ix (View.read (Elt Ideal) arg4.view f3) (rows 0) (hr 0) a b _) _ _ fun a b => slabV_ix (View.read (Elt Ideal) arg4.view f3) (rows 1) (hr 1) a b _
  · rw [← hf.col (cols 14) (hc _) (k1_off17_inb _ (col_ok _ (hc _))), ← hf.col (cols 15) (hc _) (k1_off17_inb _ (col_ok _ (hc _))),
      ← slabV_eq _ _ (hr 2) (k1_off1_inb _ (row_ok _ (hr 2)))]
    rfl

theorem part19 (K : _ → sProp 𝕄) :
    iprop(owns (c : Thread nD τ) arg4 fullShare X ∗ Scr c arg6 (gath X rows) 2
        ∗ (iprop(owns (c : Thread nD τ) arg4 fullShare X ∗ Scr c arg6 (gath X rows) 6) -∗ K ⟨⟩))
      ⊢ wp frame (wpE (defs₀ (F := Ideal)) Variants.none c none) E
        (k1_part19 (F := Ideal) i arg2 harg2 arg3 harg3 arg4 harg4 arg5 harg5 arg6 harg6 (rows 3) (row_ok _ (hr 3)) (rows 4) (row_ok _ (hr 4)) (rows 5) (row_ok _ (hr 5)) (rows 6) (slabv X (rows 2))) K := by
  rw [k1_part19_eq_skeleton]; unfold k1_part19_skel owns Scr
  iintro ⟨⟨%f3, %hf3, H3⟩, ⟨%f6, %hf, H6⟩, HK⟩
  subst hf3
  sl_exec
  sl_step
  iapply (conv K ?h)
  rotate_left
  · iapply HK
    isplitl [H3]
    · iexists f3; isplitr; · ipureintro; rfl
      iexact H3
    iexists _; isplitr
    swap; · iexact H6
    ipureintro
    exact .step 5 (.step 4 (.step 3 (.step 2 hf _ _ fun a b => rfl) _ _ fun a b => slabV_ix (View.read (Elt Ideal) arg4.view f3) (rows 3) (hr 3) a b _) _ _ fun a b => slabV_ix (View.read (Elt Ideal) arg4.view f3) (rows 4) (hr 4) a b _) _ _ fun a b => slabV_ix (View.read (Elt Ideal) arg4.view f3) (rows 5) (hr 5) a b _
  · rfl

theorem part20 (K : _ → sProp 𝕄) :
    iprop(owns (c : Thread nD τ) arg4 fullShare X ∗ Scr c arg6 (gath X rows) 6
        ∗ (iprop(owns (c : Thread nD τ) arg4 fullShare X ∗ Scr c arg6 (gath X rows) 10) -∗ K (Scalar.muli (rows 10) 64#32)))
      ⊢ wp frame (wpE (defs₀ (F := Ideal)) Variants.none c none) E
        (k1_part20 (F := Ideal) i arg2 harg2 arg3 harg3 arg4 harg4 arg5 harg5 arg6 harg6 (rows 6) (row_ok _ (hr 6)) (rows 7) (row_ok _ (hr 7)) (rows 8) (row_ok _ (hr 8)) (rows 9) (row_ok _ (hr 9)) (rows 10)) K := by
  rw [k1_part20_eq_skeleton]; unfold k1_part20_skel owns Scr
  iintro ⟨⟨%f3, %hf3, H3⟩, ⟨%f6, %hf, H6⟩, HK⟩
  subst hf3
  sl_exec
  sl_step
  iapply (conv K ?h)
  rotate_left
  · iapply HK
    isplitl [H3]
    · iexists f3; isplitr; · ipureintro; rfl
      iexact H3
    iexists _; isplitr
    swap; · iexact H6
    ipureintro
    exact .step 9 (.step 8 (.step 7 (.step 6 hf _ _ fun a b => slabV_ix (View.read (Elt Ideal) arg4.view f3) (rows 6) (hr 6) a b _) _ _ fun a b => slabV_ix (View.read (Elt Ideal) arg4.view f3) (rows 7) (hr 7) a b _) _ _ fun a b => slabV_ix (View.read (Elt Ideal) arg4.view f3) (rows 8) (hr 8) a b _) _ _ fun a b => slabV_ix (View.read (Elt Ideal) arg4.view f3) (rows 9) (hr 9) a b _
  · rfl

theorem part21 (K : _ → sProp 𝕄) :
    iprop(owns (c : Thread nD τ) arg4 fullShare X ∗ Scr c arg6 (gath X rows) 10
        ∗ (iprop(owns (c : Thread nD τ) arg4 fullShare X ∗ Scr c arg6 (gath X rows) 13) -∗ K (slabv X (rows 13))))
      ⊢ wp frame (wpE (defs₀ (F := Ideal)) Variants.none c none) E
        (k1_part21 (F := Ideal) i arg2 harg2 arg3 harg3 arg4 harg4 arg5 harg5 arg6 harg6 (rows 10) (row_ok _ (hr 10)) (rows 11) (row_ok _ (hr 11)) (rows 12) (row_ok _ (hr 12)) (rows 13) (row_ok _ (hr 13)) (Scalar.muli (rows 10) 64#32)) K := by
  rw [k1_part21_eq_skeleton]; unfold k1_part21_skel owns Scr
  iintro ⟨⟨%f3, %hf3, H3⟩, ⟨%f6, %hf, H6⟩, HK⟩
  subst hf3
  sl_exec
  sl_step
  iapply (conv K ?h)
  rotate_left
  · iapply HK
    isplitl [H3]
    · iexists f3; isplitr; · ipureintro; rfl
      iexact H3
    iexists _; isplitr
    swap; · iexact H6
    ipureintro
    exact .step 12 (.step 11 (.step 10 hf _ _ fun a b => slabV_ix (View.read (Elt Ideal) arg4.view f3) (rows 10) (hr 10) a b _) _ _ fun a b => slabV_ix (View.read (Elt Ideal) arg4.view f3) (rows 11) (hr 11) a b _) _ _ fun a b => slabV_ix (View.read (Elt Ideal) arg4.view f3) (rows 12) (hr 12) a b _
  · exact (slabV_eq _ _ (hr 13) _).symm

theorem part22 (K : _ → sProp 𝕄) :
    iprop(owns (c : Thread nD τ) arg4 fullShare X ∗ Scr c arg6 (gath X rows) 13
        ∗ (iprop(owns (c : Thread nD τ) arg4 fullShare X ∗ Scr c arg6 (gath X rows) 16) -∗ K ⟨colAt (gath X rows) (cols 0), colAt (gath X rows) (cols 1), colAt (gath X rows) (cols 2), colAt (gath X rows) (cols 3), colAt (gath X rows) (cols 4), colAt (gath X rows) (cols 5)⟩))
      ⊢ wp frame (wpE (defs₀ (F := Ideal)) Variants.none c none) E
        (k1_part22 (F := Ideal) i arg2 harg2 arg3 harg3 arg4 harg4 arg5 harg5 arg6 harg6 (rows 14) (row_ok _ (hr 14)) (rows 15) (row_ok _ (hr 15)) (cols 0) (col_ok _ (hc 0)) (cols 1) (col_ok _ (hc 1)) (cols 2) (col_ok _ (hc 2)) (cols 3) (col_ok _ (hc 3)) (cols 4) (col_ok _ (hc 4)) (cols 5) (col_ok _ (hc 5)) (cols 6) (slabv X (rows 13))) K := by
  rw [k1_part22_eq_skeleton]; unfold k1_part22_skel owns Scr
  iintro ⟨⟨%f3, %hf3, H3⟩, ⟨%f6, %hf, H6⟩, HK⟩
  subst hf3
  sl_exec
  sl_step
  have hg : Filled arg6.view _ (gath (View.read (Elt Ideal) arg4.view f3) rows) 16 := .step 15 (.step 14 (.step (L := []) 13 hf inb_S16x64x64_S1x64x64_13_0_0 (slabv (View.read (Elt Ideal) arg4.view f3) (rows 13)) fun a b => rfl) inb_S16x64x64_S1x64x64_14_0_0 _ fun a b => slabV_ix (View.read (Elt Ideal) arg4.view f3) (rows 14) (hr 14) a b (k1_off1_inb _ (row_ok _ (hr 14)))) inb_S16x64x64_S1x64x64_15_0_0 _ fun a b => slabV_ix (View.read (Elt Ideal) arg4.view f3) (rows 15) (hr 15) a b (k1_off1_inb _ (row_ok _ (hr 15)))
  iapply (conv K ?h)
  rotate_left
  · iapply HK
    isplitl [H3]
    · iexists f3; isplitr; · ipureintro; rfl
      iexact H3
    iexists _; isplitr
    swap; · iexact H6
    ipureintro
    exact .step 15 (.step 14 (.step 13 hf _ _ fun a b => rfl) _ _ fun a b => slabV_ix (View.read (Elt Ideal) arg4.view f3) (rows 14) (hr 14) a b _) _ _ fun a b => slabV_ix (View.read (Elt Ideal) arg4.view f3) (rows 15) (hr 15) a b _
  · simp only [← hg.col _ (hc _) (k1_off17_inb _ (col_ok _ (hc _)))]
    rfl

theorem part23 (v11 : FVec Ideal S4096x64 .f32) (v697 : FVec Ideal S256x64 .f32) (K : _ → sProp 𝕄) :
    iprop(Scr c arg6 G 16 ∗ (Scr c arg6 G 16 -∗ K (k1_pay117 (F := Ideal) v11 v697 (colAt G (cols 0)) (colAt G (cols 1)) (colAt G (cols 2)) (colAt G (cols 3)) (colAt G (cols 4)) (colAt G (cols 5)) (colAt G (cols 6)) (colAt G (cols 7)) (colAt G (cols 8)) (colAt G (cols 9)) (colAt G (cols 10)) (colAt G (cols 11)) (colAt G (cols 12)) (colAt G (cols 13)) (colAt G (cols 14)) (colAt G (cols 15)))))
      ⊢ wp frame (wpE (defs₀ (F := Ideal)) Variants.none c none) E
        (k1_part23 (F := Ideal) i arg2 harg2 arg3 harg3 arg4 harg4 arg5 harg5 arg6 harg6 v11 (cols 6) (col_ok _ (hc 6)) (cols 7) (col_ok _ (hc 7)) (cols 8) (col_ok _ (hc 8)) (cols 9) (col_ok _ (hc 9)) (cols 10) (col_ok _ (hc 10)) (cols 11) (col_ok _ (hc 11)) (cols 12) (col_ok _ (hc 12)) (cols 13) (col_ok _ (hc 13)) (cols 14) (col_ok _ (hc 14)) (cols 15) (col_ok _ (hc 15)).1 v697 (colAt G (cols 0)) (colAt G (cols 1)) (colAt G (cols 2)) (colAt G (cols 3)) (colAt G (cols 4)) (colAt G (cols 5))) K := by
  rw [k1_part23_eq_skeleton]; unfold k1_part23_skel Scr
  iintro ⟨⟨%f6, %hf, H6⟩, HK⟩
  sl_exec
  sl_step
  iapply (conv K ?h)
  rotate_left
  · iapply HK
    iexists _; isplitr
    swap; · iexact H6
    ipureintro
    exact hf
  · simp only [← hf.col _ (hc _) (k1_off17_inb _ (col_ok _ (hc _)))]
    rfl

end Parts

end Cert.Proof.R1

end
-- ==== Proof.Region1Body.lean ====
/-
  The attention region's body: the parts that select rows and columns.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp
public import proofs.«01_k».proof.Proof.Region1Mem
public import Idealize.ShloMosaic.Lib.ValueIdx
public import Idealize.ShloMosaic.Lib.ValueLayout
public import Idealize.ShloMosaic.Lib.VecWindow

@[expose] public section

set_option maxRecDepth 16384

noncomputable section

namespace Cert.Proof.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Select
open Idealize.ShloMosaic.Pipeline (Dat Cfg Window BodyObligation cellOf)

local notation "𝕄" => MT nD τ sig Unit (Elt Ideal) ℕ (UR sig nD τ) ℕ

/-- The `j`-th position picked from a column of scores. -/
def pick (s : FVec Ideal S64x1 .f32) (j : Fin 16) : BitVec 32 := selIdx (selSeq s j.val)

theorem pick_lt (s : FVec Ideal S64x1 .f32) (j : Fin 16) : (pick s j).toNat < 64 := selIdx_lt _

/-- A load of the whole block is the block. -/
theorem ld_whole (X : S1x1x4096x64.Idx → EReal) (inb : ∀ a, (![0, 0, 0, 0] : Fin 4 → ℕ) a + S1x1x4096x64.size a ≤ S1x1x4096x64.size a) :
    (fun x => X ((Rect.unit (s := S1x1x4096x64) ![0, 0, 0, 0] S1x1x4096x64.size inb).idx x)) = X := by
  funext x
  congr 1
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
  | ⟨3, _⟩ => show 0 + 1 * (x 3).val = (x 3).val; omega

section Body

variable (c : Dev nD) (E : Set ℕ) (i : grid1.Coords) (arg2 : Memref sig .tc .vmem S1x1x4096x64 .f32) (harg2 : arg2.IsWhole) (arg3 : Memref sig .tc .vmem S1x1x4096x64 .f32) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S16x64x64 .f32) (harg6 : arg6.IsWhole)

theorem part1 (q k : FVec Ideal S1x1x4096x64 .f32) (K : _ → sProp 𝕄) :
    iprop(owns (c : Thread nD τ) arg2 fullShare q ∗ owns (c : Thread nD τ) arg3 fullShare k
        ∗ (iprop(owns (c : Thread nD τ) arg2 fullShare q ∗ owns (c : Thread nD τ) arg3 fullShare k)
          -∗ K ⟨k1_pay2 q, k1_pay5 q k, k1_pay6 q k, pos, shapeCast S1x64x1 (k1_pay5 q k) shapeCasts_S64x1_S1x64x1⟩))
      ⊢ wp frame (wpE (defs₀ (F := Ideal)) Variants.none c none) E (k1_part1 (F := Ideal) i arg2 harg2 arg3 harg3 arg4 harg4 arg5 harg5 arg6 harg6) K := by
  rw [k1_part1_eq_skeleton]; unfold k1_part1_skel owns
  iintro ⟨⟨%f2, %h2, H2⟩, ⟨%f3, %h3, H3⟩, HK⟩
  sl_exec
  sl_step
  iapply (conv K ?h)
  rotate_left
  · iapply HK
    isplitl [H2]
    · iexists f2; isplitr; · ipureintro; exact h2
      iexact H2
    iexists f3; isplitr; · ipureintro; exact h3
    iexact H3
  · rw [← ld_whole q inb_S1x1x4096x64_S1x1x4096x64_0_0_0_0, ← ld_whole k inb_S1x1x4096x64_S1x1x4096x64_0_0_0_0, ← h2, ← h3]
    rfl

/-- What the body leaves in the output block, from the three input blocks. -/
def out1 (q k : FVec Ideal S1x1x4096x64 .f32) (v : FVec Ideal S1x1x4096x64 .bf16) : FVec Ideal S1x1x4096x64 .bf16 :=
  k1_pay1 (F := Ideal) (k1_pay117 (F := Ideal) (k1_pay2 q) (k1_pay98 (F := Ideal) (colAt (gath k (pick (k1_pay5 q k))) (pick (k1_pay6 q k) 0)) (colAt (gath k (pick (k1_pay5 q k))) (pick (k1_pay6 q k) 1)) (colAt (gath k (pick (k1_pay5 q k))) (pick (k1_pay6 q k) 2)) (colAt (gath k (pick (k1_pay5 q k))) (pick (k1_pay6 q k) 3)) (colAt (gath k (pick (k1_pay5 q k))) (pick (k1_pay6 q k) 4)) (colAt (gath k (pick (k1_pay5 q k))) (pick (k1_pay6 q k) 5)) (colAt (gath k (pick (k1_pay5 q k))) (pick (k1_pay6 q k) 6)) (colAt (gath k (pick (k1_pay5 q k))) (pick (k1_pay6 q k) 7)) (colAt (gath k (pick (k1_pay5 q k))) (pick (k1_pay6 q k) 8)) (colAt (gath k (pick (k1_pay5 q k))) (pick (k1_pay6 q k) 9)) (colAt (gath k (pick (k1_pay5 q k))) (pick (k1_pay6 q k) 10)) (colAt (gath k (pick (k1_pay5 q k))) (pick (k1_pay6 q k) 11)) (colAt (gath k (pick (k1_pay5 q k))) (pick (k1_pay6 q k) 12)) (colAt (gath k (pick (k1_pay5 q k))) (pick (k1_pay6 q k) 13)) (colAt (gath k (pick (k1_pay5 q k))) (pick (k1_pay6 q k) 14)) (colAt (gath k (pick (k1_pay5 q k))) (pick (k1_pay6 q k) 15))) (colAt (gath v (pick (k1_pay5 q k))) (pick (k1_pay6 q k) 0)) (colAt (gath v (pick (k1_pay5 q k))) (pick (k1_pay6 q k) 1)) (colAt (gath v (pick (k1_pay5 q k))) (pick (k1_pay6 q k) 2)) (colAt (gath v (pick (k1_pay5 q k))) (pick (k1_pay6 q k) 3)) (colAt (gath v (pick (k1_pay5 q k))) (pick (k1_pay6 q k) 4)) (colAt (gath v (pick (k1_pay5 q k))) (pick (k1_pay6 q k) 5)) (colAt (gath v (pick (k1_pay5 q k))) (pick (k1_pay6 q k) 6)) (colAt (gath v (pick (k1_pay5 q k))) (pick (k1_pay6 q k) 7)) (colAt (gath v (pick (k1_pay5 q k))) (pick (k1_pay6 q k) 8)) (colAt (gath v (pick (k1_pay5 q k))) (pick (k1_pay6 q k) 9)) (colAt (gath v (pick (k1_pay5 q k))) (pick (k1_pay6 q k) 10)) (colAt (gath v (pick (k1_pay5 q k))) (pick (k1_pay6 q k) 11)) (colAt (gath v (pick (k1_pay5 q k))) (pick (k1_pay6 q k) 12)) (colAt (gath v (pick (k1_pay5 q k))) (pick (k1_pay6 q k) 13)) (colAt (gath v (pick (k1_pay5 q k))) (pick (k1_pay6 q k) 14)) (colAt (gath v (pick (k1_pay5 q k))) (pick (k1_pay6 q k) 15)))

set_option maxHeartbeats 4000000 in
theorem sound_kernel (q k : FVec Ideal S1x1x4096x64 .f32) (v : FVec Ideal S1x1x4096x64 .bf16) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ (∃ d, owns (c : Thread nD τ) arg6 fullShare d)
        ∗ (iprop(owns (c : Thread nD τ) arg2 fullShare q ∗ owns (c : Thread nD τ) arg3 fullShare k ∗ owns (c : Thread nD τ) arg4 fullShare v
            ∗ owns (c : Thread nD τ) arg5 fullShare (out1 q k v) ∗ (∃ d, owns (c : Thread nD τ) arg6 fullShare d)) -∗ K ⟨⟩))
      ⊢ wp frame (wpE (defs₀ (F := Ideal)) Variants.none c none) E (cc1__attn_kernel (F := Ideal) i arg2 harg2 arg3 harg3 arg4 harg4 arg5 harg5 arg6 harg6) K := by
  rw [cc1__attn_kernel_eq_skeleton]; unfold cc1__attn_kernel_skel
  iintro ⟨H2, H3, H4, H5, H6, HK⟩
  rw [wp_bind]
  iapply (part1 c E i arg2 harg2 arg3 harg3 arg4 harg4 arg5 harg5 arg6 harg6 q k _)
  isplitl [H2]; · iexact H2
  isplitl [H3]; · iexact H3
  iintro ⟨H2, H3⟩
  dsimp only
  unfold out1
  generalize hs : k1_pay5 (F := Ideal) q k = s
  generalize hu : k1_pay6 (F := Ideal) q k = u
  have p2 (K : _ → sProp 𝕄) : K ⟨pick s 0, row_ok _ (pick_lt s 0), pick s 1, row_ok _ (pick_lt s 1), (selSeq s 2), pick s 2, row_ok _ (pick_lt s 2), (cmpi .eq pos (broadcast S64x1 (pick s 2))), (Scalar.ofBits .f32 0xFF800000#32)⟩ ⊢ wp frame (wpE (defs₀ (F := Ideal)) Variants.none c none) E
      (k1_part2 (F := Ideal) i arg2 harg2 arg3 harg3 arg4 harg4 arg5 harg5 arg6 harg6 s pos (shapeCast S1x64x1 s shapeCasts_S64x1_S1x64x1)) K := part2 c E i arg2 harg2 arg3 harg3 arg4 harg4 arg5 harg5 arg6 harg6 s K
  rw [wp_bind]
  iapply (p2 _)
  dsimp only
  have p3 (K : _ → sProp 𝕄) : K ⟨pick s 3, row_ok _ (pick_lt s 3), pick s 4, row_ok _ (pick_lt s 4), (selSeq s 5), pick s 5, row_ok _ (pick_lt s 5)⟩ ⊢ wp frame (wpE (defs₀ (F := Ideal)) Variants.none c none) E
      (k1_part3 (F := Ideal) i arg2 harg2 arg3 harg3 arg4 harg4 arg5 harg5 arg6 harg6 pos (selSeq s 2) (cmpi .eq pos (broadcast S64x1 (pick s 2))) (Scalar.ofBits .f32 0xFF800000#32)) K := part3 c E i arg2 harg2 arg3 harg3 arg4 harg4 arg5 harg5 arg6 harg6 (selSeq s 2) K
  rw [wp_bind]
  iapply (p3 _)
  dsimp only
  have p4 (K : _ → sProp 𝕄) : K ⟨pick s 6, row_ok _ (pick_lt s 6), pick s 7, row_ok _ (pick_lt s 7), (selSeq s 8), (selRed (selSeq s 8))⟩ ⊢ wp frame (wpE (defs₀ (F := Ideal)) Variants.none c none) E
      (k1_part4 (F := Ideal) i arg2 harg2 arg3 harg3 arg4 harg4 arg5 harg5 arg6 harg6 pos (selSeq s 5) (pick s 5)) K := part4 c E i arg2 harg2 arg3 harg3 arg4 harg4 arg5 harg5 arg6 harg6 (selSeq s 5) K
  rw [wp_bind]
  iapply (p4 _)
  dsimp only
  have p5 (K : _ → sProp 𝕄) : K ⟨pick s 8, row_ok _ (pick_lt s 8), pick s 9, row_ok _ (pick_lt s 9), pick s 10, row_ok _ (pick_lt s 10), (selSeq s 11), selCand (selSeq s 11)⟩ ⊢ wp frame (wpE (defs₀ (F := Ideal)) Variants.none c none) E
      (k1_part5 (F := Ideal) i arg2 harg2 arg3 harg3 arg4 harg4 arg5 harg5 arg6 harg6 pos (selSeq s 8) (selRed (selSeq s 8))) K := part5 c E i arg2 harg2 arg3 harg3 arg4 harg4 arg5 harg5 arg6 harg6 (selSeq s 8) K
  rw [wp_bind]
  iapply (p5 _)
  dsimp only
  have p6 (K : _ → sProp 𝕄) : K ⟨pick s 11, row_ok _ (pick_lt s 11), pick s 12, row_ok _ (pick_lt s 12), pick s 13, row_ok _ (pick_lt s 13), (selSeq s 14), selEq (selSeq s 14)⟩ ⊢ wp frame (wpE (defs₀ (F := Ideal)) Variants.none c none) E
      (k1_part6 (F := Ideal) i arg2 harg2 arg3 harg3 arg4 harg4 arg5 harg5 arg6 harg6 pos (selSeq s 11) (selCand (selSeq s 11))) K := part6 c E i arg2 harg2 arg3 harg3 arg4 harg4 arg5 harg5 arg6 harg6 (selSeq s 11) K
  rw [wp_bind]
  iapply (p6 _)
  dsimp only
  have p7 (K : _ → sProp 𝕄) : K ⟨pick s 14, row_ok _ (pick_lt s 14), pick s 15, row_ok _ (pick_lt s 15), pos, pick u 0, col_ok _ (pick_lt u 0), (selSeq u 1), selEq (selSeq u 1), 64#32⟩ ⊢ wp frame (wpE (defs₀ (F := Ideal)) Variants.none c none) E
      (k1_part7 (F := Ideal) i arg2 harg2 arg3 harg3 arg4 harg4 arg5 harg5 arg6 harg6 u pos (selSeq s 14) (selEq (selSeq s 14))) K := part7 c E i arg2 harg2 arg3 harg3 arg4 harg4 arg5 harg5 arg6 harg6 (selSeq s 14) u K
  rw [wp_bind]
  iapply (p7 _)
  dsimp only
  have p8 (K : _ → sProp 𝕄) : K ⟨pick u 1, col_ok _ (pick_lt u 1), pick u 2, col_ok _ (pick_lt u 2), pick u 3, col_ok _ (pick_lt u 3), (selSeq u 4), topOf (selSeq u 4)⟩ ⊢ wp frame (wpE (defs₀ (F := Ideal)) Variants.none c none) E
      (k1_part8 (F := Ideal) i arg2 harg2 arg3 harg3 arg4 harg4 arg5 harg5 arg6 harg6 pos (selSeq u 1) (selEq (selSeq u 1)) 64#32) K := part8 c E i arg2 harg2 arg3 harg3 arg4 harg4 arg5 harg5 arg6 harg6 (selSeq u 1) K
  rw [wp_bind]
  iapply (p8 _)
  dsimp only
  have p9 (K : _ → sProp 𝕄) : K ⟨pick u 4, col_ok _ (pick_lt u 4), pick u 5, col_ok _ (pick_lt u 5), pick u 6, col_ok _ (pick_lt u 6), (selSeq u 7), (shapeCast S1x64x1 (selSeq u 7) shapeCasts_S64x1_S1x64x1)⟩ ⊢ wp frame (wpE (defs₀ (F := Ideal)) Variants.none c none) E
      (k1_part9 (F := Ideal) i arg2 harg2 arg3 harg3 arg4 harg4 arg5 harg5 arg6 harg6 pos (selSeq u 4) (topOf (selSeq u 4))) K := part9 c E i arg2 harg2 arg3 harg3 arg4 harg4 arg5 harg5 arg6 harg6 (selSeq u 4) K
  rw [wp_bind]
  iapply (p9 _)
  dsimp only
  have p10 (K : _ → sProp 𝕄) : K ⟨pick u 7, col_ok _ (pick_lt u 7), pick u 8, col_ok _ (pick_lt u 8), (selSeq u 9), pick u 9, col_ok _ (pick_lt u 9), (cmpi .eq pos (broadcast S64x1 (pick u 9))), broadcast S64x1 (Scalar.ofBits .f32 0xFF800000#32)⟩ ⊢ wp frame (wpE (defs₀ (F := Ideal)) Variants.none c none) E
      (k1_part10 (F := Ideal) i arg2 harg2 arg3 harg3 arg4 harg4 arg5 harg5 arg6 harg6 pos (selSeq u 7) (shapeCast S1x64x1 (selSeq u 7) shapeCasts_S64x1_S1x64x1)) K := part10 c E i arg2 harg2 arg3 harg3 arg4 harg4 arg5 harg5 arg6 harg6 (selSeq u 7) K
  rw [wp_bind]
  iapply (p10 _)
  dsimp only
  have p11 (K : _ → sProp 𝕄) : K ⟨pick u 10, col_ok _ (pick_lt u 10), pick u 11, col_ok _ (pick_lt u 11), (selSeq u 12), pick u 12, col_ok _ (pick_lt u 12), broadcast S64x1 (pick u 12)⟩ ⊢ wp frame (wpE (defs₀ (F := Ideal)) Variants.none c none) E
      (k1_part11 (F := Ideal) i arg2 harg2 arg3 harg3 arg4 harg4 arg5 harg5 arg6 harg6 pos (selSeq u 9) (cmpi .eq pos (broadcast S64x1 (pick u 9))) (broadcast S64x1 (Scalar.ofBits .f32 0xFF800000#32))) K := part11 c E i arg2 harg2 arg3 harg3 arg4 harg4 arg5 harg5 arg6 harg6 (selSeq u 9) K
  rw [wp_bind]
  iapply (p11 _)
  dsimp only
  have p12 (K : _ → sProp 𝕄) : K ⟨pick u 13, col_ok _ (pick_lt u 13), pick u 14, col_ok _ (pick_lt u 14), shapeCast S1x1x1 (selRed (selSeq u 15)) shapeCasts_S1_S1x1x1⟩ ⊢ wp frame (wpE (defs₀ (F := Ideal)) Variants.none c none) E
      (k1_part12 (F := Ideal) i arg2 harg2 arg3 harg3 arg4 harg4 arg5 harg5 arg6 harg6 pos (selSeq u 12) (broadcast S64x1 (pick u 12))) K := part12 c E i arg2 harg2 arg3 harg3 arg4 harg4 arg5 harg5 arg6 harg6 (selSeq u 12) K
  rw [wp_bind]
  iapply (p12 _)
  dsimp only
  rw [wp_bind]
  icases H6 with ⟨%d6, H6⟩
  have hscr : owns (c : Thread nD τ) arg6 fullShare d6 ⊢ Scr c arg6 (gath k (pick s)) 0 := by
    unfold owns Scr
    iintro ⟨%f, -, H⟩
    iexists f; isplitr; · ipureintro; exact .zero
    iexact H
  ihave H6 := hscr $$ H6
  iapply (part13 c E i arg2 harg2 arg3 harg3 arg4 harg4 arg5 harg5 arg6 harg6 (pick s) (pick_lt s) k (selSeq u 15) _)
  isplitl [H3]; · iexact H3
  isplitl [H6]; · iexact H6
  iintro ⟨H3, H6⟩
  dsimp only
  rw [wp_bind]
  iapply (part14 c E i arg2 harg2 arg3 harg3 arg4 harg4 arg5 harg5 arg6 harg6 (pick s) (pick_lt s) k _)
  isplitl [H3]; · iexact H3
  isplitl [H6]; · iexact H6
  iintro ⟨H3, H6⟩
  rw [wp_bind]
  iapply (part15 c E i arg2 harg2 arg3 harg3 arg4 harg4 arg5 harg5 arg6 harg6 (pick s) (pick_lt s) k _)
  isplitl [H3]; · iexact H3
  isplitl [H6]; · iexact H6
  iintro ⟨H3, H6⟩
  rw [wp_bind]
  iapply (part16 c E i arg2 harg2 arg3 harg3 arg4 harg4 arg5 harg5 arg6 harg6 (pick s) (pick_lt s) k _)
  isplitl [H3]; · iexact H3
  isplitl [H6]; · iexact H6
  iintro ⟨H3, H6⟩
  rw [wp_bind]
  iapply (part17 c E i arg2 harg2 arg3 harg3 arg4 harg4 arg5 harg5 arg6 harg6 (pick s) (pick u) (pick_lt u) k _)
  isplitl [H6]; · iexact H6
  iintro H6
  dsimp only
  rw [wp_bind]
  iapply (part18 c E i arg2 harg2 arg3 harg3 arg4 harg4 arg5 harg5 arg6 harg6 (pick s) (pick u) (pick_lt s) (pick_lt u) (gath k (pick s)) v _)
  isplitl [H4]; · iexact H4
  isplitl [H6]; · iexact H6
  iintro ⟨H4, H6⟩
  dsimp only
  rw [wp_bind]
  iapply (part19 c E i arg2 harg2 arg3 harg3 arg4 harg4 arg5 harg5 arg6 harg6 (pick s) (pick_lt s) v _)
  isplitl [H4]; · iexact H4
  isplitl [H6]; · iexact H6
  iintro ⟨H4, H6⟩
  rw [wp_bind]
  iapply (part20 c E i arg2 harg2 arg3 harg3 arg4 harg4 arg5 harg5 arg6 harg6 (pick s) (pick_lt s) v _)
  isplitl [H4]; · iexact H4
  isplitl [H6]; · iexact H6
  iintro ⟨H4, H6⟩
  rw [wp_bind]
  iapply (part21 c E i arg2 harg2 arg3 harg3 arg4 harg4 arg5 harg5 arg6 harg6 (pick s) (pick_lt s) v _)
  isplitl [H4]; · iexact H4
  isplitl [H6]; · iexact H6
  iintro ⟨H4, H6⟩
  rw [wp_bind]
  iapply (part22 c E i arg2 harg2 arg3 harg3 arg4 harg4 arg5 harg5 arg6 harg6 (pick s) (pick u) (pick_lt s) (pick_lt u) v _)
  isplitl [H4]; · iexact H4
  isplitl [H6]; · iexact H6
  iintro ⟨H4, H6⟩
  dsimp only
  rw [wp_bind]
  iapply (part23 c E i arg2 harg2 arg3 harg3 arg4 harg4 arg5 harg5 arg6 harg6 (pick u) (pick_lt u) (gath v (pick s)) _ _ _)
  isplitl [H6]; · iexact H6
  iintro H6
  icases H5 with ⟨%d5, H5⟩
  unfold owns Scr
  icases H5 with ⟨%f5, -, H5⟩
  sl_exec
  sl_step
  iapply HK
  isplitl [H2]; · iexact H2
  isplitl [H3]; · iexact H3
  isplitl [H4]; · iexact H4
  isplitl [H5]
  · iexists _; isplitr
    swap; · iexact H5
    ipureintro
    exact View.read_writes_full _ _ _ _ _
  icases H6 with ⟨%f6, -, H6⟩
  iexists _
  iexists f6; isplitr; · ipureintro; rfl
  iexact H6

end Body

end Cert.Proof.R1

end
-- ==== Proof.Region1.lean ====
/-
  The attention region's body: the parts that select rows and columns.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp
public import proofs.«01_k».proof.Proof.Region1Body
public import Idealize.ShloMosaic.Lib.ValueIdx
public import Idealize.ShloMosaic.Lib.ValueLayout

@[expose] public section

set_option maxRecDepth 16384

noncomputable section

namespace Cert.Proof.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Select
open Idealize.ShloMosaic.Pipeline (Dat Cfg Window BodyObligation cellOf)

local notation "𝕄" => MT nD τ sig Unit (Elt Ideal) ℕ (UR sig nD τ) ℕ

variable (V : (c : Dev nD) → (b : Ref sig .tc) → Buf (Elt Ideal) ((c : Thread nD τ).loc b))

/-! ## The blocks the body reads -/

/-- Window `w`'s block at point `t`, read off its array as the region finds it (`V`). -/
def iblk (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

theorem before1_0_of {c : Dev nD} (d₀ : Dat τ (Elt Ideal) Unit ℕ (UR sig nD τ) ℕ cfg1 c) (hA : d₀.A 0 = V c (Pipeline.arrRef spec1 0))
    (hafter : ∀ t, d₀.after 0 t = iblk V c 0 t) (t : Fin cfg1.N) (d) : d₀.before 0 t d = iblk V c 0 t :=
  (d₀.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_1_of {c : Dev nD} (d₀ : Dat τ (Elt Ideal) Unit ℕ (UR sig nD τ) ℕ cfg1 c) (hA : d₀.A 1 = V c (Pipeline.arrRef spec1 1))
    (hafter : ∀ t, d₀.after 1 t = iblk V c 1 t) (t : Fin cfg1.N) (d) : d₀.before 1 t d = iblk V c 1 t :=
  (d₀.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before1_2_of {c : Dev nD} (d₀ : Dat τ (Elt Ideal) Unit ℕ (UR sig nD τ) ℕ cfg1 c) (hA : d₀.A 2 = V c (Pipeline.arrRef spec1 2))
    (hafter : ∀ t, d₀.after 2 t = iblk V c 2 t) (t : Fin cfg1.N) (d) : d₀.before 2 t d = iblk V c 2 t :=
  (d₀.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The arrays as the region finds them; after the body each input's buffer at its block and the output's at `out1` of
    the input blocks; the scoped buffers that are no window's, the scratch among them, at any contents; nothing owed. -/
def dat (c : Dev nD) : Dat τ (Elt Ideal) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out1 (iblk V c 0 t) (iblk V c 1 t) (iblk V c 2 t)
  Φ _ := Pipeline.scopedRest (Ix := Unit) (Name := ℕ) (U := UR sig nD τ) (Lvl := ℕ) (Val := Elt Ideal) spec1 c
  q _ := fullShare
  owed _ := 0

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = out1 (iblk V c 0 t) (iblk V c 1 t) (iblk V c 2 t) := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the scratch buffer comes out of the invariant and goes back at whatever it then holds. -/
theorem sound_body (c : Dev nD) (t : Fin cfg1.N) :
    bodyPre V c t ⊢ wp frame (wpE (defs₀ (F := Ideal)) Variants.none c none) Set.univ (bodyAt1 t) (fun _ => bodyPost V c t) := by
  unfold bodyPre bodyPost bodyAt1
  simp only [before1_0, before1_1, before1_2]
  rw [show (dat V c).Φ t.succ = (dat V c).Φ t.castSucc from rfl,
    show (dat V c).owesAt () t.succ = (dat V c).owesAt () t.castSucc from rfl,
    after1_0, after1_1, after1_2, after1_3,
    show (dat V c).Φ t.castSucc = _ from scopedRest1_split c]
  iintro ⟨⟨⟨%f6, H6⟩, HΦ⟩, Ho, ⟨%d0, H0⟩, ⟨%d1, H1⟩, ⟨%d2, H2⟩, ⟨%d3, H3⟩⟩
  iapply (sound_kernel c Set.univ (grid1.coords t) _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H6]
  · iexists f6
    iapply (Entails.of_eq (owns_whole (c : Thread nD τ) cc1_scratch0 fullShare f6).symm)
    iexact H6
  iintro ⟨H0, H1, H2, H3, ⟨%g6, H6⟩⟩
  isplitl [HΦ H6]
  · isplitl [H6]
    · iexists g6
      iapply (Entails.of_eq (owns_whole (c : Thread nD τ) cc1_scratch0 fullShare g6))
      iexact H6
    iexact HΦ
  isplitl [Ho]; · iexact Ho
  isplitl [H0]; · iexact H0
  isplitl [H1]; · iexact H1
  isplitl [H2]; · iexact H2
  iexact H3

theorem defs₀_row (t : Fin cfg1.N) :
    defs₀ (F := Ideal) .tc cfg1.body (cfg1.bodyArgs t (cfg1.slots t)) = bodyAt1 t := by
  unfold defs₀; rw [Defs.onTc_tc]

/-- The library's body obligation, at every point: the body's triple restated. -/
theorem body_obligation (c : Dev nD) : BodyObligation (dat V c) (defs₀ (F := Ideal)) Variants.none () Set.univ := fun t => by
  rw [bigSep_W1, bigSep_W1, defs₀_row]
  exact triple_restated (sound_body V c t) rfl .rfl fun _ => .rfl

end Cert.Proof.R1

end
-- ==== Proof.Region2.lean ====
/-
  The last region (output projection, LayerNorm, residual): its body's triple and proof data, entered at any contents `V`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer holds when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`) (unfetched, the index has not moved), the window uncut and never idle. -/
theorem before2_0_of {c : Dev nD} (d₀ : Dat τ (Elt F) Unit ℕ (UR sig nD τ) ℕ cfg2 c) (hA : d₀.A 0 = V c (Pipeline.arrRef spec2 0))
    (hafter : ∀ t, d₀.after 0 t = iblk V c 0 t) (t : Fin cfg2.N) (d) : d₀.before 0 t d = iblk V c 0 t :=
  (d₀.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`) (unfetched, the index has not moved), the window uncut and never idle. -/
theorem before2_1_of {c : Dev nD} (d₀ : Dat τ (Elt F) Unit ℕ (UR sig nD τ) ℕ cfg2 c) (hA : d₀.A 1 = V c (Pipeline.arrRef spec2 1))
    (hafter : ∀ t, d₀.after 1 t = iblk V c 1 t) (t : Fin cfg2.N) (d) : d₀.before 1 t d = iblk V c 1 t :=
  (d₀.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`) (unfetched, the index has not moved), the window uncut and never idle. -/
theorem before2_2_of {c : Dev nD} (d₀ : Dat τ (Elt F) Unit ℕ (UR sig nD τ) ℕ cfg2 c) (hA : d₀.A 2 = V c (Pipeline.arrRef spec2 2))
    (hafter : ∀ t, d₀.after 2 t = iblk V c 2 t) (t : Fin cfg2.N) (d) : d₀.before 2 t d = iblk V c 2 t :=
  (d₀.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`) (unfetched, the index has not moved), the window uncut and never idle. -/
theorem before2_3_of {c : Dev nD} (d₀ : Dat τ (Elt F) Unit ℕ (UR sig nD τ) ℕ cfg2 c) (hA : d₀.A 3 = V c (Pipeline.arrRef spec2 3))
    (hafter : ∀ t, d₀.after 3 t = iblk V c 3 t) (t : Fin cfg2.N) (d) : d₀.before 3 t d = iblk V c 3 t :=
  (d₀.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`) (unfetched, the index has not moved), the window uncut and never idle. -/
theorem before2_4_of {c : Dev nD} (d₀ : Dat τ (Elt F) Unit ℕ (UR sig nD τ) ℕ cfg2 c) (hA : d₀.A 4 = V c (Pipeline.arrRef spec2 4))
    (hafter : ∀ t, d₀.after 4 t = iblk V c 4 t) (t : Fin cfg2.N) (d) : d₀.before 4 t d = iblk V c 4 t :=
  (d₀.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r2_0 : Rect S1x8x512x64 := Rect.unit (s := S1x8x512x64) ![0, 0, 0, 0] S1x1x512x64.size inb_S1x8x512x64_S1x1x512x64_0_0_0_0
abbrev r2_1 : Rect S1x8x512x64 := Rect.unit (s := S1x8x512x64) ![0, 1, 0, 0] S1x1x512x64.size inb_S1x8x512x64_S1x1x512x64_0_1_0_0
abbrev r2_2 : Rect S1x8x512x64 := Rect.unit (s := S1x8x512x64) ![0, 2, 0, 0] S1x1x512x64.size inb_S1x8x512x64_S1x1x512x64_0_2_0_0
abbrev r2_3 : Rect S1x8x512x64 := Rect.unit (s := S1x8x512x64) ![0, 3, 0, 0] S1x1x512x64.size inb_S1x8x512x64_S1x1x512x64_0_3_0_0
abbrev r2_4 : Rect S1x8x512x64 := Rect.unit (s := S1x8x512x64) ![0, 4, 0, 0] S1x1x512x64.size inb_S1x8x512x64_S1x1x512x64_0_4_0_0
abbrev r2_5 : Rect S1x8x512x64 := Rect.unit (s := S1x8x512x64) ![0, 5, 0, 0] S1x1x512x64.size inb_S1x8x512x64_S1x1x512x64_0_5_0_0
abbrev r2_6 : Rect S1x8x512x64 := Rect.unit (s := S1x8x512x64) ![0, 6, 0, 0] S1x1x512x64.size inb_S1x8x512x64_S1x1x512x64_0_6_0_0
abbrev r2_7 : Rect S1x8x512x64 := Rect.unit (s := S1x8x512x64) ![0, 7, 0, 0] S1x1x512x64.size inb_S1x8x512x64_S1x1x512x64_0_7_0_0
abbrev r2_8 : Rect S512x384 := Rect.unit (s := S512x384) ![0, 0] S512x384.size inb_S512x384_S512x384_0_0
abbrev r2_9 : Rect S1x384 := Rect.unit (s := S1x384) ![0, 0] S1x384.size inb_S1x384_S1x384_0_0
abbrev r2_10 : Rect S1x512x384 := Rect.unit (s := S1x512x384) ![0, 0, 0] S1x512x384.size inb_S1x512x384_S1x512x384_0_0_0

/-! ## What the body leaves in each output window's buffer -/

/-- Window 5's staging buffer after the body, from the input windows' blocks: its 1 store as pieces, LAST
    FIRST. -/
def out2_5 (x0 : Vec F S1x8x512x64 .bf16) (x1 : Vec F S512x384 .f32) (x2 : Vec F S1x384 .f32) (x3 : Vec F S1x384 .f32) (x4 : Vec F S1x512x384 .f32) : Vec F S1x512x384 .f32 :=
  View.canon [⟨r2_10, k2_pay1 (k2_pay2 (View.ld x0 r2_0) (View.ld x0 r2_1) (View.ld x0 r2_2) (View.ld x0 r2_3) (View.ld x0 r2_4) (View.ld x0 r2_5) (View.ld x0 r2_6) (View.ld x0 r2_7) (View.ld x1 r2_8)) (k2_pay3 (View.ld x0 r2_0) (View.ld x0 r2_1) (View.ld x0 r2_2) (View.ld x0 r2_3) (View.ld x0 r2_4) (View.ld x0 r2_5) (View.ld x0 r2_6) (View.ld x0 r2_7) (View.ld x1 r2_8)) (View.ld x2 r2_9) (View.ld x3 r2_9) (View.ld x4 r2_10)⟩]

/-- Its stores tile the buffer (checked by evaluation), so they cover it. -/
theorem cover2_5 (p0 : Vec F S1x512x384 .f32) (y : S1x512x384.Idx) :
    ∃ pc ∈ ([⟨r2_10, p0⟩] : List (View.Piece (Elt F) S1x512x384 .f32)), y ∈ pc.1.set :=
  View.cover_of_tiled [⟨r2_10, p0⟩] S1x512x384.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs, through every part call. -/
theorem sound_kernel (c : Dev nD) (E : Set ℕ) (i : grid2.Coords) (arg2 : Memref sig .tc .vmem S1x8x512x64 .bf16) (harg2 : arg2.IsWhole) (arg3 : Memref sig .tc .vmem S512x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S1x512x384 .f32) (harg6 : arg6.IsWhole) (arg7 : Memref sig .tc .vmem S1x512x384 .f32) (harg7 : arg7.IsWhole)
    (x0 : Vec F S1x8x512x64 .bf16) (x1 : Vec F S512x384 .f32) (x2 : Vec F S1x384 .f32) (x3 : Vec F S1x384 .f32) (x4 : Vec F S1x512x384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out2_5 x0 x1 x2 x3 x4)) -∗ K ⟨⟩))
      ⊢ wp frame (wpE (defs₀ (F := F)) Variants.none c none) E (cc2__out_kernel i arg2 harg2 arg3 harg3 arg4 harg4 arg5 harg5 arg6 harg6 arg7 harg7) K := by
  simp only [cc2__out_kernel_eq_skeleton]; unfold cc2__out_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the one pipeline on core `c`: the arrays as the region finds them (`V`); after the body at
    point `t` each input's buffer at its block and each output's at `out2_W` of the input blocks; the invariant the
    class's; nothing owed;
    full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out2_5 (iblk V c 0 t) (iblk V c 1 t) (iblk V c 2 t) (iblk V c 3 t) (iblk V c 4 t)
  Φ _ := Pipeline.scopedRest (Ix := Unit) (Name := ℕ) (U := UR sig nD τ) (Lvl := ℕ) (Val := Elt F) spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`, never `rfl`). -/
theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = iblk V c 4 t := by dsimp only [dat]
theorem after2_5 (c : Dev nD) (t : Fin cfg2.N) : (dat V c).after 5 t = out2_5 (iblk V c 0 t) (iblk V c 1 t) (iblk V c 2 t) (iblk V c 3 t) (iblk V c 4 t) := by dsimp only [dat]

/-- Each input's current staging buffer holds its block at every point, fetched there or not (`beforeK_W_of`). -/
theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d
theorem before2_4 (c : Dev nD) (t : Fin cfg2.N) (d) : (dat V c).before 4 t d = iblk V c 4 t :=
  before2_4_of V (dat V c) (A_eq V c 4) (after2_4 V c) t d

/-! ## The body obligation, at a generic point -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' memrefs hold their blocks (`before2_W`), so `sound_kernel` applies; the invariant and
    the core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4]
  rw [show (dat V c).Φ t.succ = (dat V c).Φ t.castSucc from rfl,
    show (dat V c).owesAt () t.succ = (dat V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid2.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.Proof.R2

end
-- ==== Proof.Run.lean ====
/-
  The whole run: the three regions' records over the thread state, what each region leaves in the buffers it writes, and
  the run from any launch, read back at the result and the arguments.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.Region0
public import proofs.«01_k».proof.Proof.Region1
public import proofs.«01_k».proof.Proof.Region2
public import Idealize.ShloMosaic.Lib.Pipeline.Frame
public import Idealize.ShloMosaic.Lib.Pipeline.FrameTail
public import Idealize.ShloMosaic.Lib.Pipeline.Regions
public import Idealize.ShloMosaic.Lib.Pipeline.RegionArraysS

@[expose] public section

noncomputable section

namespace Cert.Proof.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg afterRegion)

local notation "𝕄" => MT nD τ sig Unit (Elt Ideal) ℕ (UR sig nD τ) ℕ

variable (m : (ℓ : Loc nD τ sig) → Buf (Elt Ideal) ℓ)

/-! ## What the regions leave -/

/-- A valuation read at the TensorCore's references. -/
abbrev at_ (V : Dev nD → Valuation τ sig (Elt Ideal)) (c : Dev nD) (b : Ref sig .tc) : Buf (Elt Ideal) ((c : Thread nD τ).loc b) :=
  V c (Proc.devRef .tc b)

/-- The first region's proof data, entered at the contents the host prefix leaves. -/
def dat0 (c : Dev nD) : Dat τ (Elt Ideal) Unit ℕ (UR sig nD τ) ℕ cfg0 c := R0.dat (at_ (V1 m)) c

/-- What the first region leaves. -/
def left0 : Outs (F := Ideal) := fun _ r c => afterRegion (dat0 m c) (V1 m c) (Proc.devRef .tc r)

/-- The second region's proof data, entered at the contents the first leaves. -/
def dat1 (c : Dev nD) : Dat τ (Elt Ideal) Unit ℕ (UR sig nD τ) ℕ cfg1 c := R1.dat (at_ (V2 m (left0 m))) c

/-- What the first two regions leave. -/
def left1 : Outs (F := Ideal) := fun J r c => match J with
  | 2 => left0 m 2 r c
  | _ => afterRegion (dat1 m c) (V2 m (left0 m) c) (Proc.devRef .tc r)

/-- The third region's proof data, entered at the contents the second leaves. -/
def dat2 (c : Dev nD) : Dat τ (Elt Ideal) Unit ℕ (UR sig nD τ) ℕ cfg2 c := R2.dat (at_ (V3 m (left1 m))) c

/-- What the three regions leave. -/
def outs : Outs (F := Ideal) := fun J r c => match J with
  | 2 => left0 m 2 r c
  | 3 => left1 m 3 r c
  | _ => afterRegion (dat2 m c) (V3 m (left1 m) c) (Proc.devRef .tc r)

/-- The proof data of the three pipelines. -/
def pdats : (p : Fin 3) → (c : Dev nD) → Dat τ (Elt Ideal) Unit ℕ (UR sig nD τ) ℕ (cfgs p) c
  | ⟨0, _⟩ => dat0 m
  | ⟨1, _⟩ => dat1 m
  | ⟨2, _⟩ => dat2 m

theorem V2_eq (c : Dev nD) : V2 m (outs m) c = V2 m (left0 m) c := rfl
theorem V3_eq (c : Dev nD) : V3 m (outs m) c = V3 m (left1 m) c := rfl
theorem V2_eq' (c : Dev nD) : V2 m (left1 m) c = V2 m (left0 m) c := rfl

/-! ## The regions' records -/

/-- The levels: the one index, at the TensorCore's cells. -/
abbrev lvls : GSem nD τ sig → Finset Unit := fun g => if g.1.2 = .tc then {()} else ∅
abbrev lvl : GSem nD τ sig → Unit → ℕ := fun _ _ => 0

theorem lvls_off (g : GSem nD τ sig) (h : g.1.2 ≠ .tc) : lvls g = ∅ := if_neg h

/-- Nothing is owed between the items. -/
def rest (c : Dev nD) : sProp 𝕄 :=
  iprop((∃ W, owes (c : Thread nD τ) (0 : CellTallies nD τ sig Unit) W) ∗ BI.emp ∗ BI.emp)

theorem cut (p : Fin 3) : Pipeline.LevelCut (pcfgs (F := Ideal)) adm () lvls lvl p (fun _ => 0) (fun _ => 0) where
  hι c w s := by rw [show lvls _ = {()} from if_pos rfl]; exact Finset.mem_singleton.mpr rfl
  hιb _ _ _ := le_rfl
  hD _ _ _ h := absurd h (lt_irrefl _)

set_option backward.isDefEq.respectTransparency.types false in
/-- A region of this program, from its body's triple: entered at any valuation `W` its proof data take their arrays from,
    its invariant the scoped buffers it does not stage. -/
def region (p : Fin 3) (kit : Pipeline.LaunchFacts (nD := nD) (τ := τ) cfgs p)
    (hbody : ∀ c, BodyObligation (pdats m p c) (defs₀ (F := Ideal)) Variants.none () Set.univ)
    (howed : ∀ c t, (pdats m p c).owed t = 0) (hrec : ∀ c, (pdats m p c).recorded 0 = Set.univ)
    (hq : ∀ c w, (pdats m p c).q w = fullShare)
    (hin : ∀ c, (pdats m p c).Φ 0 = Pipeline.scopedRest (cfgs p).spec c)
    (hout : ∀ c, (pdats m p c).Φ (Fin.last (cfgs p).N) = Pipeline.scopedRest (cfgs p).spec c)
    (W : Dev nD → Valuation τ sig (Elt Ideal))
    (hW : ∀ c w, (pdats m p c).A w = W c (Proc.devRef .tc (Pipeline.arrRef (cfgs p).spec w))) :
    RegionSeg (pcfgs (F := Ideal)) adm (pdats m) () defs₀ Variants.none lvls lvl p :=
  RegionSeg.ofHeldIn (pcfgs (F := Ideal)) adm (pdats m) () defs₀ Variants.none lvls lvl p (fun _ => 0)
    (Pipeline.ucRefs τ sig) (fun _ => BI.emp) (fun _ => BI.emp) kit.toP rfl (fun c => (hbody c).loose) howed hrec
    (fun c => (pdats m p c).share_full (hq c))
    (fun c => by rw [hin]; iintro ⟨H, -⟩; iexact H)
    (fun c => by rw [hout]; iintro H; isplitl [H]; · iexact H
                 iempintro)
    (fun _ => 0) (cut p) (fun _ => BI.emp) W (fun c w => hW c w)

/-- The regions' arrays are unscoped. -/
theorem arr_uc (p : Fin 3) : ∀ w, (Pipeline.arrRef (cfgs p).spec w).isScoped = false := by
  fin_cases p <;> decide

/-- A region is entered from the unscoped buffers held at `W` and nothing owed. -/
theorem region_pre {p kit hbody howed hrec hq hin hout W hW} (c : Dev nD) :
    iprop(StableHlo.held (c : Thread nD τ) (Pipeline.ucRefs τ sig) (W c) ∗ rest c) ⊢ (region m p kit hbody howed hrec hq hin hout W hW).pre c := by
  unfold rest region
  exact RegionSeg.ofHeldIn_pre (pcs := pcfgs (F := Ideal)) (a := adm) (pdats := pdats m) (ι := ()) (defs₀ := defs₀) (𝒱₀ := Variants.none)
    (L := lvls) (lv := lvl) (p := p) (D := fun _ => 0) (S := Pipeline.ucRefs τ sig) (X := fun _ => BI.emp) (Y := fun _ => BI.emp)
    (kit := kit.toP) (hK := rfl) (hbody := fun c => (hbody c).loose) (howed := howed) (hrec := hrec)
    (hshare := fun c => (pdats m p c).share_full (hq c)) (b := fun _ => 0) (hcut := cut p) (R := fun _ => BI.emp) (W := W)
    (hW := fun c w => hW c w) (Pipeline.arrRefs_sub_ucRefs _ (arr_uc p)) c

/-- A region is left with them held at any valuation that agrees with what its windows leave. -/
theorem region_post {p kit hbody howed hrec hq hin hout W hW} (W' : Dev nD → Valuation τ sig (Elt Ideal)) (c : Dev nD)
    (h : ∀ b ∈ Pipeline.ucRefs τ sig, afterRegion (pdats m p c) (W c) b = W' c b) :
    (region m p kit hbody howed hrec hq hin hout W hW).post c ⊢ iprop(StableHlo.held (c : Thread nD τ) (Pipeline.ucRefs τ sig) (W' c) ∗ rest c) := by
  unfold rest
  rw [← StableHlo.held_congr (c : Thread nD τ) h]
  exact RegionSeg.ofHeldIn_post (Pipeline.arrRefs_sub_ucRefs _ (arr_uc p)) c

def reg0 : RegionSeg (pcfgs (F := Ideal)) adm (pdats m) () defs₀ Variants.none lvls lvl 0 :=
  region m 0 launch0 (R0.body_obligation (at_ (V1 m))) (fun _ _ => rfl) (fun _ => rfl) (fun _ _ => rfl) (fun _ => rfl) (fun _ => rfl)
    (V1 m) (fun c w => R0.A_eq (at_ (V1 m)) c w)
def reg1 : RegionSeg (pcfgs (F := Ideal)) adm (pdats m) () defs₀ Variants.none lvls lvl 1 :=
  region m 1 launch1 (R1.body_obligation (at_ (V2 m (left0 m)))) (fun _ _ => rfl) (fun _ => rfl) (fun _ _ => rfl) (fun _ => rfl) (fun _ => rfl)
    (V2 m (left0 m)) (fun c w => R1.A_eq (at_ (V2 m (left0 m))) c w)
def reg2 : RegionSeg (pcfgs (F := Ideal)) adm (pdats m) () defs₀ Variants.none lvls lvl 2 :=
  region m 2 launch2 (R2.body_obligation (at_ (V3 m (left1 m)))) (fun _ _ => rfl) (fun _ => rfl) (fun _ _ => rfl) (fun _ => rfl) (fun _ => rfl)
    (V3 m (left1 m)) (fun c w => R2.A_eq (at_ (V3 m (left1 m))) c w)

/-! ## What a region leaves, as the next valuation -/

theorem io0 : ∀ w, (cfg0.win w).isOut = false ∨ Pipeline.arrRef cfg0.spec w ∈ ([main_v19_0, main_v19_1, main_v19_2] : List (Ref sig .tc)) := by decide
theorem io1 : ∀ w, (cfg1.win w).isOut = false ∨ Pipeline.arrRef cfg1.spec w ∈ ([main_v20] : List (Ref sig .tc)) := by decide
theorem io2 : ∀ w, (cfg2.win w).isOut = false ∨ Pipeline.arrRef cfg2.spec w ∈ ([main_v21] : List (Ref sig .tc)) := by decide

theorem V2_0 (o : Outs (F := Ideal)) (c : Dev nD) : V2 m o c (Proc.devRef .tc main_v19_0) = o 2 main_v19_0 c := by
  dsimp only [V2]
  rw [Function.update_of_ne (StableHlo.devRef_ne_of_ne (by decide)), Function.update_of_ne (StableHlo.devRef_ne_of_ne (by decide)), Function.update_self]
theorem V2_1 (o : Outs (F := Ideal)) (c : Dev nD) : V2 m o c (Proc.devRef .tc main_v19_1) = o 2 main_v19_1 c := by
  dsimp only [V2]
  rw [Function.update_of_ne (StableHlo.devRef_ne_of_ne (by decide)), Function.update_self]
theorem V2_2 (o : Outs (F := Ideal)) (c : Dev nD) : V2 m o c (Proc.devRef .tc main_v19_2) = o 2 main_v19_2 c := by
  dsimp only [V2]
  rw [Function.update_self]
theorem V3_0 (o : Outs (F := Ideal)) (c : Dev nD) : V3 m o c (Proc.devRef .tc main_v20) = o 3 main_v20 c := by
  dsimp only [V3]
  rw [Function.update_self]
theorem V4_0 (o : Outs (F := Ideal)) (c : Dev nD) : V4 m o c (Proc.devRef .tc main_v21) = o 4 main_v21 c := by
  dsimp only [V4]
  rw [Function.update_self]

/-- A TensorCore reference not among a region's outputs keeps its contents. -/
theorem keeps0 (c : Dev nD) (r : Ref sig .tc) (h : r ∉ ([main_v19_0, main_v19_1, main_v19_2] : List (Ref sig .tc))) :
    afterRegion (dat0 m c) (V1 m c) (Proc.devRef .tc r) = V1 m c (Proc.devRef .tc r) :=
  Pipeline.afterRegion_keeps (dat0 m c) (V1 m c) winFacts0.arr_inj (fun w => R0.A_eq (at_ (V1 m)) c w) r fun w hw => (io0 w).resolve_right fun hm => h (hw ▸ hm)
theorem keeps1 (c : Dev nD) (r : Ref sig .tc) (h : r ∉ ([main_v20] : List (Ref sig .tc))) :
    afterRegion (dat1 m c) (V2 m (left0 m) c) (Proc.devRef .tc r) = V2 m (left0 m) c (Proc.devRef .tc r) :=
  Pipeline.afterRegion_keeps (dat1 m c) (V2 m (left0 m) c) winFacts1.arr_inj (fun w => R1.A_eq (at_ (V2 m (left0 m))) c w) r fun w hw => (io1 w).resolve_right fun hm => h (hw ▸ hm)
theorem keeps2 (c : Dev nD) (r : Ref sig .tc) (h : r ∉ ([main_v21] : List (Ref sig .tc))) :
    afterRegion (dat2 m c) (V3 m (left1 m) c) (Proc.devRef .tc r) = V3 m (left1 m) c (Proc.devRef .tc r) :=
  Pipeline.afterRegion_keeps (dat2 m c) (V3 m (left1 m) c) winFacts2.arr_inj (fun w => R2.A_eq (at_ (V3 m (left1 m))) c w) r fun w hw => (io2 w).resolve_right fun hm => h (hw ▸ hm)

/-- What the first region leaves is the next valuation, on the buffers held. -/
theorem next0 (c : Dev nD) : ∀ b ∈ Pipeline.ucRefs τ sig, afterRegion (dat0 m c) (V1 m c) b = V2 m (outs m) c b := by
  intro b hb
  obtain ⟨r, -, rfl⟩ := Finset.mem_map.mp (Finset.mem_filter.mp hb).1
  show afterRegion (dat0 m c) (V1 m c) (Proc.devRef .tc r) = V2 m (left0 m) c (Proc.devRef .tc r)
  by_cases h2 : r = main_v19_2
  · subst h2; exact (V2_2 m (left0 m) c).symm
  by_cases h1 : r = main_v19_1
  · subst h1; exact (V2_1 m (left0 m) c).symm
  by_cases h0 : r = main_v19_0
  · subst h0; exact (V2_0 m (left0 m) c).symm
  have hr : r ∉ ([main_v19_0, main_v19_1, main_v19_2] : List (Ref sig .tc)) := by simp [h0, h1, h2]
  exact (keeps0 m c r hr).trans (V2_of m (left0 m) c r hr).symm
theorem next1 (c : Dev nD) : ∀ b ∈ Pipeline.ucRefs τ sig, afterRegion (dat1 m c) (V2 m (left0 m) c) b = V3 m (outs m) c b := by
  intro b hb
  obtain ⟨r, -, rfl⟩ := Finset.mem_map.mp (Finset.mem_filter.mp hb).1
  show afterRegion (dat1 m c) (V2 m (left0 m) c) (Proc.devRef .tc r) = V3 m (left1 m) c (Proc.devRef .tc r)
  by_cases h0 : r = main_v20
  · subst h0; exact (V3_0 m (left1 m) c).symm
  have hr : r ∉ ([main_v20] : List (Ref sig .tc)) := by simp [h0]
  exact (keeps1 m c r hr).trans (V3_of m (left1 m) c r hr).symm
theorem next2 (c : Dev nD) : ∀ b ∈ Pipeline.ucRefs τ sig, afterRegion (dat2 m c) (V3 m (left1 m) c) b = V4 m (outs m) c b := by
  intro b hb
  obtain ⟨r, -, rfl⟩ := Finset.mem_map.mp (Finset.mem_filter.mp hb).1
  show afterRegion (dat2 m c) (V3 m (left1 m) c) (Proc.devRef .tc r) = V4 m (outs m) c (Proc.devRef .tc r)
  by_cases h0 : r = main_v21
  · subst h0; exact (V4_0 m (outs m) c).symm
  have hr : r ∉ ([main_v21] : List (Ref sig .tc)) := by simp [h0]
  exact (keeps2 m c r hr).trans (V4_of m (outs m) c r hr).symm

/-! ## The run -/

/-- What the run is given at launch. -/
abbrev u₀ : UR sig nD τ := initOf (Pipeline.cells cfgs cellOf_inj) (Pipeline.launchToks cfgs cellOf_inj)

theorem hu₀ : (ownU u₀ : sProp 𝕄) ⊢ |={Set.univ}=> iprop(BI.own (emb₁ u₀) ∗ bigSep Finset.univ (fun _ : Dev nD => (BI.emp : sProp 𝕄))) := by
  iintro Hu
  imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

theorem hpre0 (c : Dev nD) : iprop(StableHlo.held (c : Thread nD τ) (Pipeline.ucRefs τ sig) (V1 m c) ∗ rest c) ⊢ (reg0 m).pre c :=
  region_pre m (W := V1 m) c
theorem hpost0 (c : Dev nD) : (reg0 m).post c ⊢ iprop(StableHlo.held (c : Thread nD τ) (Pipeline.ucRefs τ sig) (V2 m (outs m) c) ∗ rest c) :=
  region_post m (V2 m (outs m)) c (next0 m c)
theorem hpre1 (c : Dev nD) : iprop(StableHlo.held (c : Thread nD τ) (Pipeline.ucRefs τ sig) (V2 m (outs m) c) ∗ rest c) ⊢ (reg1 m).pre c :=
  region_pre m (W := V2 m (left0 m)) c
theorem hpost1 (c : Dev nD) : (reg1 m).post c ⊢ iprop(StableHlo.held (c : Thread nD τ) (Pipeline.ucRefs τ sig) (V3 m (outs m) c) ∗ rest c) :=
  region_post m (V3 m (outs m)) c (next1 m c)
theorem hpre2 (c : Dev nD) : iprop(StableHlo.held (c : Thread nD τ) (Pipeline.ucRefs τ sig) (V3 m (outs m) c) ∗ rest c) ⊢ (reg2 m).pre c :=
  region_pre m (W := V3 m (left1 m)) c
theorem hpost2 (c : Dev nD) : (reg2 m).post c ⊢ iprop(StableHlo.held (c : Thread nD τ) (Pipeline.ucRefs τ sig) (V4 m (outs m) c) ∗ rest c) :=
  region_post m (V4 m (outs m)) c (next2 m c)

theorem hE0 (ρ : Dev nD → PrngReg) :
    iprop((bigSep Finset.univ fun c : Dev nD => iprop(unscopedSems0 c ∗ owes (c : Thread nD τ) (0 : CellTallies nD τ sig Unit) ∅
        ∗ Pipeline.launchCred (fun _ => 0) c ∗ prngReg c (ρ c) ∗ BI.emp)) ∗ levAts lvls lvl)
      ⊢ (|={Set.univ}=> bigSep Finset.univ rest : sProp 𝕄) := by
  have h : (bigSep Finset.univ fun c : Dev nD => iprop(unscopedSems0 c ∗ owes (c : Thread nD τ) (0 : CellTallies nD τ sig Unit) ∅
        ∗ Pipeline.launchCred (fun _ => 0) c ∗ prngReg c (ρ c) ∗ BI.emp) : sProp 𝕄) ⊢ bigSep Finset.univ rest :=
    bigSep_mono fun c _ => show _ ⊢ rest c from by
      unfold rest
      iintro ⟨-, HO, -, -, -⟩
      isplitl [HO]
      · iexists ∅; iexact HO
      isplitr <;> iempintro
  iintro ⟨H, -⟩
  imodintro
  iapply h
  iexact H

theorem hE3 (c : Dev nD) : rest c ⊢ (iprop(∃ W, owes (c : Thread nD τ) (0 : CellTallies nD τ sig Unit) W) : sProp 𝕄) := by
  unfold rest
  iintro ⟨H, -, -⟩
  iexact H

/-- The kernel's result, on every core. -/
def result (c : Dev nD) : Buf (Elt Ideal) ((c.tc : Thread nD τ).loc main_v23) := V5 m (outs m) c (Proc.devRef .tc main_v23)

set_option backward.isDefEq.respectTransparency.types false in
/-- Every run of the kernel ends with the result at `result`, each argument as launched and every counter at zero. -/
theorem run (ρ : Dev nD → PrngReg) :
    θ_run defs (onTc (τ := τ) (main (F := Ideal))) ⟨m, fun _ => 0, ρ⟩ (fun r => (∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  refine Pipeline.θ_run_regions_kit_dev_sems (pcfgs (F := Ideal)) adm (pdats m) () cellOf_inj emb₁ defs₀ Variants.none lvls lvl m ρ main
    (segs m (outs m) Variants.none lvls lvl (fun _ => rest) () (pdats m) (reg0 m) (reg1 m) (reg2 m))
    (fun c Q => by
      rewrite [main_chain c, Seg.run_eq_chain,
        show (segs m (outs m) Variants.none lvls lvl (fun _ => rest) () (pdats m) (reg0 m) (reg1 m) (reg2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0) lvls_off (fun _ => BI.emp) u₀ hu₀
    (T₀ := fun c => iprop(StableHlo.held (c : Thread nD τ) (Pipeline.ucRefs τ sig) (V0 m c) ∗ rest c))
    (Tₙ := fun c => StableHlo.held (c : Thread nD τ) (Pipeline.ucRefs τ sig) (V5 m (outs m) c))
    (hch := fun c => ⟨.rfl, hpre0 m c, (hpost0 m c).trans (hpre1 m c), (hpost1 m c).trans (hpre2 m c), hpost2 m c, sep_mono .rfl (hE3 c)⟩)
    (hinit := ?_) (QY := fun c s => s.mem ((c.tc : Thread nD τ).loc main_v23) = result m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ BI.emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      have rd : ∀ b : Ref sig .tc, b.isScoped = false → s'.mem.mem ((c.tc : Thread nD τ).loc b) = V5 m (outs m) c (Proc.devRef .tc b) :=
        fun b hb => h (Proc.devRef .tc b) (Finset.mem_filter.mpr ⟨StableHlo.devRef_mem_tcRefs b, fun h' => Bool.false_ne_true (hb.symm.trans h')⟩)
      exact ⟨rd main_v23 rfl,
        (rd main_arg0 rfl).trans (V5_main_arg0 m (outs m) c),
        (rd main_arg1 rfl).trans (V5_main_arg1 m (outs m) c),
        (rd main_arg2 rfl).trans (V5_main_arg2 m (outs m) c),
        (rd main_arg3 rfl).trans (V5_main_arg3 m (outs m) c),
        (rd main_arg4 rfl).trans (V5_main_arg4 m (outs m) c),
        (rd main_arg5 rfl).trans (V5_main_arg5 m (outs m) c),
        (rd main_arg6 rfl).trans (V5_main_arg6 m (outs m) c),
        (rd main_arg7 rfl).trans (V5_main_arg7 m (outs m) c),
        (rd main_arg8 rfl).trans (V5_main_arg8 m (outs m) c),
        (rd main_arg9 rfl).trans (V5_main_arg9 m (outs m) c),
        (rd main_arg10 rfl).trans (V5_main_arg10 m (outs m) c),
        (rd main_arg11 rfl).trans (V5_main_arg11 m (outs m) c)⟩
    · iexact HSI

end Cert.Proof.Whole

end
-- ==== Proof.Order.lean ====
/-
  The kernel's sixteen picks are the first sixteen places of a stable sort of the scores, greatest first, when every score
  is a real number.
-/
module

public import proofs.«01_k».proof.Proof.Select
public import Idealize.ShloMosaic.Lib.SortPrefix

@[expose] public section

noncomputable section

namespace Cert.Proof.Order

open Cert.KernelIdeal Cert.KernelIdeal.Gen
open Idealize.ShloMosaic Idealize.ShloMosaic.TcCoe Idealize.ShloMosaic.ValueIdx
open Cert.Proof.Select

/-- A score is before another when it is greater. -/
def greater (s : Fin 64 → EReal) (k k' : Fin 64) : Bool := decide (s k' < s k)

/-- The same with ties going to the earlier position. -/
def before (s : Fin 64 → EReal) (k k' : Fin 64) : Bool :=
  decide (s k' < s k) || (decide (s k = s k') && decide (k < k'))

theorem before_total (s : Fin 64 → EReal) : StrictTotalBefore (before s) :=
  StrictTotalBefore.of_key_then_position (fun a b : EReal => decide (b < a)) s
    (fun a => by simp) (fun a b c h h' => by simp only [decide_eq_true_eq] at *; exact lt_trans h' h)
    (fun a b => by
      simp only [decide_eq_true_eq]
      rcases lt_trichotomy a b with h | h | h
      · exact .inr (.inr h)
      · exact .inr (.inl h)
      · exact .inl h)

/-- A stable sort already sends ties to the earlier position. -/
theorem stableSort_ties (s : Fin 64 → EReal) (l : List (Fin 64)) (hl : l.Pairwise (· < ·)) :
    stableSort (greater s) l = stableSort (before s) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have hab : ¬ b < a := not_lt.mpr (hl.1 b hb').le
    simp [greater, before, hab]

theorem sortedFrom_same {n : ℕ} {B B' : Fin n → Fin n → Bool} (h : sortPositions n B = sortPositions n B') : sortedFrom B = sortedFrom B' := by
  funext k
  unfold sortedFrom
  rw [List.get_of_eq h]
  rfl

theorem sortedFrom_ties (s : Fin 64 → EReal) : sortedFrom (greater s) = sortedFrom (before s) :=
  sortedFrom_same (stableSort_ties s _ (List.pairwise_lt_finRange 64))

/-- The column of scores `s` as the kernel holds it. -/
def col (s : Fin 64 → EReal) : FVec Ideal S64x1 .f32 := fun x => s (x 0)

theorem pickFin_spec (t : FVec Ideal S64x1 .f32) (n : ℕ) :
    (∀ i : Fin 64, (selSeq t n (ix2 i (0 : Fin 1)) : EReal) ≤ selSeq t n (ix2 (pickFin t n) (0 : Fin 1)))
    ∧ ∀ i : Fin 64, i < pickFin t n → (selSeq t n (ix2 i (0 : Fin 1)) : EReal) < selSeq t n (ix2 (pickFin t n) (0 : Fin 1)) := by
  obtain ⟨p, hp, h1, h2⟩ := selIdx_spec (selSeq t n)
  have : pickFin t n = p := Fin.ext (by
    show (selIdx (selSeq t n)).toNat = _
    rw [hp, BitVec.toNat_ofNat, Nat.mod_eq_of_lt (by have := p.isLt; omega)])
  rw [this]; exact ⟨h1, h2⟩

/-- After `n` picks the picked positions hold minus infinity and the others their scores. -/
theorem selSeq_ix (t : FVec Ideal S64x1 .f32) (n : ℕ) (i : Fin 64) :
    (selSeq t n (ix2 i (0 : Fin 1)) : EReal) = if ∃ m < n, pickFin t m = i then ⊥ else t (ix2 i (0 : Fin 1)) := by
  classical
  induction n with
  | zero => rw [if_neg (by simp)]; rfl
  | succ n ih =>
    show (selNext (selSeq t n) (ix2 i (0 : Fin 1)) : EReal) = _
    rw [selNext_ix, ih]
    have e : (i.val = (selIdx (selSeq t n)).toNat) ↔ pickFin t n = i :=
      ⟨fun h => Fin.ext h.symm, fun h => (congrArg Fin.val h).symm⟩
    by_cases h : pickFin t n = i
    · rw [if_pos (e.mpr h), if_pos ⟨n, Nat.lt_succ_self n, h⟩]
    · rw [if_neg (mt e.mp h)]
      congr 1
      apply propext
      constructor
      · rintro ⟨m, hm, hmi⟩; exact ⟨m, by omega, hmi⟩
      · rintro ⟨m, hm, hmi⟩
        rcases Nat.lt_succ_iff_lt_or_eq.mp hm with h' | rfl
        · exact ⟨m, h', hmi⟩
        · exact absurd hmi h

variable (t : FVec Ideal S64x1 .f32) (hreal : ∀ i : Fin 64, (t (ix2 i (0 : Fin 1)) : EReal) ≠ ⊥)

/-- Before the 64th pick some position is unpicked, so a pick is of an unpicked position. -/
theorem exists_unpicked (n : ℕ) (hn : n < 64) : ∃ i : Fin 64, ¬ ∃ m < n, pickFin t m = i := by
  classical
  by_contra h
  push Not at h
  have : (Finset.univ : Finset (Fin 64)) ⊆ (Finset.range n).image (pickFin t) := fun i _ => by
    obtain ⟨m, hm, e⟩ := h i
    exact Finset.mem_image.mpr ⟨m, Finset.mem_range.mpr hm, e⟩
  have := (Finset.card_le_card this).trans Finset.card_image_le
  simp at this
  omega

include hreal in
theorem pick_new (n : ℕ) (hn : n < 64) : ¬ ∃ m < n, pickFin t m = pickFin t n := by
  intro h
  obtain ⟨i, hi⟩ := exists_unpicked t n hn
  have h1 := (pickFin_spec t n).1 i
  rw [selSeq_ix, selSeq_ix, if_pos h, if_neg hi] at h1
  exact hreal i (le_bot_iff.mp h1)

include hreal in
/-- A pick is before every position not picked so far. -/
theorem pick_before (n : ℕ) (hn : n < 64) (i : Fin 64) (hi : ¬ ∃ m < n, pickFin t m = i) :
    before (fun i => t (ix2 i (0 : Fin 1))) i (pickFin t n) = false := by
  have hs := pickFin_spec t n
  have hnew := pick_new t hreal n hn
  have e1 : (selSeq t n (ix2 i (0 : Fin 1)) : EReal) = t (ix2 i (0 : Fin 1)) := by rw [selSeq_ix, if_neg hi]
  have e2 : (selSeq t n (ix2 (pickFin t n) (0 : Fin 1)) : EReal) = t (ix2 (pickFin t n) (0 : Fin 1)) := by rw [selSeq_ix, if_neg hnew]
  have h1 := hs.1 i
  have h2 := hs.2 i
  rw [e1, e2] at h1 h2
  unfold before
  simp only [Bool.or_eq_false_iff, Bool.and_eq_false_iff, decide_eq_false_iff_not]
  refine ⟨not_lt.mpr h1, ?_⟩
  by_cases hlt : i < pickFin t n
  · exact .inl (h2 hlt).ne
  · exact .inr hlt

include hreal in
/-- THE PICKS ARE THE SORT'S FIRST PLACES. -/
theorem sortedFrom_eq_pick (j : Fin 16) :
    sortedFrom (greater (fun i => t (ix2 i (0 : Fin 1)))) (j.castLE (by omega)) = pickFin t j.val := by
  rw [sortedFrom_ties]
  refine (before_total _).sortedFrom_eq_of_prefix (k := 16) (by omega) (fun j : Fin 16 => pickFin t j.val) ?_ ?_ ?_ j
  · intro a b h
    rcases lt_trichotomy a b with hab | hab | hab
    · exact absurd ⟨a.val, hab, h⟩ (pick_new t hreal b.val (by omega))
    · exact hab
    · exact absurd ⟨b.val, hab, h.symm⟩ (pick_new t hreal a.val (by omega))
  · intro i j hij
    refine pick_before t hreal i.val (by omega) _ ?_
    rintro ⟨m, hm, e⟩
    have hm' : m < j.val := lt_trans hm hij
    exact pick_new t hreal j.val (by omega) ⟨m, hm', e⟩
  · intro i p hp
    refine pick_before t hreal i.val (by omega) p ?_
    rintro ⟨m, hm, e⟩
    exact hp ⟨m, by omega⟩ e

end Cert.Proof.Order

end
-- ==== Proof.Spec.lean ====
/-
  The mathematics of the block over extended reals, index by index, as the kernel arranges it: layer normalisation over 384
  channels, unit vectors of length 64, the two selections, attention over the 256 selected positions, and the output.
-/
module

public import proofs.«01_k».proof.Proof.Order
public import Idealize.ShloMosaic.PureOps.Ideal.Laws

@[expose] public section

noncomputable section

namespace Cert.Proof.Spec

open Cert.KernelIdeal
open Idealize.ShloMosaic Idealize.ShloMosaic.ValueIdx
open Cert.Proof.Select Cert.Proof.Order

/-- The number of channels, as the programs write it. -/
def chans : EReal := Ideal.ofBits .f32 0x43C00000#32
/-- The variance's offset. -/
def eps : EReal := Ideal.ofBits .f32 0x3727C5AC#32
/-- The least norm divided by. -/
def tiny : EReal := Ideal.ofBits .f32 0x2B8CBCCC#32

def mean (f : Fin 384 → EReal) : EReal := Ideal.div (∑ c, f c) chans
def var (f : Fin 384 → EReal) : EReal := Ideal.div (∑ c, (f c - mean f) * (f c - mean f)) chans
/-- Layer normalisation before its gain and bias. -/
def unit (f : Fin 384 → EReal) (c : Fin 384) : EReal := (f c - mean f) * Ideal.rsqrt (var f + eps)
def ln (f g b : Fin 384 → EReal) (c : Fin 384) : EReal := unit f c * g c + b c

/-- A vector of length 64 over its norm. -/
def nrm (r : Fin 64 → EReal) (d : Fin 64) : EReal := Ideal.div (r d) (max (Ideal.sqrt (∑ e, r e * r e)) tiny)

/-- The position in row `i`, column `j`. -/
def at_ (i j : Fin 64) : Fin 4096 := ⟨i.val * 64 + j.val, by omega⟩

section head

variable (q k v : Fin 4096 → Fin 64 → EReal)

def probe (d : Fin 64) : EReal := ∑ p, nrm (q p) d
def kabs (p : Fin 4096) (d : Fin 64) : EReal := max (nrm (k p) d) (-(nrm (k p) d))
def scoreR (i : Fin 64) : EReal := ∑ d, (∑ j, kabs k (at_ i j) d) * probe q d
def scoreC (j : Fin 64) : EReal := (∑ d, probe q d) * ∑ d, ∑ i, kabs k (at_ i j) d
def picks (s : Fin 64 → EReal) (j : Fin 16) : Fin 64 := pickFin (col s) j.val
/-- The position of the `r`-th selected row of keys. -/
def sel (r : Fin 256) : Fin 4096 :=
  at_ (picks (scoreR q k) ⟨r.val / 16, by omega⟩) (picks (scoreC q k) ⟨r.val % 16, by omega⟩)
def sim (p : Fin 4096) (r : Fin 256) : EReal := ∑ d, nrm (q p) d * nrm (k (sel q k r)) d
def top (p : Fin 4096) : EReal := Finset.univ.sup (sim q k p)
def ex (p : Fin 4096) (r : Fin 256) : EReal := Ideal.exp (sim q k p r - top q k p)
def attn (p : Fin 4096) (d : Fin 64) : EReal :=
  Ideal.div (∑ r, ex q k p r * v (sel q k r) d) (∑ r, ex q k p r)

end head

/-- A projection of the normalised channels onto one head's coordinate: row `h·64+d` of `w`. -/
def proj (x : Fin 4096 → Fin 384 → EReal) (g b : Fin 384 → EReal) (w : Fin 64 → Fin 384 → EReal) (p : Fin 4096) (d : Fin 64) : EReal :=
  ∑ c, ln (x p) g b c * w d c

/-- The attention of one batch, before its output projection: head `h`, coordinate `d`. -/
def heads (x0 x1 : Fin 4096 → Fin 384 → EReal) (wq : Fin 512 → Fin 384 → EReal) (wkv : Fin 1024 → Fin 384 → EReal)
    (cg cb qg qb : Fin 384 → EReal) (h : Fin 8) (p : Fin 4096) (d : Fin 64) : EReal :=
  attn (proj x0 qg qb fun d => wq ⟨h.val * 64 + d.val, by omega⟩)
    (proj x1 cg cb fun d => wkv ⟨h.val * 64 + d.val, by omega⟩)
    (proj x1 cg cb fun d => wkv ⟨512 + h.val * 64 + d.val, by omega⟩) p d

/-- The output projection of a position's 512 coordinates. -/
def outp (a : Fin 512 → EReal) (wo : Fin 384 → Fin 512 → EReal) (o : Fin 384) : EReal := ∑ e, a e * wo o e

/-- The block's result for one batch. -/
def block (x0 x1 : Fin 4096 → Fin 384 → EReal) (wq : Fin 512 → Fin 384 → EReal) (wkv : Fin 1024 → Fin 384 → EReal)
    (wo : Fin 384 → Fin 512 → EReal) (cg cb qg qb og ob : Fin 384 → EReal) (gm : EReal) (p : Fin 4096) (o : Fin 384) : EReal :=
  ln (outp (fun e => heads x0 x1 wq wkv cg cb qg qb ⟨e.val / 64, by omega⟩ p ⟨e.val % 64, by omega⟩) wo)
    (fun c => gm * og c) (fun c => gm * ob c) o + x0 p o

/-! ## As the reference arranges it -/

def lnR (f g b : Fin 384 → EReal) (c : Fin 384) : EReal := Ideal.div (f c - mean f) (Ideal.sqrt (var f + eps)) * g c + b c

def attnR (q k v : Fin 4096 → Fin 64 → EReal) (p : Fin 4096) (d : Fin 64) : EReal :=
  ∑ r, Ideal.div (ex q k p r) (∑ r', ex q k p r') * v (sel q k r) d

/-! ## The constants -/

theorem chans_eq : chans = ((384 : ℝ) : EReal) := by
  unfold chans; simp [Ideal.ofBits, Ideal.ieee, -EReal.coe_mul]; norm_num

theorem eps_pos : ∃ r : ℝ, 0 < r ∧ eps = (r : EReal) := by
  refine ⟨_, ?_, by unfold eps; simp only [Ideal.ofBits, Ideal.ieee]; rw [if_neg (by decide), if_neg (by decide)]⟩
  simp only [show (BitVec.extractLsb' (8+23) 1 0x3727C5AC#32 == 1#1) = false by decide]
  simp

theorem tiny_pos : ∃ r : ℝ, 0 < r ∧ tiny = (r : EReal) := by
  refine ⟨_, ?_, by unfold tiny; simp only [Ideal.ofBits, Ideal.ieee]; rw [if_neg (by decide), if_neg (by decide)]⟩
  simp only [show (BitVec.extractLsb' (8+23) 1 0x2B8CBCCC#32 == 1#1) = false by decide]
  simp

/-! ## Real numbers among extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

def IsReal (x : EReal) : Prop := ∃ r : ℝ, x = (r : EReal)

namespace IsReal

theorem coe (r : ℝ) : IsReal (r : EReal) := ⟨r, rfl⟩
theorem add {x y : EReal} : IsReal x → IsReal y → IsReal (x + y) := by
  rintro ⟨a, rfl⟩ ⟨b, rfl⟩; exact ⟨a + b, by norm_cast⟩
theorem sub {x y : EReal} : IsReal x → IsReal y → IsReal (x - y) := by
  rintro ⟨a, rfl⟩ ⟨b, rfl⟩; exact ⟨a - b, by norm_cast⟩
theorem neg {x : EReal} : IsReal x → IsReal (-x) := by
  rintro ⟨a, rfl⟩; exact ⟨-a, by norm_cast⟩
theorem mul {x y : EReal} : IsReal x → IsReal y → IsReal (x * y) := by
  rintro ⟨a, rfl⟩ ⟨b, rfl⟩; exact ⟨a * b, by norm_cast⟩
theorem max {x y : EReal} (hx : IsReal x) (hy : IsReal y) : IsReal (max x y) := by
  rcases max_choice x y with h | h <;> rw [h] <;> assumption
theorem sum {ι : Type} [Fintype ι] {f : ι → EReal} (h : ∀ i, IsReal (f i)) : IsReal (∑ i, f i) := by
  classical
  choose g hg using h
  exact ⟨∑ i, g i, by rw [coe_sum]; exact Finset.sum_congr rfl fun i _ => hg i⟩
theorem ne_bot {x : EReal} : IsReal x → x ≠ ⊥ := by rintro ⟨a, rfl⟩; exact EReal.coe_ne_bot a
theorem div {x y : EReal} (hx : IsReal x) (hy : ∃ r : ℝ, 0 < r ∧ y = (r : EReal)) : IsReal (Ideal.div x y) := by
  obtain ⟨r, hr, rfl⟩ := hy
  rw [Ideal.div_coe hr.ne']
  exact hx.mul (coe _)
theorem exp {x : EReal} : IsReal x → ∃ r : ℝ, 0 < r ∧ Ideal.exp x = (r : EReal) := by
  rintro ⟨a, rfl⟩; exact ⟨Real.exp a, Real.exp_pos a, rfl⟩

end IsReal

theorem chans_pos : ∃ r : ℝ, 0 < r ∧ chans = (r : EReal) := ⟨384, by norm_num, chans_eq⟩

theorem isReal_of_pos {x : EReal} (h : ∃ r : ℝ, 0 < r ∧ x = (r : EReal)) : IsReal x := h.imp fun _ h => h.2

theorem square_nonneg (x : EReal) : 0 ≤ x * x := by
  induction x with
  | bot => simp
  | top => simp
  | coe r => exact_mod_cast mul_self_nonneg r

theorem div_nonneg {x y : EReal} (hx : 0 ≤ x) (hy : ∃ r : ℝ, 0 < r ∧ y = (r : EReal)) : 0 ≤ Ideal.div x y := by
  obtain ⟨r, hr, rfl⟩ := hy
  rw [Ideal.div_coe hr.ne']
  exact mul_nonneg hx (by exact_mod_cast (by positivity : (0 : ℝ) ≤ 1 / r))

theorem var_nonneg (f : Fin 384 → EReal) : 0 ≤ var f :=
  div_nonneg (Finset.sum_nonneg fun _ _ => square_nonneg _) chans_pos

theorem var_eps_pos (f : Fin 384 → EReal) : 0 < var f + eps := by
  obtain ⟨r, hr, he⟩ := eps_pos
  have h : (0 : EReal) < eps := by rw [he]; exact_mod_cast hr
  calc (0 : EReal) < eps := h
    _ = 0 + eps := (zero_add _).symm
    _ ≤ var f + eps := by gcongr; exact var_nonneg f

/-- Dividing by a root is multiplying by the reciprocal root, off zero. -/
theorem div_sqrt (x y : EReal) (hy : 0 < y) : Ideal.div x (Ideal.sqrt y) = x * Ideal.rsqrt y := by
  induction y with
  | bot => simp at hy
  | top =>
    have e1 : Ideal.sqrt ⊤ = ⊤ := rfl
    have e2 : Ideal.rsqrt ⊤ = 0 := rfl
    rw [e1, e2]; simp [Ideal.div]
  | coe r =>
    have hr : 0 < r := by exact_mod_cast hy
    have e1 : Ideal.sqrt (r : EReal) = (Real.sqrt r : EReal) := if_neg (not_lt.mpr hr.le)
    have e2 : Ideal.rsqrt (r : EReal) = ((Real.sqrt r)⁻¹ : ℝ) := (if_neg (not_lt.mpr hr.le)).trans (if_neg hr.ne')
    rw [e1, e2, Ideal.div_coe (Real.sqrt_pos.mpr hr).ne', one_div]

theorem lnR_eq (f g b : Fin 384 → EReal) (c : Fin 384) : lnR f g b c = ln f g b c := by
  unfold lnR ln unit; rw [div_sqrt _ _ (var_eps_pos f)]

/-! ## What is real -/

theorem mean_real {f : Fin 384 → EReal} (hf : ∀ c, IsReal (f c)) : IsReal (mean f) := (IsReal.sum hf).div chans_pos

theorem rsqrt_real {y : EReal} (h : IsReal y) (hy : 0 < y) : IsReal (Ideal.rsqrt y) := by
  obtain ⟨r, rfl⟩ := h
  have hr : 0 < r := by exact_mod_cast hy
  exact ⟨(Real.sqrt r)⁻¹, (if_neg (not_lt.mpr hr.le)).trans (if_neg hr.ne')⟩

theorem sqrt_real {y : EReal} (h : IsReal y) (hy : 0 ≤ y) : IsReal (Ideal.sqrt y) := by
  obtain ⟨r, rfl⟩ := h
  have hr : 0 ≤ r := by exact_mod_cast hy
  exact ⟨Real.sqrt r, if_neg (not_lt.mpr hr)⟩

theorem var_real {f : Fin 384 → EReal} (hf : ∀ c, IsReal (f c)) : IsReal (var f) :=
  (IsReal.sum fun c => ((hf c).sub (mean_real hf)).mul ((hf c).sub (mean_real hf))).div chans_pos

theorem unit_real {f : Fin 384 → EReal} (hf : ∀ c, IsReal (f c)) (c : Fin 384) : IsReal (unit f c) :=
  ((hf c).sub (mean_real hf)).mul (rsqrt_real ((var_real hf).add (isReal_of_pos eps_pos)) (var_eps_pos f))

theorem ln_real {f g b : Fin 384 → EReal} (hf : ∀ c, IsReal (f c)) (hg : ∀ c, IsReal (g c)) (hb : ∀ c, IsReal (b c)) (c : Fin 384) :
    IsReal (ln f g b c) := ((unit_real hf c).mul (hg c)).add (hb c)

theorem max_tiny_pos {x : EReal} (hx : IsReal x) : ∃ r : ℝ, 0 < r ∧ max x tiny = (r : EReal) := by
  obtain ⟨t, ht, et⟩ := tiny_pos
  obtain ⟨r, hr⟩ := hx.max ⟨t, et⟩
  refine ⟨r, ?_, hr⟩
  have : (t : EReal) ≤ (r : EReal) := by rw [← hr, ← et]; exact le_max_right _ _
  exact lt_of_lt_of_le ht (by exact_mod_cast this)

theorem nrm_real {r : Fin 64 → EReal} (hr : ∀ d, IsReal (r d)) (d : Fin 64) : IsReal (nrm r d) :=
  (hr d).div (max_tiny_pos (sqrt_real (IsReal.sum fun e => (hr e).mul (hr e)) (Finset.sum_nonneg fun _ _ => square_nonneg _)))

section head

variable {q k v : Fin 4096 → Fin 64 → EReal} (hq : ∀ p d, IsReal (q p d)) (hk : ∀ p d, IsReal (k p d)) (hv : ∀ p d, IsReal (v p d))

include hq in
theorem probe_real (d : Fin 64) : IsReal (probe q d) := IsReal.sum fun p => nrm_real (hq p) d

include hk in
theorem kabs_real (p : Fin 4096) (d : Fin 64) : IsReal (kabs k p d) := (nrm_real (hk p) d).max (nrm_real (hk p) d).neg

include hq hk in
theorem scoreR_real (i : Fin 64) : IsReal (scoreR q k i) :=
  IsReal.sum fun d => (IsReal.sum fun j => kabs_real hk _ d).mul (probe_real hq d)

include hq hk in
theorem scoreC_real (j : Fin 64) : IsReal (scoreC q k j) :=
  (IsReal.sum fun d => probe_real hq d).mul (IsReal.sum fun d => IsReal.sum fun i => kabs_real hk _ d)

include hq hk in
theorem sim_real (p : Fin 4096) (r : Fin 256) : IsReal (sim q k p r) :=
  IsReal.sum fun d => (nrm_real (hq p) d).mul (nrm_real (hk _) d)

include hq hk in
theorem top_real (p : Fin 4096) : IsReal (top q k p) := by
  obtain ⟨r, hr⟩ := Finite.exists_max (sim q k p)
  have : top q k p = sim q k p r :=
    le_antisymm (Finset.sup_le fun i _ => hr i) (Finset.le_sup (f := sim q k p) (Finset.mem_univ r))
  rw [this]; exact sim_real hq hk p r

include hq hk in
theorem ex_pos (p : Fin 4096) (r : Fin 256) : ∃ e : ℝ, 0 < e ∧ ex q k p r = (e : EReal) :=
  ((sim_real hq hk p r).sub (top_real hq hk p)).exp

include hq hk in
theorem sum_ex_pos (p : Fin 4096) : ∃ e : ℝ, 0 < e ∧ ∑ r, ex q k p r = (e : EReal) := by
  choose e he h using ex_pos hq hk p
  refine ⟨∑ r, e r, Finset.sum_pos (fun r _ => he r) ⟨0, Finset.mem_univ _⟩, ?_⟩
  rw [coe_sum]; exact Finset.sum_congr rfl fun r _ => h r

include hq hk hv in
theorem attn_real (p : Fin 4096) (d : Fin 64) : IsReal (attn q k v p d) :=
  (IsReal.sum fun r => (isReal_of_pos (ex_pos hq hk p r)).mul (hv _ d)).div (sum_ex_pos hq hk p)

include hq hk hv in
/-- Normalising the weights before or after the weighted sum is the same. -/
theorem attnR_eq (p : Fin 4096) (d : Fin 64) : attnR q k v p d = attn q k v p d := by
  obtain ⟨s, hs, es⟩ := sum_ex_pos hq hk p
  choose e _ he using ex_pos hq hk p
  choose w hw using fun r => hv (sel q k r) d
  unfold attnR attn
  rw [es, Ideal.div_coe hs.ne']
  simp only [he, hw, Ideal.div_coe hs.ne']
  norm_cast
  rw [← coe_sum, ← coe_sum, ← EReal.coe_mul, Finset.sum_mul]
  exact congrArg _ (Finset.sum_congr rfl fun r _ => by ring)

end head

theorem proj_real {x : Fin 4096 → Fin 384 → EReal} {g b : Fin 384 → EReal} {w : Fin 64 → Fin 384 → EReal}
    (hx : ∀ p c, IsReal (x p c)) (hg : ∀ c, IsReal (g c)) (hb : ∀ c, IsReal (b c)) (hw : ∀ d c, IsReal (w d c)) (p : Fin 4096) (d : Fin 64) :
    IsReal (proj x g b w p d) := IsReal.sum fun c => (ln_real (hx p) hg hb c).mul (hw d c)

/-- A common factor taken inside the gain and the bias. -/
theorem gain_eq {f g b : Fin 384 → EReal} {m : EReal} (hf : ∀ c, IsReal (f c)) (hg : ∀ c, IsReal (g c)) (hb : ∀ c, IsReal (b c))
    (hm : IsReal m) (c : Fin 384) : m * ln f g b c = ln f (fun c => m * g c) (fun c => m * b c) c := by
  unfold ln
  obtain ⟨u, hu⟩ := unit_real hf c
  obtain ⟨g', hg'⟩ := hg c
  obtain ⟨b', hb'⟩ := hb c
  obtain ⟨m', rfl⟩ := hm
  rw [hu]; simp only [hg', hb']
  norm_cast
  ring

end Cert.Proof.Spec

end
-- ==== Proof.Qkv.lean ====
/-
  What the first region's stores hold, index by index.
-/
module

public import proofs.«01_k».proof.Proof.Spec
public import proofs.«01_k».proof.Proof.Region0
public import Idealize.ShloMosaic.Lib.Pointwise
public import Idealize.ShloMosaic.Lib.Pipeline.ValueKit

@[expose] public section

noncomputable section

namespace Cert.Proof.Qkv

open Cert.KernelIdeal Cert.KernelIdeal.Gen
open Idealize.ShloMosaic Idealize.ShloMosaic.TcCoe
open Cert.Proof.Spec

/-- Row `r` of a block of channels. -/
abbrev row (x : S1x512x384.Idx → EReal) (r : Fin 512) : Fin 384 → EReal := fun c => x (ix3 0 r c)
/-- A gain or bias as a function of the channel. -/
abbrev vec (g : S1x384.Idx → EReal) : Fin 384 → EReal := fun c => g (ix2 0 c)

theorem pay3_apply (v0 : Vec Ideal S1x512x384 .f32) (v2 v4 : Vec Ideal S1x384 .f32) (r : Fin 512) (c : Fin 384) :
    k0_pay3 v0 v2 v4 (ix2 r c) = ln (row v0 r) (vec v2) (vec v4) c := by
  pointwise [k0_pay3]
  rfl

theorem q_apply (v0 : Vec Ideal S1x512x384 .f32) (v2 v4 : Vec Ideal S1x384 .f32) (w : Vec Ideal S384x512 .f32) (r : Fin 512) (o : Fin 512) :
    k0_pay9 (k0_pay3 v0 v2 v4) w (ix2 r o) = ∑ c : Fin 384, ln (row v0 r) (vec v2) (vec v4) c * w (ix2 c o) := by
  simp only [← pay3_apply]
  generalize k0_pay3 v0 v2 v4 = y
  pointwise [k0_pay9]

theorem kv_apply (v0 : Vec Ideal S1x512x384 .f32) (v2 v4 : Vec Ideal S1x384 .f32) (w : Vec Ideal S384x1024 .f32) (r : Fin 512) (o : Fin 1024) :
    k0_pay10 (k0_pay4 v0) (k0_pay5 v2) (k0_pay6 v4) (k0_pay7 v0) k0_pay8 w (ix2 r o)
      = ∑ c : Fin 384, ln (row v0 r) (vec v2) (vec v4) c * w (ix2 c o) := by
  pointwise [k0_pay10, k0_pay4, k0_pay5, k0_pay6, k0_pay7, k0_pay8]
  rfl

/-- A position's columns `base + h·64 + d` laid out by head. -/
def slabs {N : ℕ} (base : ℕ) (hN : base + 512 ≤ N) (P : (⟨2, ![512, N]⟩ : Shape).Idx → EReal) : S1x8x512x64.Idx → EReal :=
  fun y => P (ix2 (y 2 : Fin 512) ⟨base + (y 1).val * 64 + (y 3).val, by
    have h1 : (y 1).val < 8 := (y 1).isLt
    have h3 : (y 3).val < 64 := (y 3).isLt
    omega⟩)

/-- One head's slab, as the store writes it. -/
theorem slab_apply {N base : ℕ} (hN : base + 512 ≤ N) (P : (⟨2, ![512, N]⟩ : Shape).Idx → EReal) (k : ℕ) (hk : k < 8)
    (inb : ∀ a, (![0, k, 0, 0] : Fin 4 → ℕ) a + S1x1x512x64.size a ≤ S1x8x512x64.size a)
    (o : ℕ) (ho : o = base + k * 64) (hs : (⟨2, ![512, N]⟩ : Shape).Slices ![0, o] S512x64) (hc : S512x64.ShapeCasts S1x1x512x64)
    (x : S1x1x512x64.Idx) :
    shapeCast S1x1x512x64 (extractStridedSlice S512x64 ![0, o] P hs) hc x
      = slabs base hN P ((Rect.unit (s := S1x8x512x64) ![0, k, 0, 0] S1x1x512x64.size inb).emb x) := by
  subst ho
  have h1 : (x 1).val = 0 := by have : (x 1).val < 1 := (x 1).isLt; omega
  have h0 : (x 0).val = 0 := by have : (x 0).val < 1 := (x 0).isLt; omega
  unfold slabs
  refine (shapeCast_apply _ hc x (ix2 (x 2 : Fin 512) (x 3 : Fin 64)) ?_).trans
    (extractStridedSlice_apply _ P hs _ _ fun a => ?_)
  · rw [Shape.rowMajor_val_two, Shape.rowMajor_val_four]
    show (x 2).val * 64 + (x 3).val = (((x 0).val * 1 + (x 1).val) * 512 + (x 2).val) * 64 + (x 3).val
    omega
  · match a with
    | ⟨0, _⟩ => show 0 + 1 * (x 2).val = 0 + (x 2).val; omega
    | ⟨1, _⟩ => show base + (k + 1 * (x 1).val) * 64 + (0 + 1 * (x 3).val) = base + k * 64 + (x 3).val; omega

theorem slab_trunc {N base : ℕ} (hN : base + 512 ≤ N) (P : FVec Ideal (⟨2, ![512, N]⟩ : Shape) .f32) (k : ℕ) (hk : k < 8)
    (inb : ∀ a, (![0, k, 0, 0] : Fin 4 → ℕ) a + S1x1x512x64.size a ≤ S1x8x512x64.size a)
    (o : ℕ) (ho : o = base + k * 64) (hs : (⟨2, ![512, N]⟩ : Shape).Slices ![0, o] S512x64) (hc : S512x64.ShapeCasts S1x1x512x64)
    (x : S1x1x512x64.Idx) :
    shapeCast S1x1x512x64 (truncf .bf16 (extractStridedSlice S512x64 ![0, o] P hs : FVec Ideal S512x64 .f32) bitsLt_bf16_f32) hc x
      = slabs base hN P ((Rect.unit (s := S1x8x512x64) ![0, k, 0, 0] S1x1x512x64.size inb).emb x) :=
  slab_apply hN P k hk inb o ho hs hc x

section out

variable (x0 x1 : Vec Ideal S1x512x384 .f32) (x2 : Vec Ideal S384x512 .f32) (x3 : Vec Ideal S384x1024 .f32) (x4 x5 x6 x7 : Vec Ideal S1x384 .f32)

theorem ld_x (x : Vec Ideal S1x512x384 .f32) : View.ld x R0.r0_0 = x := View.ld_unit_zero (by decide) _ x
theorem ld_g (x : Vec Ideal S1x384 .f32) : View.ld x R0.r0_1 = x := View.ld_unit_zero (by decide) _ x
theorem ld_q (x : Vec Ideal S384x512 .f32) : View.ld x R0.r0_2 = x := View.ld_unit_zero (by decide) _ x
theorem ld_kv (x : Vec Ideal S384x1024 .f32) : View.ld x R0.r0_3 = x := View.ld_unit_zero (by decide) _ x

theorem out8 (y : S1x8x512x64.Idx) :
    R0.out0_8 x0 x1 x2 x3 x4 x5 x6 x7 y = slabs 0 (by decide) (R0.k0_pay37 x0 x1 x2 x3 x4 x5 x6 x7) y := by
  unfold R0.out0_8
  refine View.canon_apply_of_pieces _ _ ?_ y (R0.cover0_8 _ _ _ _ _ _ _ _ y)
  intro pc hpc x
  rcases List.mem_cons.mp hpc with rfl | hpc
  · exact slab_apply (N := 512) (base := 0) (by decide) (R0.k0_pay37 x0 x1 x2 x3 x4 x5 x6 x7) 7 (by decide) (by decide) 448 (by decide)
      slices_S512x512_o0_448_S512x64 shapeCasts_S512x64_S1x1x512x64 x
  rcases List.mem_cons.mp hpc with rfl | hpc
  · exact slab_apply (N := 512) (base := 0) (by decide) (R0.k0_pay37 x0 x1 x2 x3 x4 x5 x6 x7) 6 (by decide) (by decide) 384 (by decide)
      slices_S512x512_o0_384_S512x64 shapeCasts_S512x64_S1x1x512x64 x
  rcases List.mem_cons.mp hpc with rfl | hpc
  · exact slab_apply (N := 512) (base := 0) (by decide) (R0.k0_pay37 x0 x1 x2 x3 x4 x5 x6 x7) 5 (by decide) (by decide) 320 (by decide)
      slices_S512x512_o0_320_S512x64 shapeCasts_S512x64_S1x1x512x64 x
  rcases List.mem_cons.mp hpc with rfl | hpc
  · exact slab_apply (N := 512) (base := 0) (by decide) (R0.k0_pay37 x0 x1 x2 x3 x4 x5 x6 x7) 4 (by decide) (by decide) 256 (by decide)
      slices_S512x512_o0_256_S512x64 shapeCasts_S512x64_S1x1x512x64 x
  rcases List.mem_cons.mp hpc with rfl | hpc
  · exact slab_apply (N := 512) (base := 0) (by decide) (R0.k0_pay37 x0 x1 x2 x3 x4 x5 x6 x7) 3 (by decide) (by decide) 192 (by decide)
      slices_S512x512_o0_192_S512x64 shapeCasts_S512x64_S1x1x512x64 x
  rcases List.mem_cons.mp hpc with rfl | hpc
  · exact slab_apply (N := 512) (base := 0) (by decide) (R0.k0_pay37 x0 x1 x2 x3 x4 x5 x6 x7) 2 (by decide) (by decide) 128 (by decide)
      slices_S512x512_o0_128_S512x64 shapeCasts_S512x64_S1x1x512x64 x
  rcases List.mem_cons.mp hpc with rfl | hpc
  · exact slab_apply (N := 512) (base := 0) (by decide) (R0.k0_pay37 x0 x1 x2 x3 x4 x5 x6 x7) 1 (by decide) (by decide) 64 (by decide)
      slices_S512x512_o0_64_S512x64 shapeCasts_S512x64_S1x1x512x64 x
  rcases List.mem_cons.mp hpc with rfl | hpc
  · exact slab_apply (N := 512) (base := 0) (by decide) (R0.k0_pay37 x0 x1 x2 x3 x4 x5 x6 x7) 0 (by decide) (by decide) 0 (by decide)
      slices_S512x512_o0_0_S512x64 shapeCasts_S512x64_S1x1x512x64 x
  · exact absurd hpc List.not_mem_nil

theorem out9 (y : S1x8x512x64.Idx) :
    R0.out0_9 x0 x1 x2 x3 x4 x5 x6 x7 y = slabs 0 (by decide) (R0.k0_pay38 x0 x1 x2 x3 x4 x5 x6 x7) y := by
  unfold R0.out0_9
  refine View.canon_apply_of_pieces _ _ ?_ y (R0.cover0_9 _ _ _ _ _ _ _ _ y)
  intro pc hpc x
  rcases List.mem_cons.mp hpc with rfl | hpc
  · exact slab_apply (N := 1024) (base := 0) (by decide) (R0.k0_pay38 x0 x1 x2 x3 x4 x5 x6 x7) 7 (by decide) (by decide) 448 (by decide)
      slices_S512x1024_o0_448_S512x64 shapeCasts_S512x64_S1x1x512x64 x
  rcases List.mem_cons.mp hpc with rfl | hpc
  · exact slab_apply (N := 1024) (base := 0) (by decide) (R0.k0_pay38 x0 x1 x2 x3 x4 x5 x6 x7) 6 (by decide) (by decide) 384 (by decide)
      slices_S512x1024_o0_384_S512x64 shapeCasts_S512x64_S1x1x512x64 x
  rcases List.mem_cons.mp hpc with rfl | hpc
  · exact slab_apply (N := 1024) (base := 0) (by decide) (R0.k0_pay38 x0 x1 x2 x3 x4 x5 x6 x7) 5 (by decide) (by decide) 320 (by decide)
      slices_S512x1024_o0_320_S512x64 shapeCasts_S512x64_S1x1x512x64 x
  rcases List.mem_cons.mp hpc with rfl | hpc
  · exact slab_apply (N := 1024) (base := 0) (by decide) (R0.k0_pay38 x0 x1 x2 x3 x4 x5 x6 x7) 4 (by decide) (by decide) 256 (by decide)
      slices_S512x1024_o0_256_S512x64 shapeCasts_S512x64_S1x1x512x64 x
  rcases List.mem_cons.mp hpc with rfl | hpc
  · exact slab_apply (N := 1024) (base := 0) (by decide) (R0.k0_pay38 x0 x1 x2 x3 x4 x5 x6 x7) 3 (by decide) (by decide) 192 (by decide)
      slices_S512x1024_o0_192_S512x64 shapeCasts_S512x64_S1x1x512x64 x
  rcases List.mem_cons.mp hpc with rfl | hpc
  · exact slab_apply (N := 1024) (base := 0) (by decide) (R0.k0_pay38 x0 x1 x2 x3 x4 x5 x6 x7) 2 (by decide) (by decide) 128 (by decide)
      slices_S512x1024_o0_128_S512x64 shapeCasts_S512x64_S1x1x512x64 x
  rcases List.mem_cons.mp hpc with rfl | hpc
  · exact slab_apply (N := 1024) (base := 0) (by decide) (R0.k0_pay38 x0 x1 x2 x3 x4 x5 x6 x7) 1 (by decide) (by decide) 64 (by decide)
      slices_S512x1024_o0_64_S512x64 shapeCasts_S512x64_S1x1x512x64 x
  rcases List.mem_cons.mp hpc with rfl | hpc
  · exact slab_apply (N := 1024) (base := 0) (by decide) (R0.k0_pay38 x0 x1 x2 x3 x4 x5 x6 x7) 0 (by decide) (by decide) 0 (by decide)
      slices_S512x1024_o0_0_S512x64 shapeCasts_S512x64_S1x1x512x64 x
  · exact absurd hpc List.not_mem_nil

theorem out10 (y : S1x8x512x64.Idx) :
    R0.out0_10 x0 x1 x2 x3 x4 x5 x6 x7 y = slabs 512 (by decide) (R0.k0_pay38 x0 x1 x2 x3 x4 x5 x6 x7) y := by
  unfold R0.out0_10
  refine View.canon_apply_of_pieces (Val := Elt Ideal) (e := .bf16) (slabs 512 (by decide) (R0.k0_pay38 x0 x1 x2 x3 x4 x5 x6 x7)) _ ?_ y (R0.cover0_10 _ _ _ _ _ _ _ _ y)
  intro pc hpc x
  rcases List.mem_cons.mp hpc with rfl | hpc
  · exact slab_trunc (N := 1024) (base := 512) (by decide) (R0.k0_pay38 x0 x1 x2 x3 x4 x5 x6 x7) 7 (by decide) (by decide) 960 (by decide)
      slices_S512x1024_o0_960_S512x64 shapeCasts_S512x64_S1x1x512x64 x
  rcases List.mem_cons.mp hpc with rfl | hpc
  · exact slab_trunc (N := 1024) (base := 512) (by decide) (R0.k0_pay38 x0 x1 x2 x3 x4 x5 x6 x7) 6 (by decide) (by decide) 896 (by decide)
      slices_S512x1024_o0_896_S512x64 shapeCasts_S512x64_S1x1x512x64 x
  rcases List.mem_cons.mp hpc with rfl | hpc
  · exact slab_trunc (N := 1024) (base := 512) (by decide) (R0.k0_pay38 x0 x1 x2 x3 x4 x5 x6 x7) 5 (by decide) (by decide) 832 (by decide)
      slices_S512x1024_o0_832_S512x64 shapeCasts_S512x64_S1x1x512x64 x
  rcases List.mem_cons.mp hpc with rfl | hpc
  · exact slab_trunc (N := 1024) (base := 512) (by decide) (R0.k0_pay38 x0 x1 x2 x3 x4 x5 x6 x7) 4 (by decide) (by decide) 768 (by decide)
      slices_S512x1024_o0_768_S512x64 shapeCasts_S512x64_S1x1x512x64 x
  rcases List.mem_cons.mp hpc with rfl | hpc
  · exact slab_trunc (N := 1024) (base := 512) (by decide) (R0.k0_pay38 x0 x1 x2 x3 x4 x5 x6 x7) 3 (by decide) (by decide) 704 (by decide)
      slices_S512x1024_o0_704_S512x64 shapeCasts_S512x64_S1x1x512x64 x
  rcases List.mem_cons.mp hpc with rfl | hpc
  · exact slab_trunc (N := 1024) (base := 512) (by decide) (R0.k0_pay38 x0 x1 x2 x3 x4 x5 x6 x7) 2 (by decide) (by decide) 640 (by decide)
      slices_S512x1024_o0_640_S512x64 shapeCasts_S512x64_S1x1x512x64 x
  rcases List.mem_cons.mp hpc with rfl | hpc
  · exact slab_trunc (N := 1024) (base := 512) (by decide) (R0.k0_pay38 x0 x1 x2 x3 x4 x5 x6 x7) 1 (by decide) (by decide) 576 (by decide)
      slices_S512x1024_o0_576_S512x64 shapeCasts_S512x64_S1x1x512x64 x
  rcases List.mem_cons.mp hpc with rfl | hpc
  · exact slab_trunc (N := 1024) (base := 512) (by decide) (R0.k0_pay38 x0 x1 x2 x3 x4 x5 x6 x7) 0 (by decide) (by decide) 512 (by decide)
      slices_S512x1024_o0_512_S512x64 shapeCasts_S512x64_S1x1x512x64 x
  · exact absurd hpc List.not_mem_nil

end out

/-- The projected, head-by-head array of a batch of channels. -/
def projArr {N : ℕ} (base : ℕ) (hN : base + 512 ≤ N) (X : S4x4096x384.Idx → EReal) (g b : S1x384.Idx → EReal)
    (W : (⟨2, ![384, N]⟩ : Shape).Idx → EReal) : S4x8x4096x64.Idx → EReal :=
  fun y => ∑ c : Fin 384, ln (fun c => X (ix3 (y 0 : Fin 4) (y 2 : Fin 4096) c)) (vec g) (vec b) c
    * W (ix2 c ⟨base + (y 1).val * 64 + (y 3).val, by
        have h1 : (y 1).val < 8 := (y 1).isLt
        have h3 : (y 3).val < 64 := (y 3).isLt
        omega⟩)

theorem proj_of {N : ℕ} (base : ℕ) (hN : base + 512 ≤ N) (P : (⟨2, ![512, N]⟩ : Shape).Idx → EReal) (x : Vec Ideal S1x512x384 .f32)
    (g b : Vec Ideal S1x384 .f32) (W : (⟨2, ![384, N]⟩ : Shape).Idx → EReal)
    (hP : ∀ r o, P (ix2 r o) = ∑ c : Fin 384, ln (row x r) (vec g) (vec b) c * W (ix2 c o))
    (X : S4x4096x384.Idx → EReal) (y : S1x8x512x64.Idx) (i : S4x8x4096x64.Idx)
    (hx : ∀ c : Fin 384, x (ix3 0 (y 2 : Fin 512) c) = X (ix3 (i 0 : Fin 4) (i 2 : Fin 4096) c))
    (h1 : (i 1).val = (y 1).val) (h3 : (i 3).val = (y 3).val) :
    slabs base hN P y = projArr base hN X g b W i := by
  unfold slabs projArr
  refine (hP _ _).trans ?_
  have e : (row x (y 2 : Fin 512)) = fun c => X (ix3 (i 0 : Fin 4) (i 2 : Fin 4096) c) := funext hx
  refine Finset.sum_congr rfl fun c _ => congr (congrArg _ ?_) (congrArg W (congrArg (ix2 c) (Fin.ext ?_)))
  · exact congrArg (fun f => ln f (vec g) (vec b) c) e
  · show base + (y 1).val * 64 + (y 3).val = base + (i 1).val * 64 + (i 3).val
    rw [h1, h3]

theorem e0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem e1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![0, 0] := (by decide +kernel : ∀ t : Fin grid0.N, win0_7.index t = ![0, 0])
theorem e8 : ∀ t : Fin cfg0.N, win0_8.index t = ![(grid0.coords t 0).val, 0, (grid0.coords t 1).val, 0] :=
  (by decide +kernel : ∀ t : Fin grid0.N, win0_8.index t = ![(grid0.coords t 0).val, 0, (grid0.coords t 1).val, 0])
theorem e9 : ∀ t : Fin cfg0.N, win0_9.index t = ![(grid0.coords t 0).val, 0, (grid0.coords t 1).val, 0] :=
  (by decide +kernel : ∀ t : Fin grid0.N, win0_9.index t = ![(grid0.coords t 0).val, 0, (grid0.coords t 1).val, 0])
theorem e10 : ∀ t : Fin cfg0.N, win0_10.index t = ![(grid0.coords t 0).val, 0, (grid0.coords t 1).val, 0] :=
  (by decide +kernel : ∀ t : Fin grid0.N, win0_10.index t = ![(grid0.coords t 0).val, 0, (grid0.coords t 1).val, 0])

variable (V : (c : Dev nD) → (b : Ref sig .tc) → Buf (Elt Ideal) ((c : Thread nD τ).loc b))

theorem b2 (c : Dev nD) (t : Fin cfg0.N) : R0.iblk V c 2 t = V c main_v4 := by
  funext x; blk_simp [R0.iblk]; blk_ext [e2]
theorem b3 (c : Dev nD) (t : Fin cfg0.N) : R0.iblk V c 3 t = V c main_v5 := by
  funext x; blk_simp [R0.iblk]; blk_ext [e3]
theorem b4 (c : Dev nD) (t : Fin cfg0.N) : R0.iblk V c 4 t = V c main_v7 := by
  funext x; blk_simp [R0.iblk]; blk_ext [e4]
theorem b5 (c : Dev nD) (t : Fin cfg0.N) : R0.iblk V c 5 t = V c main_v8 := by
  funext x; blk_simp [R0.iblk]; blk_ext [e5]
theorem b6 (c : Dev nD) (t : Fin cfg0.N) : R0.iblk V c 6 t = V c main_v9 := by
  funext x; blk_simp [R0.iblk]; blk_ext [e6]
theorem b7 (c : Dev nD) (t : Fin cfg0.N) : R0.iblk V c 7 t = V c main_v10 := by
  funext x; blk_simp [R0.iblk]; blk_ext [e7]

theorem rows0 (c : Dev nD) (t : Fin cfg0.N) (r : Fin 512) (k : Fin 384) (i0 : Fin 4) (i2 : Fin 4096)
    (h0 : i0.val = (grid0.coords t 0).val) (h2 : i2.val = (grid0.coords t 1).val * 512 + r.val) :
    R0.iblk V c 0 t (ix3 0 r k) = V c main_v1 (ix3 i0 i2 k) := by
  blk_simp [R0.iblk]; blk_ext [e0]

theorem rows1 (c : Dev nD) (t : Fin cfg0.N) (r : Fin 512) (k : Fin 384) (i0 : Fin 4) (i2 : Fin 4096)
    (h0 : i0.val = (grid0.coords t 0).val) (h2 : i2.val = (grid0.coords t 1).val * 512 + r.val) :
    R0.iblk V c 1 t (ix3 0 r k) = V c main_v3 (ix3 i0 i2 k) := by
  blk_simp [R0.iblk]; blk_ext [e1]

theorem final8 (c : Dev nD) : (R0.dat V c).arrAt 8 cfg0.N
    = projArr 0 (by decide) (V c main_v1) (V c main_v7) (V c main_v8) (V c main_v4) := by
  refine (R0.dat V c).arrAt_eq_of_covers 8 _ (by decide +kernel) fun t hf y => ?_
  blk_simp
  rw [R0.after0_8, out8, b2, b4, b5]
  unfold R0.k0_pay37 R0.k0_pay36
  rw [ld_x, ld_g, ld_g, ld_q]
  refine proj_of 0 _ _ _ _ _ _ (fun r o => q_apply _ _ _ _ r o) _ y _ (fun k => rows0 V c t _ k _ _ ?_ ?_) ?_ ?_
  · blk_simp [e8]
  · blk_simp [e8]
  · blk_simp [e8]
  · blk_simp [e8]

theorem final9 (c : Dev nD) : (R0.dat V c).arrAt 9 cfg0.N
    = projArr 0 (by decide) (V c main_v3) (V c main_v9) (V c main_v10) (V c main_v5) := by
  refine (R0.dat V c).arrAt_eq_of_covers 9 _ (by decide +kernel) fun t hf y => ?_
  blk_simp
  rw [R0.after0_9, out9, b3, b6, b7]
  unfold R0.k0_pay38
  rw [ld_x, ld_g, ld_g, ld_kv]
  refine proj_of 0 _ _ _ _ _ _ (fun r o => kv_apply _ _ _ _ r o) _ y _ (fun k => rows1 V c t _ k _ _ ?_ ?_) ?_ ?_
  · blk_simp [e9]
  · blk_simp [e9]
  · blk_simp [e9]
  · blk_simp [e9]

theorem final10 (c : Dev nD) : (R0.dat V c).arrAt 10 cfg0.N
    = projArr 512 (by decide) (V c main_v3) (V c main_v9) (V c main_v10) (V c main_v5) := by
  refine (R0.dat V c).arrAt_eq_of_covers 10 _ (by decide +kernel) fun t hf y => ?_
  blk_simp
  rw [R0.after0_10, out10, b3, b6, b7]
  unfold R0.k0_pay38
  rw [ld_x, ld_g, ld_g, ld_kv]
  refine proj_of 512 _ _ _ _ _ _ (fun r o => kv_apply _ _ _ _ r o) _ y _ (fun k => rows1 V c t _ k _ _ ?_ ?_) ?_ ?_
  · blk_simp [e10]
  · blk_simp [e10]
  · blk_simp [e10]
  · blk_simp [e10]

end Cert.Proof.Qkv

end
-- ==== Proof.Attn.lean ====
/-
  What the attention region stores, index by index.
-/
module

public import proofs.«01_k».proof.Proof.Spec
public import proofs.«01_k».proof.Proof.Region1
public import Idealize.ShloMosaic.Lib.Pointwise
public import Idealize.ShloMosaic.Lib.Pipeline.ValueKit

@[expose] public section

noncomputable section

namespace Cert.Proof.Attn

open Cert.KernelIdeal Cert.KernelIdeal.Gen
open Idealize.ShloMosaic Idealize.ShloMosaic.TcCoe
open Cert.Proof.Spec Cert.Proof.R1

theorem bot : Ideal.ofBits .f32 0xFF800000#32 = (⊥ : EReal) := Select.ofBits_bot

/-- A block's rows as vectors of length 64. -/
abbrev mat (x : S1x1x4096x64.Idx → EReal) : Fin 4096 → Fin 64 → EReal := fun p d => x (ix4 0 0 p d)

theorem pay2_apply (x : Vec Ideal S1x1x4096x64 .f32) (p : Fin 4096) (d : Fin 64) : k1_pay2 x (ix2 p d) = nrm (mat x p) d := by
  pointwise [k1_pay2]
  rfl

theorem pay3_apply (x : Vec Ideal S1x1x4096x64 .f32) (i j d : Fin 64) : k1_pay3 x (ix3 i j d) = kabs (mat x) (at_ i j) d := by
  pointwise [k1_pay3]
  rfl

theorem pay4_apply (x : Vec Ideal S1x1x4096x64 .f32) (d : Fin 64) : k1_pay4 x (ix2 0 d) = probe (mat x) d := by
  have h := pay2_apply x
  unfold k1_pay4
  generalize k1_pay2 x = y at h
  pointwise
  simp only [h]
  rfl

theorem pay5_apply (q k : Vec Ideal S1x1x4096x64 .f32) (i : Fin 64) : k1_pay5 q k (ix2 i 0) = scoreR (mat q) (mat k) i := by
  have h3 := pay3_apply k
  have h4 := pay4_apply q
  unfold k1_pay5
  generalize k1_pay3 k = y at h3
  generalize k1_pay4 q = z at h4
  pointwise
  simp only [h3, h4]
  rfl

theorem pay6_apply (q k : Vec Ideal S1x1x4096x64 .f32) (i : Fin 64) : k1_pay6 q k (ix2 i 0) = scoreC (mat q) (mat k) i := by
  have h3 := pay3_apply k
  have h4 := pay4_apply q
  unfold k1_pay6
  generalize k1_pay3 k = y at h3
  generalize k1_pay4 q = z at h4
  pointwise
  simp only [h3, h4, Finset.univ_unique, Finset.sum_singleton]
  rfl

theorem concat_apply (f : Fin 16 → S16x1x64.Idx → EReal)
    (h : Shape.Concatenates [S16x1x64, S16x1x64, S16x1x64, S16x1x64, S16x1x64, S16x1x64, S16x1x64, S16x1x64, S16x1x64, S16x1x64, S16x1x64,
      S16x1x64, S16x1x64, S16x1x64, S16x1x64, S16x1x64] S16x16x64 1) (a j : Fin 16) (d : Fin 64) :
    concatenate S16x16x64 1 [⟨S16x1x64, f 0⟩, ⟨S16x1x64, f 1⟩, ⟨S16x1x64, f 2⟩, ⟨S16x1x64, f 3⟩, ⟨S16x1x64, f 4⟩, ⟨S16x1x64, f 5⟩,
      ⟨S16x1x64, f 6⟩, ⟨S16x1x64, f 7⟩, ⟨S16x1x64, f 8⟩, ⟨S16x1x64, f 9⟩, ⟨S16x1x64, f 10⟩, ⟨S16x1x64, f 11⟩, ⟨S16x1x64, f 12⟩,
      ⟨S16x1x64, f 13⟩, ⟨S16x1x64, f 14⟩, ⟨S16x1x64, f 15⟩] h (ix3 a j d) = f j (ix3 a 0 d) :=
  concatenate_ofFn_unit_apply 1 f h rfl rfl (ix3 a j d) j rfl (ix3 a 0 d) fun b hb => by
    match b with
    | ⟨0, _⟩ => rfl
    | ⟨1, _⟩ => exact absurd rfl hb
    | ⟨2, _⟩ => rfl

/-- Row `r` of the 256 gathered rows. -/
abbrev grow (f : Fin 16 → S16x1x64.Idx → EReal) (r : Fin 256) : Fin 64 → EReal :=
  fun d => f ⟨r.val % 16, by omega⟩ (ix3 ⟨r.val / 16, by omega⟩ 0 d)

theorem pay98_apply (f : Fin 16 → Vec Ideal S16x1x64 .f32) (r : Fin 256) (d : Fin 64) :
    k1_pay98 (f 0) (f 1) (f 2) (f 3) (f 4) (f 5) (f 6) (f 7) (f 8) (f 9) (f 10) (f 11) (f 12) (f 13) (f 14) (f 15) (ix2 r d)
      = nrm (grow f r) d := by
  have h := concat_apply f concatenates_S16x1x64_S16x1x64_S16x1x64_S16x1x64_S16x1x64_S16x1x64_S16x1x64_S16x1x64_S16x1x64_S16x1x64_S16x1x64_S16x1x64_S16x1x64_S16x1x64_S16x1x64_S16x1x64_S16x16x64_d1
  unfold k1_pay98
  dsimp only
  generalize concatenate _ _ _ _ = C at h ⊢
  pointwise
  simp only [h]
  rfl

theorem pay117_apply (q : FVec Ideal S4096x64 .f32) (k : FVec Ideal S256x64 .f32) (f : Fin 16 → Vec Ideal S16x1x64 .f32) (p : Fin 4096) (d : Fin 64) :
    k1_pay117 q k (f 0) (f 1) (f 2) (f 3) (f 4) (f 5) (f 6) (f 7) (f 8) (f 9) (f 10) (f 11) (f 12) (f 13) (f 14) (f 15) (ix2 p d)
      = Ideal.div (∑ r : Fin 256, Ideal.exp ((∑ e : Fin 64, q (ix2 p e) * k (ix2 r e)) - Finset.univ.sup fun r' : Fin 256 => ∑ e : Fin 64, q (ix2 p e) * k (ix2 r' e)) * grow f r d)
          (∑ r : Fin 256, Ideal.exp ((∑ e : Fin 64, q (ix2 p e) * k (ix2 r e)) - Finset.univ.sup fun r' : Fin 256 => ∑ e : Fin 64, q (ix2 p e) * k (ix2 r' e))) := by
  have h := concat_apply f concatenates_S16x1x64_S16x1x64_S16x1x64_S16x1x64_S16x1x64_S16x1x64_S16x1x64_S16x1x64_S16x1x64_S16x1x64_S16x1x64_S16x1x64_S16x1x64_S16x1x64_S16x1x64_S16x1x64_S16x16x64_d1
  unfold k1_pay117
  dsimp only
  generalize concatenate _ _ _ _ = C at h ⊢
  pointwise
  simp only [h, bot]
  rfl

theorem scores_row (q k : Vec Ideal S1x1x4096x64 .f32) : k1_pay5 q k = Order.col (scoreR (mat q) (mat k)) := by
  funext x; rw [Select.col_eq x]; exact pay5_apply q k _

theorem scores_col (q k : Vec Ideal S1x1x4096x64 .f32) : k1_pay6 q k = Order.col (scoreC (mat q) (mat k)) := by
  funext x; rw [Select.col_eq x]; exact pay6_apply q k _

/-- A gathered row is the block's row at the selected position. -/
theorem grow_gath (q k x : Vec Ideal S1x1x4096x64 .f32) (r : Fin 256) (d : Fin 64) :
    grow (fun j => colAt (gath x (pick (k1_pay5 q k))) (pick (k1_pay6 q k) j)) r d = mat x (sel (mat q) (mat k) r) d := by
  rw [scores_row, scores_col]
  unfold grow colAt gath rowAt mat sel at_ picks
  refine congrArg x (congrArg (fun p => ix4 0 0 p d) (Fin.ext ?_))
  exact congrArg₂ (fun a b => a * 64 + b) (Nat.mod_eq_of_lt (pick_lt _ _)) (Nat.mod_eq_of_lt (pick_lt _ _))

theorem pay1_apply (x : FVec Ideal S4096x64 .bf16) (p : Fin 4096) (d : Fin 64) : k1_pay1 x (ix4 0 0 p d) = x (ix2 p d) := by
  pointwise [k1_pay1]

theorem out1_apply (q k : Vec Ideal S1x1x4096x64 .f32) (v : Vec Ideal S1x1x4096x64 .bf16) (p : Fin 4096) (d : Fin 64) :
    out1 q k v (ix4 0 0 p d) = attn (mat q) (mat k) (mat v) p d := by
  unfold out1
  refine (pay1_apply _ p d).trans ?_
  refine (pay117_apply _ _ (fun j => colAt (gath v (pick (k1_pay5 q k))) (pick (k1_pay6 q k) j)) p d).trans ?_
  have hk := fun r e => (pay98_apply (fun j => colAt (gath k (pick (k1_pay5 q k))) (pick (k1_pay6 q k) j)) r e).trans
    (congrArg (fun f => nrm f e) (funext fun d => grow_gath q k k r d))
  have hv := fun r e => grow_gath q k v r e
  simp only [pay2_apply, hk, hv]
  rfl

/-- The attention of every head of every batch. -/
def attnArr (q k v : S4x8x4096x64.Idx → EReal) : S4x8x4096x64.Idx → EReal :=
  fun y => attn (fun p d => q (ix4 (y 0 : Fin 4) (y 1 : Fin 8) p d)) (fun p d => k (ix4 (y 0 : Fin 4) (y 1 : Fin 8) p d))
    (fun p d => v (ix4 (y 0 : Fin 4) (y 1 : Fin 8) p d)) (y 2 : Fin 4096) (y 3 : Fin 64)

theorem e0 : ∀ t : Fin cfg1.N, win1_0.index t = ![(grid1.coords t 0).val, (grid1.coords t 1).val, 0, 0] :=
  (by decide +kernel : ∀ t : Fin grid1.N, win1_0.index t = ![(grid1.coords t 0).val, (grid1.coords t 1).val, 0, 0])
theorem e1 : ∀ t : Fin cfg1.N, win1_1.index t = ![(grid1.coords t 0).val, (grid1.coords t 1).val, 0, 0] :=
  (by decide +kernel : ∀ t : Fin grid1.N, win1_1.index t = ![(grid1.coords t 0).val, (grid1.coords t 1).val, 0, 0])
theorem e2 : ∀ t : Fin cfg1.N, win1_2.index t = ![(grid1.coords t 0).val, (grid1.coords t 1).val, 0, 0] :=
  (by decide +kernel : ∀ t : Fin grid1.N, win1_2.index t = ![(grid1.coords t 0).val, (grid1.coords t 1).val, 0, 0])
theorem e3 : ∀ t : Fin cfg1.N, win1_3.index t = ![(grid1.coords t 0).val, (grid1.coords t 1).val, 0, 0] :=
  (by decide +kernel : ∀ t : Fin grid1.N, win1_3.index t = ![(grid1.coords t 0).val, (grid1.coords t 1).val, 0, 0])

variable (V : (c : Dev nD) → (b : Ref sig .tc) → Buf (Elt Ideal) ((c : Thread nD τ).loc b))

theorem m0 (c : Dev nD) (t : Fin cfg1.N) (i0 : Fin 4) (i1 : Fin 8) (h0 : i0.val = (grid1.coords t 0).val) (h1 : i1.val = (grid1.coords t 1).val) :
    mat (iblk V c 0 t) = fun p d => V c main_v19_0 (ix4 i0 i1 p d) := by
  funext p d; unfold mat; blk_simp [iblk]; blk_ext [e0]
theorem m1 (c : Dev nD) (t : Fin cfg1.N) (i0 : Fin 4) (i1 : Fin 8) (h0 : i0.val = (grid1.coords t 0).val) (h1 : i1.val = (grid1.coords t 1).val) :
    mat (iblk V c 1 t) = fun p d => V c main_v19_1 (ix4 i0 i1 p d) := by
  funext p d; unfold mat; blk_simp [iblk]; blk_ext [e1]
theorem m2 (c : Dev nD) (t : Fin cfg1.N) (i0 : Fin 4) (i1 : Fin 8) (h0 : i0.val = (grid1.coords t 0).val) (h1 : i1.val = (grid1.coords t 1).val) :
    mat (iblk V c 2 t) = fun p d => V c main_v19_2 (ix4 i0 i1 p d) := by
  funext p d; unfold mat; blk_simp [iblk]; blk_ext [e2]

theorem attn_of (q k : Vec Ideal S1x1x4096x64 .f32) (v : Vec Ideal S1x1x4096x64 .bf16) (Q K W : S4x8x4096x64.Idx → EReal)
    (y : S1x1x4096x64.Idx) (i : S4x8x4096x64.Idx)
    (hq : mat q = fun p d => Q (ix4 (i 0 : Fin 4) (i 1 : Fin 8) p d)) (hk : mat k = fun p d => K (ix4 (i 0 : Fin 4) (i 1 : Fin 8) p d))
    (hv : mat v = fun p d => W (ix4 (i 0 : Fin 4) (i 1 : Fin 8) p d))
    (h2 : (i 2).val = (y 2).val) (h3 : (i 3).val = (y 3).val) : out1 q k v y = attnArr Q K W i := by
  have e : y = ix4 0 0 (y 2 : Fin 4096) (y 3 : Fin 64) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
    | ⟨3, _⟩ => rfl
  refine (congrArg (out1 q k v) e).trans ((out1_apply q k v _ _).trans ?_)
  unfold attnArr
  rw [← hq, ← hk, ← hv]
  exact congrArg₂ (attn (mat q) (mat k) (mat v)) (Fin.ext h2.symm) (Fin.ext h3.symm)

theorem final3 (c : Dev nD) : (dat V c).arrAt 3 cfg1.N = attnArr (V c main_v19_0) (V c main_v19_1) (V c main_v19_2) := by
  refine (dat V c).arrAt_eq_of_covers 3 _ (by decide +kernel) fun t hf y => ?_
  blk_simp
  rw [after1_3]
  refine attn_of _ _ _ _ _ _ y _ (m0 V c t _ _ ?_ ?_) (m1 V c t _ _ ?_ ?_) (m2 V c t _ _ ?_ ?_) ?_ ?_
  all_goals blk_simp [e3]

end Cert.Proof.Attn

end
-- ==== Proof.OutK.lean ====
/-
  What the output region stores, index by index.
-/
module

public import proofs.«01_k».proof.Proof.Spec
public import proofs.«01_k».proof.Proof.Region2
public import Idealize.ShloMosaic.Lib.Pointwise
public import Idealize.ShloMosaic.Lib.Pipeline.ValueKit

@[expose] public section

noncomputable section

namespace Cert.Proof.OutK

open Cert.KernelIdeal Cert.KernelIdeal.Gen
open Idealize.ShloMosaic Idealize.ShloMosaic.TcCoe
open Cert.Proof.Spec Cert.Proof.R2

theorem concat_apply (f : Fin 8 → S512x64.Idx → EReal)
    (h : Shape.Concatenates [S512x64, S512x64, S512x64, S512x64, S512x64, S512x64, S512x64, S512x64] S512x512 1) (p e : Fin 512) :
    concatenate S512x512 1 [⟨S512x64, f 0⟩, ⟨S512x64, f 1⟩, ⟨S512x64, f 2⟩, ⟨S512x64, f 3⟩, ⟨S512x64, f 4⟩, ⟨S512x64, f 5⟩,
      ⟨S512x64, f 6⟩, ⟨S512x64, f 7⟩] h (ix2 p e) = f ⟨e.val / 64, by omega⟩ (ix2 p ⟨e.val % 64, by omega⟩) :=
  concatenate_ofFn_apply 1 f h rfl 64 rfl (ix2 p e) ⟨e.val / 64, by omega⟩ rfl (ix2 p ⟨e.val % 64, by omega⟩) rfl fun b hb => by
    match b with
    | ⟨0, _⟩ => rfl
    | ⟨1, _⟩ => exact absurd rfl hb

/-- A position's 512 attended coordinates, projected. -/
abbrev outRow (x : S1x8x512x64.Idx → EReal) (w : S512x384.Idx → EReal) (p : Fin 512) : Fin 384 → EReal :=
  outp (fun e => x (ix4 0 ⟨e.val / 64, by omega⟩ p ⟨e.val % 64, by omega⟩)) fun o e => w (ix2 e o)

theorem pay2_apply (f : Fin 8 → Vec Ideal S1x1x512x64 .bf16) (w : Vec Ideal S512x384 .f32) (p : Fin 512) (o : Fin 384) :
    k2_pay2 (f 0) (f 1) (f 2) (f 3) (f 4) (f 5) (f 6) (f 7) w (ix2 p o)
      = ∑ e : Fin 512, f ⟨e.val / 64, by omega⟩ (ix4 0 0 p ⟨e.val % 64, by omega⟩) * w (ix2 e o) := by
  have h := concat_apply (fun k => shapeCast S512x64 (f k) shapeCasts_S1x1x512x64_S512x64)
    concatenates_S512x64_S512x64_S512x64_S512x64_S512x64_S512x64_S512x64_S512x64_S512x512_d1
  unfold k2_pay2
  generalize concatenate _ _ _ _ = C at h ⊢
  pointwise
  simp only [h]
  refine Finset.sum_congr rfl fun e _ => congrArg (· * _) ?_
  generalize f _ = g
  pointwise

theorem ld_head (x : Vec Ideal S1x8x512x64 .bf16) (k : ℕ) (hk : k < 8)
    (inb : ∀ a, (![0, k, 0, 0] : Fin 4 → ℕ) a + S1x1x512x64.size a ≤ S1x8x512x64.size a) :
    View.ld x (Rect.unit (s := S1x8x512x64) ![0, k, 0, 0] S1x1x512x64.size inb)
      = fun y => x (ix4 0 ⟨k, hk⟩ (y 2 : Fin 512) (y 3 : Fin 64)) := by
  funext y
  have h1 : (y 1).val = 0 := by have : (y 1).val < 1 := (y 1).isLt; omega
  have h0 : (y 0).val = 0 := by have : (y 0).val < 1 := (y 0).isLt; omega
  refine (View.ld_apply x _ y).trans (congrArg x (funext fun a => Fin.ext ?_))
  match a with
  | ⟨0, _⟩ => show 0 + 1 * (y 0).val = 0; omega
  | ⟨1, _⟩ => show k + 1 * (y 1).val = k; omega
  | ⟨2, _⟩ => show 0 + 1 * (y 2).val = (y 2).val; omega
  | ⟨3, _⟩ => show 0 + 1 * (y 3).val = (y 3).val; omega

theorem ld_w (x : Vec Ideal S512x384 .f32) : View.ld x r2_8 = x := View.ld_unit_zero (by decide) _ x
theorem ld_g (x : Vec Ideal S1x384 .f32) : View.ld x r2_9 = x := View.ld_unit_zero (by decide) _ x
theorem ld_r (x : Vec Ideal S1x512x384 .f32) : View.ld x r2_10 = x := View.ld_unit_zero (by decide) _ x

theorem pay1_apply (y : FVec Ideal S512x384 .f32) (s : FVec Ideal S512 .f32) (g b : Vec Ideal S1x384 .f32) (r : Vec Ideal S1x512x384 .f32)
    (hs : ∀ p : Fin 512, s (ix1 p) = ∑ c : Fin 384, y (ix2 p c)) (p : Fin 512) (o : Fin 384) :
    k2_pay1 y s g b r (ix3 0 p o) = ln (fun c => y (ix2 p c)) (fun c => g (ix2 0 c)) (fun c => b (ix2 0 c)) o + r (ix3 0 p o) := by
  pointwise [k2_pay1]
  simp only [hs]
  rfl

theorem out_apply (x0 : Vec Ideal S1x8x512x64 .bf16) (x1 : Vec Ideal S512x384 .f32) (x2 x3 : Vec Ideal S1x384 .f32) (x4 : Vec Ideal S1x512x384 .f32)
    (p : Fin 512) (o : Fin 384) :
    out2_5 x0 x1 x2 x3 x4 (ix3 0 p o)
      = ln (outRow x0 x1 p) (fun c => x2 (ix2 0 c)) (fun c => x3 (ix2 0 c)) o + x4 (ix3 0 p o) := by
  have h := pay2_apply (fun k y => x0 (ix4 0 k (y 2 : Fin 512) (y 3 : Fin 64))) x1
  unfold out2_5
  rw [View.canon_unit_zero (by decide), ld_w, ld_g, ld_g, ld_r, ld_head x0 0 (by decide), ld_head x0 1 (by decide), ld_head x0 2 (by decide),
    ld_head x0 3 (by decide), ld_head x0 4 (by decide), ld_head x0 5 (by decide), ld_head x0 6 (by decide), ld_head x0 7 (by decide)]
  refine (pay1_apply _ _ _ _ _ (fun p => ?_) p o).trans ?_
  · unfold k2_pay3
    generalize k2_pay2 (F := Ideal) _ _ _ _ _ _ _ _ _ = y
    pointwise
  · exact congrArg (fun f => ln f _ _ o + _) (funext fun c => h p c)

/-- The block's output, before it is laid out as an image. -/
def outArr (A : S4x8x4096x64.Idx → EReal) (w : S512x384.Idx → EReal) (g b : S1x384.Idx → EReal) (R : S4x4096x384.Idx → EReal) :
    S4x4096x384.Idx → EReal :=
  fun y => ln (outp (fun e => A (ix4 (y 0 : Fin 4) ⟨e.val / 64, by omega⟩ (y 1 : Fin 4096) ⟨e.val % 64, by omega⟩)) fun o e => w (ix2 e o))
    (fun c => g (ix2 0 c)) (fun c => b (ix2 0 c)) (y 2 : Fin 384) + R y

theorem e0 : ∀ t : Fin cfg2.N, win2_0.index t = ![(grid2.coords t 0).val, 0, (grid2.coords t 1).val, 0] :=
  (by decide +kernel : ∀ t : Fin grid2.N, win2_0.index t = ![(grid2.coords t 0).val, 0, (grid2.coords t 1).val, 0])
theorem e1 : ∀ t : Fin cfg2.N, win2_1.index t = ![0, 0] := (by decide +kernel : ∀ t : Fin grid2.N, win2_1.index t = ![0, 0])
theorem e2 : ∀ t : Fin cfg2.N, win2_2.index t = ![0, 0] := (by decide +kernel : ∀ t : Fin grid2.N, win2_2.index t = ![0, 0])
theorem e3 : ∀ t : Fin cfg2.N, win2_3.index t = ![0, 0] := (by decide +kernel : ∀ t : Fin grid2.N, win2_3.index t = ![0, 0])
theorem e4 : ∀ t : Fin cfg2.N, win2_4.index t = ![(grid2.coords t 0).val, (grid2.coords t 1).val, 0] :=
  (by decide +kernel : ∀ t : Fin grid2.N, win2_4.index t = ![(grid2.coords t 0).val, (grid2.coords t 1).val, 0])
theorem e5 : ∀ t : Fin cfg2.N, win2_5.index t = ![(grid2.coords t 0).val, (grid2.coords t 1).val, 0] :=
  (by decide +kernel : ∀ t : Fin grid2.N, win2_5.index t = ![(grid2.coords t 0).val, (grid2.coords t 1).val, 0])

variable (V : (c : Dev nD) → (b : Ref sig .tc) → Buf (Elt Ideal) ((c : Thread nD τ).loc b))

theorem b1 (c : Dev nD) (t : Fin cfg2.N) : iblk V c 1 t = V c main_v6 := by
  funext x; blk_simp [iblk]; blk_ext [e1]
theorem b2 (c : Dev nD) (t : Fin cfg2.N) : iblk V c 2 t = V c main_v14 := by
  funext x; blk_simp [iblk]; blk_ext [e2]
theorem b3 (c : Dev nD) (t : Fin cfg2.N) : iblk V c 3 t = V c main_v18 := by
  funext x; blk_simp [iblk]; blk_ext [e3]

theorem m0 (c : Dev nD) (t : Fin cfg2.N) (h : Fin 8) (p : Fin 512) (d : Fin 64) (i0 : Fin 4) (i1 : Fin 4096)
    (h0 : i0.val = (grid2.coords t 0).val) (h1 : i1.val = (grid2.coords t 1).val * 512 + p.val) :
    iblk V c 0 t (ix4 0 h p d) = V c main_v20 (ix4 i0 h i1 d) := by
  blk_simp [iblk]; blk_ext [e0]
theorem m4 (c : Dev nD) (t : Fin cfg2.N) (p : Fin 512) (o : Fin 384) (i0 : Fin 4) (i1 : Fin 4096)
    (h0 : i0.val = (grid2.coords t 0).val) (h1 : i1.val = (grid2.coords t 1).val * 512 + p.val) :
    iblk V c 4 t (ix3 0 p o) = V c main_v1 (ix3 i0 i1 o) := by
  blk_simp [iblk]; blk_ext [e4]

theorem out_of (x0 : Vec Ideal S1x8x512x64 .bf16) (x1 : Vec Ideal S512x384 .f32) (x2 x3 : Vec Ideal S1x384 .f32) (x4 : Vec Ideal S1x512x384 .f32)
    (A : S4x8x4096x64.Idx → EReal) (R : S4x4096x384.Idx → EReal) (y : S1x512x384.Idx) (i : S4x4096x384.Idx)
    (h0 : ∀ (h : Fin 8) (d : Fin 64), x0 (ix4 0 h (y 1 : Fin 512) d) = A (ix4 (i 0 : Fin 4) h (i 1 : Fin 4096) d))
    (h4 : ∀ o : Fin 384, x4 (ix3 0 (y 1 : Fin 512) o) = R (ix3 (i 0 : Fin 4) (i 1 : Fin 4096) o))
    (h2 : (i 2).val = (y 2).val) : out2_5 x0 x1 x2 x3 x4 y = outArr A x1 x2 x3 R i := by
  have e : y = ix3 0 (y 1 : Fin 512) (y 2 : Fin 384) := by
    funext a
    match a with
    | ⟨0, _⟩ => exact Fin.ext (by have h : (y 0).val < 1 := (y 0).isLt; show (y 0).val = 0; omega)
    | ⟨1, _⟩ => rfl
    | ⟨2, _⟩ => rfl
  have e' : ix3 (i 0 : Fin 4) (i 1 : Fin 4096) (y 2 : Fin 384) = i := by
    funext a
    match a with
    | ⟨0, _⟩ => rfl
    | ⟨1, _⟩ => rfl
    | ⟨2, _⟩ => exact Fin.ext h2.symm
  have e2 : (y 2 : Fin 384) = (i 2 : Fin 384) := Fin.ext h2.symm
  refine (congrArg (out2_5 x0 x1 x2 x3 x4) e).trans ((out_apply x0 x1 x2 x3 x4 _ _).trans ?_)
  unfold outArr outRow
  refine congrArg₂ (· + ·) ?_ ((h4 _).trans (congrArg R e'))
  exact congrArg₂ (fun f o => ln (outp f fun o e => x1 (ix2 e o)) _ _ o) (funext fun e => h0 _ _) e2

theorem final5 (c : Dev nD) : (dat V c).arrAt 5 cfg2.N
    = outArr (V c main_v20) (V c main_v6) (V c main_v14) (V c main_v18) (V c main_v1) := by
  refine (dat V c).arrAt_eq_of_covers 5 _ (by decide +kernel) fun t hf y => ?_
  blk_simp
  rw [after2_5, b1, b2, b3]
  refine out_of _ _ _ _ _ _ _ y _ (fun h d => m0 V c t h _ d _ _ ?_ ?_) (fun o => m4 V c t _ o _ _ ?_ ?_) ?_
  all_goals blk_simp [e5]

end Cert.Proof.OutK

end
-- ==== Proof.Kernel.lean ====
/-
  The kernel's result, index by index, as the block's mathematics on its arguments.
-/
module

public import proofs.«01_k».proof.Proof.Qkv
public import proofs.«01_k».proof.Proof.Attn
public import proofs.«01_k».proof.Proof.OutK
public import proofs.«01_k».proof.Proof.Run
public import Idealize.ShloMosaic.Lib.StableHlo.ReadAt

@[expose] public section

noncomputable section

namespace Cert.Proof.Kernel

open Cert.KernelIdeal Cert.KernelIdeal.Gen
open Idealize.ShloMosaic Idealize.ShloMosaic.TcCoe
open Cert.Proof.Spec Cert.Proof.Whole

/-- An image's positions, row-major, and its channels. -/
abbrev img (A : S4x384x64x64.Idx → EReal) (b : Fin 4) : Fin 4096 → Fin 384 → EReal :=
  fun p o => A (ix4 b o ⟨p.val / 64, by omega⟩ ⟨p.val % 64, by omega⟩)
abbrev par (A : S1x384x1x1.Idx → EReal) : Fin 384 → EReal := fun c => A (ix4 0 c 0 0)
abbrev one (A : S1.Idx → EReal) : EReal := A (ix1 0)

/-- The block on its twelve arguments. -/
def whole (A0 A1 : S4x384x64x64.Idx → EReal) (A2 : S512x384.Idx → EReal) (A3 : S1024x384.Idx → EReal) (A4 : S384x512.Idx → EReal)
    (A5 A6 A7 A8 A9 A10 : S1x384x1x1.Idx → EReal) (A11 : S1.Idx → EReal) (b : Fin 4) (o : Fin 384) (i j : Fin 64) : EReal :=
  block (img A0 b) (img A1 b) (fun o c => A2 (ix2 o c)) (fun o c => A3 (ix2 o c)) (fun o e => A4 (ix2 o e))
    (par A5) (par A6) (par A7) (par A8) (par A9) (par A10) (one A11) (Spec.at_ i j) o

variable (m : (ℓ : Loc nD τ sig) → Buf (Elt Ideal) ℓ) (c : Dev nD)

/-! ## The host stretch before the regions -/

theorem v1_at (b : Fin 4) (p : Fin 4096) (o : Fin 384) : at_ (V1 m) c main_v1 (ix3 b p o) = img (m (c, main_arg0)) b p o := by
  unfold Whole.at_ V1 hostOps0
  after_reads_at
theorem v3_at (b : Fin 4) (p : Fin 4096) (o : Fin 384) : at_ (V1 m) c main_v3 (ix3 b p o) = img (m (c, main_arg1)) b p o := by
  unfold Whole.at_ V1 hostOps0
  after_reads_at
theorem v4_at (k : Fin 384) (o : Fin 512) : at_ (V1 m) c main_v4 (ix2 k o) = m (c, main_arg2) (ix2 o k) := by
  unfold Whole.at_ V1 hostOps0
  after_reads_at
theorem v5_at (k : Fin 384) (o : Fin 1024) : at_ (V1 m) c main_v5 (ix2 k o) = m (c, main_arg3) (ix2 o k) := by
  unfold Whole.at_ V1 hostOps0
  after_reads_at
theorem v6_at (e : Fin 512) (o : Fin 384) : at_ (V1 m) c main_v6 (ix2 e o) = m (c, main_arg4) (ix2 o e) := by
  unfold Whole.at_ V1 hostOps0
  after_reads_at
theorem v7_at (k : Fin 384) : at_ (V1 m) c main_v7 (ix2 0 k) = par (m (c, main_arg7)) k := by
  unfold Whole.at_ V1 hostOps0
  after_reads_at
theorem v8_at (k : Fin 384) : at_ (V1 m) c main_v8 (ix2 0 k) = par (m (c, main_arg8)) k := by
  unfold Whole.at_ V1 hostOps0
  after_reads_at
theorem v9_at (k : Fin 384) : at_ (V1 m) c main_v9 (ix2 0 k) = par (m (c, main_arg5)) k := by
  unfold Whole.at_ V1 hostOps0
  after_reads_at
theorem v10_at (k : Fin 384) : at_ (V1 m) c main_v10 (ix2 0 k) = par (m (c, main_arg6)) k := by
  unfold Whole.at_ V1 hostOps0
  after_reads_at
theorem v14_at (k : Fin 384) : at_ (V1 m) c main_v14 (ix2 0 k) = one (m (c, main_arg11)) * par (m (c, main_arg9)) k := by
  unfold Whole.at_ V1 hostOps0
  after_reads_at
theorem v18_at (k : Fin 384) : at_ (V1 m) c main_v18 (ix2 0 k) = one (m (c, main_arg11)) * par (m (c, main_arg10)) k := by
  unfold Whole.at_ V1 hostOps0
  after_reads_at

theorem v23_at (b : Fin 4) (o : Fin 384) (i j : Fin 64) :
    result m c (ix4 b o i j) = V4 m (outs m) c (Proc.devRef .tc main_v21) (ix3 b (Spec.at_ i j) o) := by
  unfold result V5 hostOps3
  after_reads_at
  rfl

/-! ## What the regions leave -/

theorem q_eq : at_ (V2 m (left0 m)) c main_v19_0
    = Qkv.projArr 0 (by decide) (at_ (V1 m) c main_v1) (at_ (V1 m) c main_v7) (at_ (V1 m) c main_v8) (at_ (V1 m) c main_v4) :=
  (V2_0 m (left0 m) c).trans ((Pipeline.afterRegion_arr (dat0 m c) (V1 m c) winFacts0.arr_inj 8).trans (Qkv.final8 (at_ (V1 m)) c))
theorem k_eq : at_ (V2 m (left0 m)) c main_v19_1
    = Qkv.projArr 0 (by decide) (at_ (V1 m) c main_v3) (at_ (V1 m) c main_v9) (at_ (V1 m) c main_v10) (at_ (V1 m) c main_v5) :=
  (V2_1 m (left0 m) c).trans ((Pipeline.afterRegion_arr (dat0 m c) (V1 m c) winFacts0.arr_inj 9).trans (Qkv.final9 (at_ (V1 m)) c))
theorem v_eq : at_ (V2 m (left0 m)) c main_v19_2
    = Qkv.projArr 512 (by decide) (at_ (V1 m) c main_v3) (at_ (V1 m) c main_v9) (at_ (V1 m) c main_v10) (at_ (V1 m) c main_v5) :=
  (V2_2 m (left0 m) c).trans ((Pipeline.afterRegion_arr (dat0 m c) (V1 m c) winFacts0.arr_inj 10).trans (Qkv.final10 (at_ (V1 m)) c))

theorem attn_eq : at_ (V3 m (left1 m)) c main_v20
    = Attn.attnArr (at_ (V2 m (left0 m)) c main_v19_0) (at_ (V2 m (left0 m)) c main_v19_1) (at_ (V2 m (left0 m)) c main_v19_2) :=
  (V3_0 m (left1 m) c).trans ((Pipeline.afterRegion_arr (dat1 m c) (V2 m (left0 m) c) winFacts1.arr_inj 3).trans (Attn.final3 (at_ (V2 m (left0 m))) c))

theorem keep (r : Ref sig .tc) (h3 : r ∉ ([main_v20] : List (Ref sig .tc))) (h2 : r ∉ ([main_v19_0, main_v19_1, main_v19_2] : List (Ref sig .tc))) :
    at_ (V3 m (left1 m)) c r = at_ (V1 m) c r :=
  (V3_of m (left1 m) c r h3).trans (V2_of m (left1 m) c r h2)

theorem out_eq : V4 m (outs m) c (Proc.devRef .tc main_v21)
    = OutK.outArr (at_ (V3 m (left1 m)) c main_v20) (at_ (V1 m) c main_v6) (at_ (V1 m) c main_v14) (at_ (V1 m) c main_v18) (at_ (V1 m) c main_v1) := by
  rw [← keep m c main_v6 (by decide) (by decide), ← keep m c main_v14 (by decide) (by decide), ← keep m c main_v18 (by decide) (by decide),
    ← keep m c main_v1 (by decide) (by decide)]
  exact (V4_0 m (outs m) c).trans ((Pipeline.afterRegion_arr (dat2 m c) (V3 m (left1 m) c) winFacts2.arr_inj 5).trans (OutK.final5 (at_ (V3 m (left1 m))) c))

/-! ## The result -/

theorem projArr_at {N : ℕ} (base : ℕ) (hN : base + 512 ≤ N) (X : S4x4096x384.Idx → EReal) (g b : S1x384.Idx → EReal)
    (W : (⟨2, ![384, N]⟩ : Shape).Idx → EReal) (n : Fin 4) (h : Fin 8) (p : Fin 4096) (d : Fin 64) (r : Fin N) (hr : r.val = base + h.val * 64 + d.val)
    (F G B w : Fin 384 → EReal) (hX : ∀ k, X (ix3 n p k) = F k) (hg : ∀ k, g (ix2 0 k) = G k) (hb : ∀ k, b (ix2 0 k) = B k)
    (hW : ∀ k, W (ix2 k r) = w k) : Qkv.projArr base hN X g b W (ix4 n h p d) = ∑ k, ln F G B k * w k := by
  obtain rfl : (fun k => X (ix3 n p k)) = F := funext hX
  obtain rfl : (fun k => g (ix2 0 k)) = G := funext hg
  obtain rfl : (fun k => b (ix2 0 k)) = B := funext hb
  obtain rfl : (fun k => W (ix2 k r)) = w := funext hW
  have e : (⟨base + h.val * 64 + d.val, by omega⟩ : Fin N) = r := Fin.ext hr.symm
  exact Finset.sum_congr rfl fun k _ => congrArg (fun r => _ * W (ix2 k r)) e

theorem outArr_at (A : S4x8x4096x64.Idx → EReal) (w : S512x384.Idx → EReal) (g b : S1x384.Idx → EReal) (R : S4x4096x384.Idx → EReal)
    (n : Fin 4) (p : Fin 4096) (o : Fin 384) (a : Fin 512 → EReal) (wo : Fin 384 → Fin 512 → EReal) (G B : Fin 384 → EReal) (x : EReal)
    (hA : ∀ e : Fin 512, A (ix4 n ⟨e.val / 64, by omega⟩ p ⟨e.val % 64, by omega⟩) = a e) (hw : ∀ o e, w (ix2 e o) = wo o e)
    (hg : ∀ k, g (ix2 0 k) = G k) (hb : ∀ k, b (ix2 0 k) = B k) (hR : R (ix3 n p o) = x) :
    OutK.outArr A w g b R (ix3 n p o) = ln (outp a wo) G B o + x := by
  obtain rfl : (fun e : Fin 512 => A (ix4 n ⟨e.val / 64, by omega⟩ p ⟨e.val % 64, by omega⟩)) = a := funext hA
  obtain rfl : (fun o e => w (ix2 e o)) = wo := funext fun o => funext (hw o)
  obtain rfl : (fun k => g (ix2 0 k)) = G := funext hg
  obtain rfl : (fun k => b (ix2 0 k)) = B := funext hb
  subst hR
  rfl

theorem proj_q (b : Fin 4) (h : Fin 8) : (fun p d => at_ (V2 m (left0 m)) c main_v19_0 (ix4 b h p d))
    = proj (img (m (c, main_arg0)) b) (par (m (c, main_arg7))) (par (m (c, main_arg8)))
        fun d k => m (c, main_arg2) (ix2 ⟨h.val * 64 + d.val, by omega⟩ k) :=
  funext fun p => funext fun d => (congrFun (q_eq m c) _).trans (projArr_at _ _ _ _ _ _ b h p d ⟨h.val * 64 + d.val, by omega⟩ (by simp) _ _ _ _
    (v1_at m c b p) (v7_at m c) (v8_at m c) fun k => v4_at m c k _)

theorem proj_k (b : Fin 4) (h : Fin 8) : (fun p d => at_ (V2 m (left0 m)) c main_v19_1 (ix4 b h p d))
    = proj (img (m (c, main_arg1)) b) (par (m (c, main_arg5))) (par (m (c, main_arg6)))
        fun d k => m (c, main_arg3) (ix2 ⟨h.val * 64 + d.val, by omega⟩ k) :=
  funext fun p => funext fun d => (congrFun (k_eq m c) _).trans (projArr_at _ _ _ _ _ _ b h p d ⟨h.val * 64 + d.val, by omega⟩ (by simp) _ _ _ _
    (v3_at m c b p) (v9_at m c) (v10_at m c) fun k => v5_at m c k _)

theorem proj_v (b : Fin 4) (h : Fin 8) : (fun p d => at_ (V2 m (left0 m)) c main_v19_2 (ix4 b h p d))
    = proj (img (m (c, main_arg1)) b) (par (m (c, main_arg5))) (par (m (c, main_arg6)))
        fun d k => m (c, main_arg3) (ix2 ⟨512 + h.val * 64 + d.val, by omega⟩ k) :=
  funext fun p => funext fun d => (congrFun (v_eq m c) _).trans (projArr_at _ _ _ _ _ _ b h p d ⟨512 + h.val * 64 + d.val, by omega⟩ (by simp) _ _ _ _
    (v3_at m c b p) (v9_at m c) (v10_at m c) fun k => v5_at m c k _)

theorem heads_eq (b : Fin 4) (h : Fin 8) (p : Fin 4096) (d : Fin 64) : at_ (V3 m (left1 m)) c main_v20 (ix4 b h p d)
    = heads (img (m (c, main_arg0)) b) (img (m (c, main_arg1)) b) (fun o k => m (c, main_arg2) (ix2 o k)) (fun o k => m (c, main_arg3) (ix2 o k))
        (par (m (c, main_arg5))) (par (m (c, main_arg6))) (par (m (c, main_arg7))) (par (m (c, main_arg8))) h p d := by
  rw [attn_eq]
  show attn (fun p d => at_ (V2 m (left0 m)) c main_v19_0 (ix4 b h p d)) (fun p d => at_ (V2 m (left0 m)) c main_v19_1 (ix4 b h p d))
    (fun p d => at_ (V2 m (left0 m)) c main_v19_2 (ix4 b h p d)) p d = _
  rw [proj_q, proj_k, proj_v]
  rfl

theorem result_at (b : Fin 4) (o : Fin 384) (i j : Fin 64) :
    result m c (ix4 b o i j) = whole (m (c, main_arg0)) (m (c, main_arg1)) (m (c, main_arg2)) (m (c, main_arg3)) (m (c, main_arg4)) (m (c, main_arg5))
      (m (c, main_arg6)) (m (c, main_arg7)) (m (c, main_arg8)) (m (c, main_arg9)) (m (c, main_arg10)) (m (c, main_arg11)) b o i j := by
  refine (v23_at m c b o i j).trans ((congrFun (out_eq m c) _).trans (outArr_at _ _ _ _ _ b (Spec.at_ i j) o _ _ _ _ _
    (fun e => heads_eq m c b _ _ _) (fun o e => v6_at m c e o) (v14_at m c) (v18_at m c) (v1_at m c b _ o)))

end Cert.Proof.Kernel

end
-- ==== Proof.RefA.lean ====
/-
  The reference, index by index: its layer normalisations, its projections, its unit vectors and its two scores.
-/
module

public import proofs.«01_k».proof.Proof.Kernel
public import proofs.«01_k».proof.Proof.Gen.ReferenceIdeal.Read

@[expose] public section

noncomputable section

namespace Cert.Proof.Ref

open Cert.ReferenceIdeal Cert.ReferenceIdeal.Gen Cert.ReferenceIdeal.Read
open Idealize.ShloMosaic Idealize.ShloMosaic.TcCoe
open Cert.Proof.Spec Cert.Proof.Kernel

/-! ## Layer normalisation -/

theorem count_eq : Ideal.ofBits .f32 1136656384#32 - FloatOps.sitofp (F := Ideal) .f32 (0#32 : BitVec 32) = chans := by
  have h : FloatOps.sitofp (F := Ideal) .f32 (0#32 : BitVec 32) = (0 : EReal) := by
    show (((0#32 : BitVec 32).toInt : ℝ) : EReal) = 0
    simp
  rw [h, sub_zero]; rfl

/-- The variance is divided by a count that is positive, so the value standing in for an undefined one is not read. -/
theorem guarded {x e g b z y r : EReal}
    (h : Ideal.div x (Ideal.sqrt (Ideal.div y chans + e)) * g + b = r) :
    Ideal.div x (Ideal.sqrt ((if 0 < Ideal.ofBits .f32 1136656384#32 - FloatOps.sitofp (F := Ideal) .f32 (0#32 : BitVec 32) then
      Ideal.div y (Ideal.ofBits .f32 1136656384#32 - FloatOps.sitofp (F := Ideal) .f32 (0#32 : BitVec 32)) else z) + e)) * g + b = r := by
  rw [count_eq, if_pos (by rw [chans_eq]; exact_mod_cast (by norm_num : (0 : ℝ) < 384))]; exact h

theorem ln1_apply (x1 : FVec Ideal S4x384x64x64 .f32) (x5 x6 : FVec Ideal S1x384x1x1 .f32) (b : Fin 4) (o : Fin 384) (i j : Fin 64) :
    val_main_v15 (F := Ideal) x1 x5 x6 (ix4 b o i j) = lnR (fun o => x1 (ix4 b o i j)) (par x5) (par x6) o := by
  unfold val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
    val_main_call0_v13 val_main_call0_v12 val_main_call0_v11 val_main_call0_v10 val_main_call0_v9 val_main_call0_v8 val_main_call0_v7
    val_main_call0_v6 val_main_call0_v5 val_main_call0_v4 val_main_call0_v3 val_main_call0_v2 val_main_call0_v1 val_main_call0_v0
    val_main_call0_call0_v1 val_main_call0_call0_v0
    val_main_call0_cst val_main_call0_cst_0 val_main_call0_cst_1 val_main_call0_cst_2 val_main_call0_cst_3 val_main_call0_cst_4
  unfold val_main_c
  pointwise
  exact guarded rfl

theorem ln0_apply (x0 : FVec Ideal S4x384x64x64 .f32) (x7 x8 : FVec Ideal S1x384x1x1 .f32) (b : Fin 4) (o : Fin 384) (i j : Fin 64) :
    val_main_v31 (F := Ideal) x0 x7 x8 (ix4 b o i j) = lnR (fun o => x0 (ix4 b o i j)) (par x7) (par x8) o := by
  unfold val_main_v31 val_main_v30 val_main_v29 val_main_v28 val_main_v27 val_main_v26 val_main_v25 val_main_v24 val_main_v23 val_main_v22 val_main_v21 val_main_v20 val_main_v19 val_main_v18 val_main_v17 val_main_v16 val_main_cst_2 val_main_cst_3 val_main_cst_5
    val_main_call1_v13 val_main_call1_v12 val_main_call1_v11 val_main_call1_v10 val_main_call1_v9 val_main_call1_v8 val_main_call1_v7
    val_main_call1_v6 val_main_call1_v5 val_main_call1_v4 val_main_call1_v3 val_main_call1_v2 val_main_call1_v1 val_main_call1_v0
    val_main_call1_call0_v1 val_main_call1_call0_v0
    val_main_call1_cst val_main_call1_cst_0 val_main_call1_cst_1 val_main_call1_cst_2 val_main_call1_cst_3 val_main_call1_cst_4
  unfold val_main_c_4
  pointwise
  exact guarded rfl

/-! ## The projections -/

theorem img_at (A : FVec Ideal S4x384x64x64 .f32) (b : Fin 4) (i j : Fin 64) : img A b (Spec.at_ i j) = fun o => A (ix4 b o i j) := by
  funext o
  show A (ix4 b o ⟨(i.val * 64 + j.val) / 64, _⟩ ⟨(i.val * 64 + j.val) % 64, _⟩) = _
  congr 1
  exact congrArg₂ (fun i j => ix4 b o i j) (Fin.ext (by show (i.val * 64 + j.val) / 64 = i.val; omega)) (Fin.ext (by show (i.val * 64 + j.val) % 64 = j.val; omega))

section
variable (x0 x1 : FVec Ideal S4x384x64x64 .f32) (x2 : FVec Ideal S512x384 .f32) (x3 : FVec Ideal S1024x384 .f32) (x5 x6 x7 x8 : FVec Ideal S1x384x1x1 .f32)

/-- The queries of batch `n / 8`, head `n % 8`. -/
def qm (n : Fin 32) : Fin 4096 → Fin 64 → EReal :=
  proj (img x0 ⟨n.val / 8, by omega⟩) (par x7) (par x8) fun d o => x2 (ix2 ⟨n.val % 8 * 64 + d.val, by omega⟩ o)
def km (n : Fin 32) : Fin 4096 → Fin 64 → EReal :=
  proj (img x1 ⟨n.val / 8, by omega⟩) (par x5) (par x6) fun d o => x3 (ix2 ⟨n.val % 8 * 64 + d.val, by omega⟩ o)
def vm (n : Fin 32) : Fin 4096 → Fin 64 → EReal :=
  proj (img x1 ⟨n.val / 8, by omega⟩) (par x5) (par x6) fun d o => x3 (ix2 ⟨512 + n.val % 8 * 64 + d.val, by omega⟩ o)

theorem v39_apply (n : Fin 32) (d i j : Fin 64) : val_main_v39 (F := Ideal) x0 x2 x7 x8 (ix4 n d i j) = qm x0 x2 x7 x8 n (Spec.at_ i j) d := by
  have h := ln0_apply x0 x7 x8
  unfold val_main_v39 val_main_v38 val_main_v37 val_main_v36
  generalize val_main_v31 (F := Ideal) x0 x7 x8 = y at h
  pointwise
  unfold qm proj
  simp only [img_at, h, lnR_eq]

theorem v41_apply (n : Fin 32) (d i j : Fin 64) : val_main_v41 (F := Ideal) x1 x3 x5 x6 (ix4 n d i j) = km x1 x3 x5 x6 n (Spec.at_ i j) d := by
  have h := ln1_apply x1 x5 x6
  unfold val_main_v41 val_main_v40 val_main_v34 val_main_v33 val_main_v32
  generalize val_main_v15 (F := Ideal) x1 x5 x6 = y at h
  pointwise
  unfold km proj
  simp only [img_at, h, lnR_eq]

theorem v43_apply (n : Fin 32) (d i j : Fin 64) : val_main_v43 (F := Ideal) x1 x3 x5 x6 (ix4 n d i j) = vm x1 x3 x5 x6 n (Spec.at_ i j) d := by
  have h := ln1_apply x1 x5 x6
  unfold val_main_v43 val_main_v42 val_main_v35 val_main_v33 val_main_v32
  generalize val_main_v15 (F := Ideal) x1 x5 x6 = y at h
  pointwise
  unfold vm proj
  simp only [img_at, h, lnR_eq, ← Nat.add_assoc]

/-! ## Unit vectors and scores -/

theorem v48_apply (n : Fin 32) (d i j : Fin 64) : val_main_v48 (F := Ideal) x0 x2 x7 x8 (ix4 n d i j) = nrm (qm x0 x2 x7 x8 n (Spec.at_ i j)) d := by
  have h := v39_apply x0 x2 x7 x8
  unfold val_main_v48 val_main_v47 val_main_v46 val_main_v45 val_main_v44 val_main_call2_v2 val_main_call2_v1 val_main_call2_v0 val_main_cst_6 val_main_call2_cst
  generalize val_main_v39 (F := Ideal) x0 x2 x7 x8 = y at h
  pointwise
  simp only [h]; rfl

theorem v53_apply (n : Fin 32) (d i j : Fin 64) : val_main_v53 (F := Ideal) x1 x3 x5 x6 (ix4 n d i j) = nrm (km x1 x3 x5 x6 n (Spec.at_ i j)) d := by
  have h := v41_apply x1 x3 x5 x6
  unfold val_main_v53 val_main_v52 val_main_v51 val_main_v50 val_main_v49 val_main_call3_v2 val_main_call3_v1 val_main_call3_v0 val_main_cst_7 val_main_call3_cst
  generalize val_main_v41 (F := Ideal) x1 x3 x5 x6 = y at h
  pointwise
  simp only [h]; rfl

theorem sum_at (f : Fin 4096 → EReal) : ∑ p, f p = ∑ i : Fin 64, ∑ j : Fin 64, f (Spec.at_ i j) := by
  rw [← Fintype.sum_prod_type' (f := fun i j => f (Spec.at_ i j))]
  refine (Fintype.sum_equiv (finProdFinEquiv (m := 64) (n := 64)) _ _ fun p => ?_).symm
  congr 1
  exact Fin.ext (by show p.1.val * 64 + p.2.val = p.2.val + 64 * p.1.val; omega)

theorem v55_apply (n : Fin 32) (d : Fin 64) : val_main_v55 (F := Ideal) x0 x2 x7 x8 (ix2 n d) = probe (qm x0 x2 x7 x8 n) d := by
  have h := v48_apply x0 x2 x7 x8
  unfold val_main_v55 val_main_cst_8
  generalize val_main_v48 (F := Ideal) x0 x2 x7 x8 = y at h
  pointwise
  simp only [h]
  exact (sum_at fun p => nrm (qm x0 x2 x7 x8 n p) d).symm

theorem v58_apply (n : Fin 32) (i : Fin 64) :
    val_main_v58 (F := Ideal) x0 x1 x2 x3 x5 x6 x7 x8 (ix2 n i) = scoreR (qm x0 x2 x7 x8 n) (km x1 x3 x5 x6 n) i := by
  have h := v53_apply x1 x3 x5 x6
  have h' := v55_apply x0 x2 x7 x8
  unfold val_main_v58 val_main_v57 val_main_v56 val_main_v54 val_main_cst_9
  generalize val_main_v53 (F := Ideal) x1 x3 x5 x6 = y at h
  generalize val_main_v55 (F := Ideal) x0 x2 x7 x8 = z at h'
  pointwise
  simp only [h, h']
  exact Finset.sum_congr rfl fun d _ => mul_comm _ _

theorem v68_apply (n : Fin 32) (j : Fin 64) :
    val_main_v68 (F := Ideal) x0 x1 x2 x3 x5 x6 x7 x8 (ix2 n j) = scoreC (qm x0 x2 x7 x8 n) (km x1 x3 x5 x6 n) j := by
  have h := v53_apply x1 x3 x5 x6
  have h' := v55_apply x0 x2 x7 x8
  unfold val_main_v68 val_main_v67 val_main_v66 val_main_v65 val_main_v64 val_main_v63 val_main_v54 val_main_cst_10 val_main_cst_11 val_main_cst_12
  generalize val_main_v53 (F := Ideal) x1 x3 x5 x6 = y at h
  generalize val_main_v55 (F := Ideal) x0 x2 x7 x8 = z at h'
  pointwise
  simp only [h, h']
  rfl

end

end Cert.Proof.Ref

end
-- ==== Proof.RefB.lean ====
/-
  The reference's choice of rows and columns: the largest scores' positions, and the keys and values gathered at them.
-/
module

public import proofs.«01_k».proof.Proof.RefA

@[expose] public section

noncomputable section

namespace Cert.Proof.Ref

open Cert.ReferenceIdeal Cert.ReferenceIdeal.Gen Cert.ReferenceIdeal.Read
open Idealize.ShloMosaic Idealize.ShloMosaic.TcCoe
open Cert.Proof.Spec Cert.Proof.Kernel

/-! ## The largest scores -/

theorem sliced (y : IVec S32x64 32) (n : Fin 32) (j : Fin 16) :
    extractStridedSlice S32x16 (fun _ => 0) y sliceFits_S32x64_S32x16 (ix2 n j) = y (ix2 n (j.castLE (by omega))) := by
  pointwise
  rfl

theorem sorted_apply (s : FVec Ideal S32x64 .f32) (n : Fin 32) (j : Fin 64) :
    (Host.sort2 S32x64 1 (fun l r : EReal × BitVec 32 => FloatOps.cmpfTotal (F := Ideal) (φ := .f32) .gt l.1 r.1) s (iotaInDim S32x64 32 1)).2 (ix2 n j) =
      BitVec.ofNat 32 (sortedFrom (Order.greater fun i => s (ix2 n i)) j).val := by
  have hal (k : Fin 64) : (ix2 n j : S32x64.Idx).along (1 : Fin 2) k = ix2 n k := by
    funext a
    match a with
    | ⟨0, _⟩ => rfl
    | ⟨1, _⟩ => rfl
  have hB : (fun k k' : Fin 64 => FloatOps.cmpfTotal (F := Ideal) (φ := .f32) .gt (s ((ix2 n j : S32x64.Idx).along (1 : Fin 2) k)) (s ((ix2 n j : S32x64.Idx).along (1 : Fin 2) k')) == 1#1)
      = Order.greater fun i => s (ix2 n i) := by
    funext k k'
    rw [hal, hal]
    show (BitVec.ofBool (decide (s (ix2 n k') < s (ix2 n k))) == 1#1) = decide (s (ix2 n k') < s (ix2 n k))
    cases decide (s (ix2 n k') < s (ix2 n k)) <;> rfl
  show BitVec.ofNat 32 (((ix2 n j : S32x64.Idx).along (1 : Fin 2) (sortedFrom (fun k k' : Fin 64 => FloatOps.cmpfTotal (F := Ideal) (φ := .f32) .gt (s ((ix2 n j : S32x64.Idx).along (1 : Fin 2) k)) (s ((ix2 n j : S32x64.Idx).along (1 : Fin 2) k')) == 1#1) j)) (1 : Fin 2)).val = _
  exact (congrArg (fun i : S32x64.Idx => BitVec.ofNat 32 (i 1).val) (hal _)).trans (congrArg (fun B : Fin 64 → Fin 64 → Bool => BitVec.ofNat 32 (sortedFrom B j).val) hB)

/-! ## Gathering -/

theorem clamped : ∀ k : Fin 64, min (BitVec.ofNat 32 k.val).toInt.toNat 63 = k.val := by decide

theorem gatherRow_apply (x : FVec Ideal S32x64x64x64 .f32) (idx : IVec S32x16x1 32) (n : Fin 32) (d : Fin 64) (r : Fin 16) (w : Fin 64) (k : Fin 64)
    (h : idx (ix3 n r 0) = BitVec.ofNat 32 k.val) :
    Host.gather gather_S32x64x64x64_S32x16x1_S32x64x16x64_13_2_0_0_2_2_164164 x idx (ix4 n d r w) = x (ix4 n d k w) := by
  unfold Host.gather
  congr 1
  funext a
  refine Fin.ext ?_
  show GatherDims.start _ (ix4 n d r w) idx a + GatherDims.batchCoord _ (ix4 n d r w) a + GatherDims.offCoord _ (ix4 n d r w) a = _
  have ha : a = 0 ∨ a = 1 ∨ a = 2 ∨ a = 3 := by revert a; decide
  have off (a : Fin 4) (h : a ∉ gather_S32x64x64x64_S32x16x1_S32x64x16x64_13_2_0_0_2_2_164164.startIndexMap) (h' : a ∉ gather_S32x64x64x64_S32x16x1_S32x64x16x64_13_2_0_0_2_2_164164.operandBatchingDims) :
      GatherDims.start gather_S32x64x64x64_S32x16x1_S32x64x16x64_13_2_0_0_2_2_164164 (ix4 n d r w) idx a + GatherDims.batchCoord gather_S32x64x64x64_S32x16x1_S32x64x16x64_13_2_0_0_2_2_164164 (ix4 n d r w) a = 0 := by
    rw [GatherDims.batchCoord_eq_zero _ _ _ h']; unfold GatherDims.start; rw [dif_neg h]
  rcases ha with rfl | rfl | rfl | rfl
  · rw [GatherDims.start_batching _ _ _ _ (by decide), GatherDims.offCoord_eq_zero _ _ _ (by decide), Nat.zero_add, Nat.add_zero]
    unfold GatherDims.batchCoord
    rw [dif_pos (by decide)]
    rfl
  · rw [off 1 (by decide) (by decide), Nat.zero_add]
    unfold GatherDims.offCoord
    rw [dif_pos (by decide)]
    rfl
  · rw [GatherDims.batchCoord_eq_zero _ _ _ (by decide), GatherDims.offCoord_eq_zero _ _ _ (by decide), Nat.add_zero]
    unfold GatherDims.start
    rw [dif_pos (by decide)]
    refine (congrArg (fun v : BitVec 32 => min v.toInt.toNat 63) ((congrArg idx ?_).trans h)).trans (clamped k)
    funext b
    match b with
    | ⟨0, _⟩ => rfl
    | ⟨1, _⟩ => rfl
    | ⟨2, _⟩ => rfl
  · rw [off 3 (by decide) (by decide), Nat.zero_add]
    unfold GatherDims.offCoord
    rw [dif_pos (by decide)]
    rfl

theorem gatherCol_apply (x : FVec Ideal S32x64x16x64 .f32) (idx : IVec S32x16x1 32) (n : Fin 32) (d : Fin 64) (r c : Fin 16) (k : Fin 64)
    (h : idx (ix3 n c 0) = BitVec.ofNat 32 k.val) :
    Host.gather gather_S32x64x16x64_S32x16x1_S32x64x16x16_12_3_0_0_3_2_164161 x idx (ix4 n d r c) = x (ix4 n d r k) := by
  unfold Host.gather
  congr 1
  funext a
  refine Fin.ext ?_
  show GatherDims.start _ (ix4 n d r c) idx a + GatherDims.batchCoord _ (ix4 n d r c) a + GatherDims.offCoord _ (ix4 n d r c) a = _
  have ha : a = 0 ∨ a = 1 ∨ a = 2 ∨ a = 3 := by revert a; decide
  have off (a : Fin 4) (h : a ∉ gather_S32x64x16x64_S32x16x1_S32x64x16x16_12_3_0_0_3_2_164161.startIndexMap) (h' : a ∉ gather_S32x64x16x64_S32x16x1_S32x64x16x16_12_3_0_0_3_2_164161.operandBatchingDims) :
      GatherDims.start gather_S32x64x16x64_S32x16x1_S32x64x16x16_12_3_0_0_3_2_164161 (ix4 n d r c) idx a + GatherDims.batchCoord gather_S32x64x16x64_S32x16x1_S32x64x16x16_12_3_0_0_3_2_164161 (ix4 n d r c) a = 0 := by
    rw [GatherDims.batchCoord_eq_zero _ _ _ h']; unfold GatherDims.start; rw [dif_neg h]
  rcases ha with rfl | rfl | rfl | rfl
  · rw [GatherDims.start_batching _ _ _ _ (by decide), GatherDims.offCoord_eq_zero _ _ _ (by decide), Nat.zero_add, Nat.add_zero]
    unfold GatherDims.batchCoord
    rw [dif_pos (by decide)]
    rfl
  · rw [off 1 (by decide) (by decide), Nat.zero_add]
    unfold GatherDims.offCoord
    rw [dif_pos (by decide)]
    rfl
  · rw [off 2 (by decide) (by decide), Nat.zero_add]
    unfold GatherDims.offCoord
    rw [dif_pos (by decide)]
    rfl
  · rw [GatherDims.batchCoord_eq_zero _ _ _ (by decide), GatherDims.offCoord_eq_zero _ _ _ (by decide), Nat.add_zero]
    unfold GatherDims.start
    rw [dif_pos (by decide)]
    refine (congrArg (fun v : BitVec 32 => min v.toInt.toNat 63) ((congrArg idx ?_).trans h)).trans (clamped k)
    funext b
    match b with
    | ⟨0, _⟩ => rfl
    | ⟨1, _⟩ => rfl
    | ⟨2, _⟩ => rfl

/-- An index below the extent is neither wrapped nor masked. -/
theorem kept_index : ∀ k : Fin 64,
    Scalar.select (IntOp.cmpi .slt (BitVec.ofNat 32 k.val) 0#32) (IntOp.addi (BitVec.ofNat 32 k.val) 64#32) (BitVec.ofNat 32 k.val) = BitVec.ofNat 32 k.val ∧
    IntOp.andi (IntOp.cmpi .sge (BitVec.ofNat 32 k.val) 0#32) (IntOp.cmpi .sle (BitVec.ofNat 32 k.val) 63#32) = 1#1 := by decide

theorem topK_apply (s : FVec Ideal S32x64 .f32) (n : Fin 32) (j : Fin 16) (hs : ∀ i, IsReal (s (ix2 n i))) :
    (Host.topK S32x16 1 (FloatOps.cmpfTotal .gt) s sliceFits_S32x64_S32x16).2 (ix2 n j) = BitVec.ofNat 32 (picks (fun i => s (ix2 n i)) j).val := by
  have key := Order.sortedFrom_eq_pick (Order.col fun i => s (ix2 n i)) (fun i => (hs i).ne_bot) j
  exact ((sliced _ n j).trans (sorted_apply s n _)).trans (congrArg (fun p : Fin 64 => BitVec.ofNat 32 p.val) key)

theorem masked (k : Fin 64) (y : Fin 1 → BitVec 32) (h : y 0 = BitVec.ofNat 32 k.val) :
    Finset.fold IntOp.andi 1#1 (fun x => IntOp.andi (IntOp.cmpi .sge (y x) 0#32) (IntOp.cmpi .sle (y x) 63#32)) Finset.univ = 1#1 := by
  have e : (fun x => IntOp.andi (IntOp.cmpi .sge (y x) 0#32) (IntOp.cmpi .sle (y x) 63#32)) = fun _ => 1#1 := by
    funext x
    rw [Subsingleton.elim x 0, h, (kept_index k).2]
  rw [e]; decide

section
variable (x0 x1 : FVec Ideal S4x384x64x64 .f32) (x2 : FVec Ideal S512x384 .f32) (x3 : FVec Ideal S1024x384 .f32) (x5 x6 x7 x8 : FVec Ideal S1x384x1x1 .f32)

theorem v60_apply (n : Fin 32) (d : Fin 64) (r : Fin 16) (w : Fin 64) (k : Fin 64)
    (h : val_main_indices (F := Ideal) x0 x1 x2 x3 x5 x6 x7 x8 (ix2 n r) = BitVec.ofNat 32 k.val) :
    val_main_v60 (F := Ideal) x0 x1 x2 x3 x5 x6 x7 x8 (ix4 n d r w) = val_main_v53 (F := Ideal) x1 x3 x5 x6 (ix4 n d k w) := by
  have hi : val_main_call4_v5 (F := Ideal) x0 x1 x2 x3 x5 x6 x7 x8 (ix3 n r 0) = BitVec.ofNat 32 k.val := by
    unfold val_main_call4_v5 val_main_call4_v4 val_main_call4_v3 val_main_call4_v2 val_main_call4_v1 val_main_call4_v0 val_main_v59
    generalize val_main_indices (F := Ideal) x0 x1 x2 x3 x5 x6 x7 x8 = y at h
    pointwise
    rw [h]
    exact (kept_index k).1
  have hm : val_main_call4_v12 (F := Ideal) x0 x1 x2 x3 x5 x6 x7 x8 (ix2 n r) = 1#1 := by
    unfold val_main_call4_v12 val_main_call4_v11 val_main_call4_v10 val_main_call4_v9 val_main_call4_v8 val_main_call4_v7 val_main_call4_v6
    generalize val_main_call4_v5 (F := Ideal) x0 x1 x2 x3 x5 x6 x7 x8 = y at hi
    pointwise
    simp only [val_main_call4_c_1_apply, val_main_call4_c_2_apply, val_main_call4_c_3_apply]
    exact masked k (fun x => y (ix3 n r x)) hi
  unfold val_main_v60 val_main_call4_v15 val_main_call4_v14 val_main_call4_v13
  generalize val_main_call4_v12 (F := Ideal) x0 x1 x2 x3 x5 x6 x7 x8 = m at hm
  generalize val_main_call4_v5 (F := Ideal) x0 x1 x2 x3 x5 x6 x7 x8 = y at hi
  generalize val_main_v53 (F := Ideal) x1 x3 x5 x6 = z
  pointwise
  rw [hm, gatherRow_apply _ _ _ _ _ _ k hi]
  rfl

theorem v62_apply (n : Fin 32) (d : Fin 64) (r : Fin 16) (w : Fin 64) (k : Fin 64)
    (h : val_main_indices (F := Ideal) x0 x1 x2 x3 x5 x6 x7 x8 (ix2 n r) = BitVec.ofNat 32 k.val) :
    val_main_v62 (F := Ideal) x0 x1 x2 x3 x5 x6 x7 x8 (ix4 n d r w) = val_main_v43 (F := Ideal) x1 x3 x5 x6 (ix4 n d k w) := by
  have hi : val_main_call5_v5 (F := Ideal) x0 x1 x2 x3 x5 x6 x7 x8 (ix3 n r 0) = BitVec.ofNat 32 k.val := by
    unfold val_main_call5_v5 val_main_call5_v4 val_main_call5_v3 val_main_call5_v2 val_main_call5_v1 val_main_call5_v0 val_main_v61
    generalize val_main_indices (F := Ideal) x0 x1 x2 x3 x5 x6 x7 x8 = y at h
    pointwise
    rw [h]
    exact (kept_index k).1
  have hm : val_main_call5_v12 (F := Ideal) x0 x1 x2 x3 x5 x6 x7 x8 (ix2 n r) = 1#1 := by
    unfold val_main_call5_v12 val_main_call5_v11 val_main_call5_v10 val_main_call5_v9 val_main_call5_v8 val_main_call5_v7 val_main_call5_v6
    generalize val_main_call5_v5 (F := Ideal) x0 x1 x2 x3 x5 x6 x7 x8 = y at hi
    pointwise
    simp only [val_main_call5_c_1_apply, val_main_call5_c_2_apply, val_main_call5_c_3_apply]
    exact masked k (fun x => y (ix3 n r x)) hi
  unfold val_main_v62 val_main_call5_v15 val_main_call5_v14 val_main_call5_v13
  generalize val_main_call5_v12 (F := Ideal) x0 x1 x2 x3 x5 x6 x7 x8 = m at hm
  generalize val_main_call5_v5 (F := Ideal) x0 x1 x2 x3 x5 x6 x7 x8 = y at hi
  generalize val_main_v43 (F := Ideal) x1 x3 x5 x6 = z
  pointwise
  rw [hm, gatherRow_apply _ _ _ _ _ _ k hi]
  rfl

theorem v70_apply (n : Fin 32) (d : Fin 64) (r c : Fin 16) (k : Fin 64)
    (h : val_main_indices_14 (F := Ideal) x0 x1 x2 x3 x5 x6 x7 x8 (ix2 n c) = BitVec.ofNat 32 k.val) :
    val_main_v70 (F := Ideal) x0 x1 x2 x3 x5 x6 x7 x8 (ix4 n d r c) = val_main_v60 (F := Ideal) x0 x1 x2 x3 x5 x6 x7 x8 (ix4 n d r k) := by
  have hi : val_main_call6_v5 (F := Ideal) x0 x1 x2 x3 x5 x6 x7 x8 (ix3 n c 0) = BitVec.ofNat 32 k.val := by
    unfold val_main_call6_v5 val_main_call6_v4 val_main_call6_v3 val_main_call6_v2 val_main_call6_v1 val_main_call6_v0 val_main_v69
    generalize val_main_indices_14 (F := Ideal) x0 x1 x2 x3 x5 x6 x7 x8 = y at h
    pointwise
    rw [h]
    exact (kept_index k).1
  have hm : val_main_call6_v12 (F := Ideal) x0 x1 x2 x3 x5 x6 x7 x8 (ix2 n c) = 1#1 := by
    unfold val_main_call6_v12 val_main_call6_v11 val_main_call6_v10 val_main_call6_v9 val_main_call6_v8 val_main_call6_v7 val_main_call6_v6
    generalize val_main_call6_v5 (F := Ideal) x0 x1 x2 x3 x5 x6 x7 x8 = y at hi
    pointwise
    simp only [val_main_call6_c_1_apply, val_main_call6_c_2_apply, val_main_call6_c_3_apply]
    exact masked k (fun x => y (ix3 n c x)) hi
  unfold val_main_v70 val_main_call6_v15 val_main_call6_v14 val_main_call6_v13
  generalize val_main_call6_v12 (F := Ideal) x0 x1 x2 x3 x5 x6 x7 x8 = m at hm
  generalize val_main_call6_v5 (F := Ideal) x0 x1 x2 x3 x5 x6 x7 x8 = y at hi
  generalize val_main_v60 (F := Ideal) x0 x1 x2 x3 x5 x6 x7 x8 = z
  pointwise
  rw [hm, gatherCol_apply _ _ _ _ _ _ k hi]
  rfl

theorem v72_apply (n : Fin 32) (d : Fin 64) (r c : Fin 16) (k : Fin 64)
    (h : val_main_indices_14 (F := Ideal) x0 x1 x2 x3 x5 x6 x7 x8 (ix2 n c) = BitVec.ofNat 32 k.val) :
    val_main_v72 (F := Ideal) x0 x1 x2 x3 x5 x6 x7 x8 (ix4 n d r c) = val_main_v62 (F := Ideal) x0 x1 x2 x3 x5 x6 x7 x8 (ix4 n d r k) := by
  have hi : val_main_call7_v5 (F := Ideal) x0 x1 x2 x3 x5 x6 x7 x8 (ix3 n c 0) = BitVec.ofNat 32 k.val := by
    unfold val_main_call7_v5 val_main_call7_v4 val_main_call7_v3 val_main_call7_v2 val_main_call7_v1 val_main_call7_v0 val_main_v71
    generalize val_main_indices_14 (F := Ideal) x0 x1 x2 x3 x5 x6 x7 x8 = y at h
    pointwise
    rw [h]
    exact (kept_index k).1
  have hm : val_main_call7_v12 (F := Ideal) x0 x1 x2 x3 x5 x6 x7 x8 (ix2 n c) = 1#1 := by
    unfold val_main_call7_v12 val_main_call7_v11 val_main_call7_v10 val_main_call7_v9 val_main_call7_v8 val_main_call7_v7 val_main_call7_v6
    generalize val_main_call7_v5 (F := Ideal) x0 x1 x2 x3 x5 x6 x7 x8 = y at hi
    pointwise
    simp only [val_main_call7_c_1_apply, val_main_call7_c_2_apply, val_main_call7_c_3_apply]
    exact masked k (fun x => y (ix3 n c x)) hi
  unfold val_main_v72 val_main_call7_v15 val_main_call7_v14 val_main_call7_v13
  generalize val_main_call7_v12 (F := Ideal) x0 x1 x2 x3 x5 x6 x7 x8 = m at hm
  generalize val_main_call7_v5 (F := Ideal) x0 x1 x2 x3 x5 x6 x7 x8 = y at hi
  generalize val_main_v62 (F := Ideal) x0 x1 x2 x3 x5 x6 x7 x8 = z
  pointwise
  rw [hm, gatherCol_apply _ _ _ _ _ _ k hi]
  rfl

end

end Cert.Proof.Ref

end
-- ==== Proof.RefC.lean ====
/-
  The reference's attention, output projection and last normalisation, and its result as the block's formula.
-/
module

public import proofs.«01_k».proof.Proof.RefB

@[expose] public section

noncomputable section

namespace Cert.Proof.Ref

open Cert.ReferenceIdeal Cert.ReferenceIdeal.Gen Cert.ReferenceIdeal.Read
open Idealize.ShloMosaic Idealize.ShloMosaic.TcCoe
open Cert.Proof.Spec Cert.Proof.Kernel

theorem heads_real {X0 X1 : Fin 4096 → Fin 384 → EReal} {wq : Fin 512 → Fin 384 → EReal} {wkv : Fin 1024 → Fin 384 → EReal} {cg cb qg qb : Fin 384 → EReal}
    (h0 : ∀ p c, IsReal (X0 p c)) (h1 : ∀ p c, IsReal (X1 p c)) (h2 : ∀ o c, IsReal (wq o c)) (h3 : ∀ o c, IsReal (wkv o c))
    (h5 : ∀ c, IsReal (cg c)) (h6 : ∀ c, IsReal (cb c)) (h7 : ∀ c, IsReal (qg c)) (h8 : ∀ c, IsReal (qb c)) (h : Fin 8) (p : Fin 4096) (d : Fin 64) :
    IsReal (heads X0 X1 wq wkv cg cb qg qb h p d) :=
  attn_real (proj_real h0 h7 h8 fun _ => h2 _) (proj_real h1 h5 h6 fun _ => h3 _) (proj_real h1 h5 h6 fun _ => h3 _) p d

theorem outp_real {a : Fin 512 → EReal} {wo : Fin 384 → Fin 512 → EReal} (ha : ∀ e, IsReal (a e)) (hw : ∀ o e, IsReal (wo o e)) (o : Fin 384) :
    IsReal (outp a wo o) := IsReal.sum fun e => (ha e).mul (hw o e)

variable (x0 x1 : FVec Ideal S4x384x64x64 .f32) (x2 : FVec Ideal S512x384 .f32) (x3 : FVec Ideal S1024x384 .f32) (x4 : FVec Ideal S384x512 .f32)
  (x5 x6 x7 x8 x9 x10 : FVec Ideal S1x384x1x1 .f32) (x11 : FVec Ideal S1 .f32)

section
variable (h0 : ∀ i, IsReal (x0 i)) (h1 : ∀ i, IsReal (x1 i)) (h2 : ∀ i, IsReal (x2 i)) (h3 : ∀ i, IsReal (x3 i))
  (h5 : ∀ i, IsReal (x5 i)) (h6 : ∀ i, IsReal (x6 i)) (h7 : ∀ i, IsReal (x7 i)) (h8 : ∀ i, IsReal (x8 i))

/-! ## What is real -/

include h0 h2 h7 h8 in
theorem qm_real (n : Fin 32) (p : Fin 4096) (d : Fin 64) : IsReal (qm x0 x2 x7 x8 n p d) :=
  proj_real (fun _ _ => h0 _) (fun _ => h7 _) (fun _ => h8 _) (fun _ _ => h2 _) p d

include h1 h3 h5 h6 in
theorem km_real (n : Fin 32) (p : Fin 4096) (d : Fin 64) : IsReal (km x1 x3 x5 x6 n p d) :=
  proj_real (fun _ _ => h1 _) (fun _ => h5 _) (fun _ => h6 _) (fun _ _ => h3 _) p d

include h1 h3 h5 h6 in
theorem vm_real (n : Fin 32) (p : Fin 4096) (d : Fin 64) : IsReal (vm x1 x3 x5 x6 n p d) :=
  proj_real (fun _ _ => h1 _) (fun _ => h5 _) (fun _ => h6 _) (fun _ _ => h3 _) p d

/-! ## The selected rows and columns -/

include h0 h1 h2 h3 h5 h6 h7 h8 in
theorem rows_apply (n : Fin 32) (r : Fin 16) :
    val_main_indices (F := Ideal) x0 x1 x2 x3 x5 x6 x7 x8 (ix2 n r) = BitVec.ofNat 32 (picks (scoreR (qm x0 x2 x7 x8 n) (km x1 x3 x5 x6 n)) r).val := by
  have h := v58_apply x0 x1 x2 x3 x5 x6 x7 x8 n
  have hr := scoreR_real (qm_real x0 x2 x7 x8 h0 h2 h7 h8 n) (km_real x1 x3 x5 x6 h1 h3 h5 h6 n)
  unfold val_main_indices
  generalize val_main_v58 (F := Ideal) x0 x1 x2 x3 x5 x6 x7 x8 = y at h
  rw [topK_apply y n r fun i => by rw [h]; exact hr i]
  exact congrArg (fun f => BitVec.ofNat 32 (picks f r).val) (funext h)

include h0 h1 h2 h3 h5 h6 h7 h8 in
theorem cols_apply (n : Fin 32) (r : Fin 16) :
    val_main_indices_14 (F := Ideal) x0 x1 x2 x3 x5 x6 x7 x8 (ix2 n r) = BitVec.ofNat 32 (picks (scoreC (qm x0 x2 x7 x8 n) (km x1 x3 x5 x6 n)) r).val := by
  have h := v68_apply x0 x1 x2 x3 x5 x6 x7 x8 n
  have hr := scoreC_real (qm_real x0 x2 x7 x8 h0 h2 h7 h8 n) (km_real x1 x3 x5 x6 h1 h3 h5 h6 n)
  unfold val_main_indices_14
  generalize val_main_v68 (F := Ideal) x0 x1 x2 x3 x5 x6 x7 x8 = y at h
  rw [topK_apply y n r fun i => by rw [h]; exact hr i]
  exact congrArg (fun f => BitVec.ofNat 32 (picks f r).val) (funext h)

include h0 h1 h2 h3 h5 h6 h7 h8 in
theorem keys_apply (n : Fin 32) (d : Fin 64) (r : Fin 256) :
    val_main_v70 (F := Ideal) x0 x1 x2 x3 x5 x6 x7 x8 (ix4 n d ⟨r.val / 16, by omega⟩ ⟨r.val % 16, by omega⟩)
      = nrm (km x1 x3 x5 x6 n (sel (qm x0 x2 x7 x8 n) (km x1 x3 x5 x6 n) r)) d := by
  rw [v70_apply x0 x1 x2 x3 x5 x6 x7 x8 n d _ _ _ (cols_apply x0 x1 x2 x3 x5 x6 x7 x8 h0 h1 h2 h3 h5 h6 h7 h8 n _),
    v60_apply x0 x1 x2 x3 x5 x6 x7 x8 n d _ _ _ (rows_apply x0 x1 x2 x3 x5 x6 x7 x8 h0 h1 h2 h3 h5 h6 h7 h8 n _), v53_apply]
  rfl

include h0 h1 h2 h3 h5 h6 h7 h8 in
theorem values_apply (n : Fin 32) (d : Fin 64) (r : Fin 256) :
    val_main_v72 (F := Ideal) x0 x1 x2 x3 x5 x6 x7 x8 (ix4 n d ⟨r.val / 16, by omega⟩ ⟨r.val % 16, by omega⟩)
      = vm x1 x3 x5 x6 n (sel (qm x0 x2 x7 x8 n) (km x1 x3 x5 x6 n) r) d := by
  rw [v72_apply x0 x1 x2 x3 x5 x6 x7 x8 n d _ _ _ (cols_apply x0 x1 x2 x3 x5 x6 x7 x8 h0 h1 h2 h3 h5 h6 h7 h8 n _),
    v62_apply x0 x1 x2 x3 x5 x6 x7 x8 n d _ _ _ (rows_apply x0 x1 x2 x3 x5 x6 x7 x8 h0 h1 h2 h3 h5 h6 h7 h8 n _), v43_apply]
  rfl

/-! ## Attention -/

theorem at_split (p : Fin 4096) : Spec.at_ ⟨p.val / 64, by omega⟩ ⟨p.val % 64, by omega⟩ = p :=
  Fin.ext (by show p.val / 64 * 64 + p.val % 64 = p.val; omega)

include h0 h1 h2 h3 h5 h6 h7 h8 in
theorem v79_apply (n : Fin 32) (p : Fin 4096) (r : Fin 256) :
    val_main_v79 (F := Ideal) x0 x1 x2 x3 x5 x6 x7 x8 (ix3 n p r) = sim (qm x0 x2 x7 x8 n) (km x1 x3 x5 x6 n) p r := by
  have h := v48_apply x0 x2 x7 x8
  have h' := keys_apply x0 x1 x2 x3 x5 x6 x7 x8 h0 h1 h2 h3 h5 h6 h7 h8
  unfold val_main_v79 val_main_v74 val_main_v73 val_main_v76 val_main_v75
  generalize val_main_v48 (F := Ideal) x0 x2 x7 x8 = y at h
  generalize val_main_v70 (F := Ideal) x0 x1 x2 x3 x5 x6 x7 x8 = z at h'
  pointwise
  simp only [h, h', at_split]
  rfl

theorem rowmax (y : FVec Ideal S32x4096x256 .f32) (n : Fin 32) (p : Fin 4096) :
    Host.reduce FloatOps.maximumf y (constant S_ .f32 0xFF800000#32) reducesTo_S32x4096x256_S32x4096_d2 h_S_ (ix2 n p) = Finset.univ.fold max (Ideal.ofBits .f32 0xFF800000#32) fun r => y (ix3 n p r) := by
  pointwise

theorem rowmax2 (y : FVec Ideal S32x4096 .f32) (n : Fin 32) (p : Fin 4096) :
   maximumf (broadcastInDim S32x4096 ![] bcast_S_S32x4096 (constant S_ .f32 0xFF800000#32)) y (ix2 n p) = max (Ideal.ofBits .f32 0xFF800000#32) (y (ix2 n p)) := by
  pointwise

include h0 h1 h2 h3 h5 h6 h7 h8 in
theorem v82_apply (n : Fin 32) (p : Fin 4096) :
    val_main_v82 (F := Ideal) x0 x1 x2 x3 x5 x6 x7 x8 (ix2 n p) = top (qm x0 x2 x7 x8 n) (km x1 x3 x5 x6 n) p := by
  have h := v79_apply x0 x1 x2 x3 x5 x6 x7 x8 h0 h1 h2 h3 h5 h6 h7 h8
  unfold val_main_v82 val_main_v81 val_main_v80 val_main_cst_15 val_main_cst_16
  generalize val_main_v79 (F := Ideal) x0 x1 x2 x3 x5 x6 x7 x8 = y at h
  refine (rowmax2 _ n p).trans ((congrArg _ (rowmax y n p)).trans ?_)
  rw [show (fun r => y (ix3 n p r)) = _ from funext (h n p), Attn.bot]
  exact bot_sup_eq _

include h0 h1 h2 h3 h5 h6 h7 h8 in
theorem v86_apply (n : Fin 32) (p : Fin 4096) (r : Fin 256) :
    val_main_v86 (F := Ideal) x0 x1 x2 x3 x5 x6 x7 x8 (ix3 n p r) = ex (qm x0 x2 x7 x8 n) (km x1 x3 x5 x6 n) p r := by
  have h := v79_apply x0 x1 x2 x3 x5 x6 x7 x8 h0 h1 h2 h3 h5 h6 h7 h8
  have h' := v82_apply x0 x1 x2 x3 x5 x6 x7 x8 h0 h1 h2 h3 h5 h6 h7 h8
  unfold val_main_v86 val_main_v85 val_main_v84 val_main_v83
  generalize val_main_v79 (F := Ideal) x0 x1 x2 x3 x5 x6 x7 x8 = y at h
  generalize val_main_v82 (F := Ideal) x0 x1 x2 x3 x5 x6 x7 x8 = z at h'
  pointwise
  simp only [h, h']
  rfl

include h0 h1 h2 h3 h5 h6 h7 h8 in
theorem v91_apply (n : Fin 32) (p : Fin 4096) (d : Fin 64) :
    val_main_v91 (F := Ideal) x0 x1 x2 x3 x5 x6 x7 x8 (ix3 n p d) = attn (qm x0 x2 x7 x8 n) (km x1 x3 x5 x6 n) (vm x1 x3 x5 x6 n) p d := by
  have h := v86_apply x0 x1 x2 x3 x5 x6 x7 x8 h0 h1 h2 h3 h5 h6 h7 h8
  have h' := values_apply x0 x1 x2 x3 x5 x6 x7 x8 h0 h1 h2 h3 h5 h6 h7 h8
  unfold val_main_v91 val_main_v90 val_main_v89 val_main_v88 val_main_v87 val_main_v78 val_main_v77 val_main_cst_17
  generalize val_main_v86 (F := Ideal) x0 x1 x2 x3 x5 x6 x7 x8 = y at h
  generalize val_main_v72 (F := Ideal) x0 x1 x2 x3 x5 x6 x7 x8 = z at h'
  pointwise
  simp only [h, h']
  exact attnR_eq (qm_real x0 x2 x7 x8 h0 h2 h7 h8 n) (km_real x1 x3 x5 x6 h1 h3 h5 h6 n) (vm_real x1 x3 x5 x6 h1 h3 h5 h6 n) p d

/-! ## The output projection and the last normalisation -/

theorem attn_head (n : Fin 32) (b : Fin 4) (h : Fin 8) (hn : n.val = b.val * 8 + h.val) (p : Fin 4096) (d : Fin 64) :
    attn (qm x0 x2 x7 x8 n) (km x1 x3 x5 x6 n) (vm x1 x3 x5 x6 n) p d
      = heads (img x0 b) (img x1 b) (fun o c => x2 (ix2 o c)) (fun o c => x3 (ix2 o c)) (par x5) (par x6) (par x7) (par x8) h p d := by
  have hb : b = ⟨n.val / 8, Nat.div_lt_of_lt_mul n.isLt⟩ := Fin.ext (by show b.val = n.val / 8; omega)
  have hh : h = ⟨n.val % 8, Nat.mod_lt _ (by decide)⟩ := Fin.ext (by show h.val = n.val % 8; omega)
  rw [hb, hh]
  rfl

/-- The projected attention of batch `b` at position `p`. -/
def proj4 (b : Fin 4) (p : Fin 4096) : Fin 384 → EReal :=
  outp (fun e => heads (img x0 b) (img x1 b) (fun o c => x2 (ix2 o c)) (fun o c => x3 (ix2 o c)) (par x5) (par x6) (par x7) (par x8)
    ⟨e.val / 64, by omega⟩ p ⟨e.val % 64, by omega⟩) (fun o e => x4 (ix2 o e))

include h0 h1 h2 h3 h5 h6 h7 h8 in
theorem v96_apply (b : Fin 4) (o : Fin 384) (i j : Fin 64) :
    val_main_v96 (F := Ideal) x0 x1 x2 x3 x4 x5 x6 x7 x8 (ix4 b o i j) = proj4 x0 x1 x2 x3 x4 x5 x6 x7 x8 b (Spec.at_ i j) o := by
  have h := v91_apply x0 x1 x2 x3 x5 x6 x7 x8 h0 h1 h2 h3 h5 h6 h7 h8
  unfold val_main_v96 val_main_v95 val_main_v94 val_main_v93 val_main_v92
  generalize val_main_v91 (F := Ideal) x0 x1 x2 x3 x5 x6 x7 x8 = y at h
  pointwise
  unfold proj4 outp
  refine Finset.sum_congr rfl fun e _ => ?_
  rw [h, attn_head x0 x1 x2 x3 x5 x6 x7 x8 _ b ⟨e.val / 64, by omega⟩ rfl]
  rfl

/-- The last normalisation is the first one, of the projected attention. -/
theorem ln2_eq : val_main_v112 (F := Ideal) x0 x1 x2 x3 x4 x5 x6 x7 x8 x9 x10 = val_main_v15 (F := Ideal) (val_main_v96 (F := Ideal) x0 x1 x2 x3 x4 x5 x6 x7 x8) x9 x10 := by
  unfold val_main_v112 val_main_v111 val_main_v110 val_main_v109 val_main_v108 val_main_v107 val_main_v106 val_main_v105 val_main_v104 val_main_v103 val_main_v102 val_main_v101 val_main_v100 val_main_v99 val_main_v98 val_main_v97 val_main_cst_18 val_main_cst_19 val_main_cst_21 val_main_call8_v13 val_main_call8_v12 val_main_call8_v11 val_main_call8_v10 val_main_call8_v9 val_main_call8_v8 val_main_call8_v7 val_main_call8_v6 val_main_call8_v5 val_main_call8_v4 val_main_call8_v3 val_main_call8_v2 val_main_call8_v1 val_main_call8_v0 val_main_call8_call0_v1 val_main_call8_call0_v0 val_main_call8_cst val_main_call8_cst_0 val_main_call8_cst_1 val_main_call8_cst_2 val_main_call8_cst_3 val_main_call8_cst_4
  unfold val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_call0_v13 val_main_call0_v12 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_call0_v1 val_main_call0_call0_v0 val_main_call0_cst val_main_call0_cst_0 val_main_call0_cst_1 val_main_call0_cst_2 val_main_call0_cst_3 val_main_call0_cst_4
  unfold val_main_c_20 val_main_c
  generalize val_main_v96 (F := Ideal) x0 x1 x2 x3 x4 x5 x6 x7 x8 = y
  rfl

theorem v116_apply (b : Fin 4) (o : Fin 384) (i j : Fin 64) :
    val_main_v116 (F := Ideal) x0 x1 x2 x3 x4 x5 x6 x7 x8 x9 x10 x11 (ix4 b o i j)
      = one x11 * val_main_v112 (F := Ideal) x0 x1 x2 x3 x4 x5 x6 x7 x8 x9 x10 (ix4 b o i j) + x0 (ix4 b o i j) := by
  unfold val_main_v116 val_main_v115 val_main_v114 val_main_v113
  generalize val_main_v112 (F := Ideal) x0 x1 x2 x3 x4 x5 x6 x7 x8 x9 x10 = y
  pointwise

variable (h4 : ∀ i, IsReal (x4 i)) (h9 : ∀ i, IsReal (x9 i)) (h10 : ∀ i, IsReal (x10 i)) (h11 : ∀ i, IsReal (x11 i))

include h0 h1 h2 h3 h4 h5 h6 h7 h8 in
theorem proj4_real (b : Fin 4) (p : Fin 4096) (o : Fin 384) : IsReal (proj4 x0 x1 x2 x3 x4 x5 x6 x7 x8 b p o) :=
  outp_real (fun _ => heads_real (fun _ _ => h0 _) (fun _ _ => h1 _) (fun _ _ => h2 _) (fun _ _ => h3 _)
    (fun _ => h5 _) (fun _ => h6 _) (fun _ => h7 _) (fun _ => h8 _) _ p _) (fun _ _ => h4 _) o

include h0 h1 h2 h3 h4 h5 h6 h7 h8 h9 h10 h11 in
/-- The reference's result, at real arguments. -/
theorem result_at (b : Fin 4) (o : Fin 384) (i j : Fin 64) :
    val_main_v116 (F := Ideal) x0 x1 x2 x3 x4 x5 x6 x7 x8 x9 x10 x11 (ix4 b o i j) = whole x0 x1 x2 x3 x4 x5 x6 x7 x8 x9 x10 x11 b o i j := by
  have h := fun o => v96_apply x0 x1 x2 x3 x4 x5 x6 x7 x8 h0 h1 h2 h3 h5 h6 h7 h8 b o i j
  rw [v116_apply, ln2_eq, ln1_apply, lnR_eq, show (fun o => val_main_v96 (F := Ideal) x0 x1 x2 x3 x4 x5 x6 x7 x8 (ix4 b o i j)) = _ from funext h,
    gain_eq (proj4_real x0 x1 x2 x3 x4 x5 x6 x7 x8 h0 h1 h2 h3 h5 h6 h7 h8 h4 b _) (fun _ => h9 _) (fun _ => h10 _) (h11 _),
    ← congrFun (img_at x0 b i j) o]
  rfl

end

end Cert.Proof.Ref

end
-- ==== Proof.Finite.lean ====
/-
  What the precondition says: every element of every argument is a real number.
-/
module

public import proofs.«01_k».proof.Proof.Spec
public import proofs.«01_k».proof.Proof.Gen.Pre_all_finite
public import Idealize.ShloMosaic.Lib.ReduceAll

@[expose] public section

noncomputable section

namespace Cert.Proof.Finite

open Cert.Pre_all_finite Cert.Pre_all_finite.Gen
open Idealize.ShloMosaic
open Cert.Proof.Spec

instance : Subsingleton S_.Idx := ⟨fun a b => funext fun k => k.elim0⟩

theorem real_of_lt {x : EReal} (h : Max.max x (-x) < (⊤ : EReal)) : IsReal x := by
  induction x with
  | bot => simp at h
  | coe r => exact ⟨r, rfl⟩
  | top => simp at h

theorem inf_eq : Ideal.ofBits .f32 0x7F800000#32 = ⊤ := by
  simp [Ideal.ofBits, Ideal.ieee]

theorem real_all {s : Shape} {axes : List (Fin s.rank)} (x : FVec Ideal s .f32) (hb : S_.BroadcastsInDim s (![] : Fin 0 → Fin s.rank)) (h : s.ReducesTo axes S_)
    (j : S_.Idx)
    (e : Host.reduce IntOp.andi (cmpf .olt (Host.absf x) (broadcastInDim s ![] hb (constant S_ .f32 0x7F800000#32))) (constantI S_ 1 1#1) h h_S_ j = 1#1)
    (i : s.Idx) : IsReal (x i) := by
  have h1 : BitVec.ofBool (decide (Max.max (x i) (-(x i)) < Ideal.ofBits .f32 0x7F800000#32)) = 1#1 := Host.reduce_andi_all _ _ h h_S_ j e i
  refine real_of_lt ?_
  rw [← inf_eq]
  by_contra hn
  rw [decide_eq_false hn] at h1
  exact absurd h1 (by decide)

theorem both {x y : IVec S_ 1} {j : S_.Idx} (h : andi x y j = 1#1) : x j = 1#1 ∧ y j = 1#1 := IntOp.andi_eq_one.1 h

theorem args_real {x0 x1 : FVec Ideal S4x384x64x64 .f32} {x2 : FVec Ideal S512x384 .f32} {x3 : FVec Ideal S1024x384 .f32} {x4 : FVec Ideal S384x512 .f32}
    {x5 x6 x7 x8 x9 x10 : FVec Ideal S1x384x1x1 .f32} {x11 : FVec Ideal S1 .f32} {j : S_.Idx}
    (h : Cert.Pre_all_finite.fn (F := Ideal) x0 x1 x2 x3 x4 x5 x6 x7 x8 x9 x10 x11 j = 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧
    (∀ i, IsReal (x6 i)) ∧ (∀ i, IsReal (x7 i)) ∧ (∀ i, IsReal (x8 i)) ∧ (∀ i, IsReal (x9 i)) ∧ (∀ i, IsReal (x10 i)) ∧ (∀ i, IsReal (x11 i)) := by
  unfold Cert.Pre_all_finite.fn Cert.Pre_all_finite.fn_part1 Cert.Pre_all_finite.fn_part2 Cert.Pre_all_finite.fn_part3 at h
  obtain ⟨h, e11⟩ := both h
  obtain ⟨h, e10⟩ := both h
  obtain ⟨h, e9⟩ := both h
  obtain ⟨h, e8⟩ := both h
  obtain ⟨h, e7⟩ := both h
  obtain ⟨h, e6⟩ := both h
  obtain ⟨h, e5⟩ := both h
  obtain ⟨h, e4⟩ := both h
  obtain ⟨h, e3⟩ := both h
  obtain ⟨h, e2⟩ := both h
  obtain ⟨e0, e1⟩ := both h
  exact ⟨real_all _ _ _ j e0, real_all _ _ _ j e1, real_all _ _ _ j e2, real_all _ _ _ j e3, real_all _ _ _ j e4, real_all _ _ _ j e5, real_all _ _ _ j e6,
    real_all _ _ _ j e7, real_all _ _ _ j e8, real_all _ _ _ j e9, real_all _ _ _ j e10, real_all _ _ _ j e11⟩

end Cert.Proof.Finite

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_all_finite
public import proofs.«01_k».proof.Proof.Run
public import proofs.«01_k».proof.Proof.RefC
public import proofs.«01_k».proof.Proof.Finite
public import Idealize.ShloMosaic.Lib.Quiescent

@[expose] public section

namespace Cert.Proof

open Idealize.ShloMosaic Idealize.ShloMosaic.TcCoe Idealize.SL.Sem

/-- The kernel's frame: its run, read at the arguments and the counters. -/
theorem kernel_frame : Cert.quiescent_KernelIdeal (hKernelIdeal := Cert.KernelIdeal.Gen.facts) := fun m g _ =>
  (θ_run _ _ _).mono (fun _ h => ⟨fun c => (h.1 c).2, h.2⟩) (Whole.run m g)

/-- The reference's frame: its run, read at the arguments; it declares no counter. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

theorem kernel_frame_finite : Cert.quiescent_KernelIdeal_pre_all_finite (hKernelIdeal := Cert.KernelIdeal.Gen.facts) (hPre_all_finite := Cert.Pre_all_finite.Gen.facts) := fun m g _ =>
  (θ_run _ _ _).mono (fun _ h => ⟨fun c => (h.1 c).2, h.2⟩) (Whole.run m g)

theorem reference_frame_finite : Cert.quiescent_ReferenceIdeal_pre_all_finite (hReferenceIdeal := Cert.ReferenceIdeal.Gen.facts) (hPre_all_finite := Cert.Pre_all_finite.Gen.facts) := fun m g _ =>
  (θ_run _ _ _).mono (fun r h => ⟨fun c => (h c).2, sem_eq_zero_of_no_sems rfl r.2⟩) (Cert.ReferenceIdeal.Value.run m g)

/-- At equal real arguments the reference's formula and the block's are one array. -/
theorem same_array (x0 x1 : FVec Ideal Cert.ReferenceIdeal.S4x384x64x64 .f32) (x2 : FVec Ideal Cert.ReferenceIdeal.S512x384 .f32) (x3 : FVec Ideal Cert.ReferenceIdeal.S1024x384 .f32)
    (x4 : FVec Ideal Cert.ReferenceIdeal.S384x512 .f32) (x5 x6 x7 x8 x9 x10 : FVec Ideal Cert.ReferenceIdeal.S1x384x1x1 .f32) (x11 : FVec Ideal Cert.ReferenceIdeal.S1 .f32)
    {j : Cert.Pre_all_finite.S_.Idx} (h : Cert.Pre_all_finite.fn (F := Ideal) x0 x1 x2 x3 x4 x5 x6 x7 x8 x9 x10 x11 j = 1#1)
    {y0 y1 : FVec Ideal Cert.ReferenceIdeal.S4x384x64x64 .f32} {y2 : FVec Ideal Cert.ReferenceIdeal.S512x384 .f32} {y3 : FVec Ideal Cert.ReferenceIdeal.S1024x384 .f32}
    {y4 : FVec Ideal Cert.ReferenceIdeal.S384x512 .f32} {y5 y6 y7 y8 y9 y10 : FVec Ideal Cert.ReferenceIdeal.S1x384x1x1 .f32} {y11 : FVec Ideal Cert.ReferenceIdeal.S1 .f32}
    (e : y0 = x0 ∧ y1 = x1 ∧ y2 = x2 ∧ y3 = x3 ∧ y4 = x4 ∧ y5 = x5 ∧ y6 = x6 ∧ y7 = x7 ∧ y8 = x8 ∧ y9 = x9 ∧ y10 = x10 ∧ y11 = x11)
    (y : FVec Ideal Cert.ReferenceIdeal.S4x384x64x64 .f32) (hy : ∀ b o i j, y (ix4 b o i j) = Kernel.whole x0 x1 x2 x3 x4 x5 x6 x7 x8 x9 x10 x11 b o i j) :
    Cert.ReferenceIdeal.Read.val_main_v116 (F := Ideal) y0 y1 y2 y3 y4 y5 y6 y7 y8 y9 y10 y11 = y := by
  obtain ⟨rfl, rfl, rfl, rfl, rfl, rfl, rfl, rfl, rfl, rfl, rfl, rfl⟩ := e
  obtain ⟨h0, h1, h2, h3, h4, h5, h6, h7, h8, h9, h10, h11⟩ := Finite.args_real h
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  exact (Ref.result_at _ _ _ _ _ _ _ _ _ _ _ _ h0 h1 h2 h3 h5 h6 h7 h8 h4 h9 h10 h11 _ _ _ _).trans (hy _ _ _ _).symm

/-- From equal real arguments the two programs leave equal results. -/
theorem kernel_eq_reference : Cert.algebraic_KernelIdeal_ReferenceIdeal_pre_all_finite (hKernelIdeal := Cert.KernelIdeal.Gen.facts) (hReferenceIdeal := Cert.ReferenceIdeal.Gen.facts)
    (hPre_all_finite := Cert.Pre_all_finite.Gen.facts) := fun m g m' g' hpre hargs => by
  refine ⟨fun c => Whole.result m c, (θ_run _ _ _).mono (fun _ h c => h.1 c) (Whole.run m g),
    (θ_run _ _ _).mono (fun r h c => ⟨(h c).1.trans ((Cert.ReferenceIdeal.Read.val_main_v116_eq (F := Ideal) _).trans ?_), (h c).2⟩) (Cert.ReferenceIdeal.Value.run m' g')⟩
  exact same_array _ _ _ _ _ _ _ _ _ _ _ _ (congrFun (hpre c) ix0) (hargs c) _ (Kernel.result_at m c)

/-- The certificate. -/
theorem claim : Cert.Claim :=
  ⟨Cert.KernelIdeal.Gen.facts, Cert.ReferenceIdeal.Gen.facts, Cert.Pre_all_finite.Gen.facts, kernel_frame, kernel_frame_finite, reference_frame, reference_frame_finite, kernel_eq_reference⟩

end Cert.Proof

end
